-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v78) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v62_3)) (v1 : (c : Dev Cert.Kernel5Ideal.nD) → Buf (Elt Ideal) ((c.tc : Thread Cert.Kernel5Ideal.nD Cert.Kernel5Ideal.τ).loc Cert.Kernel5Ideal.main_v62_2)) (v2 : (c : Dev Cert.Kernel5Ideal.nD) → Buf (Elt Ideal) ((c.tc : Thread Cert.Kernel5Ideal.nD Cert.Kernel5Ideal.τ).loc Cert.Kernel5Ideal.main_v62_0)) (v3 : (c : Dev Cert.Kernel5Ideal.nD) → Buf (Elt Ideal) ((c.tc : Thread Cert.Kernel5Ideal.nD Cert.Kernel5Ideal.τ).loc Cert.Kernel5Ideal.main_v62_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v62_3) = v0 c
          ∧ r.2.mem ((c.tc : Thread Cert.Kernel5Ideal.nD Cert.Kernel5Ideal.τ).loc Cert.Kernel5Ideal.main_v62_2) = v1 c
          ∧ r.2.mem ((c.tc : Thread Cert.Kernel5Ideal.nD Cert.Kernel5Ideal.τ).loc Cert.Kernel5Ideal.main_v62_0) = v2 c
          ∧ r.2.mem ((c.tc : Thread Cert.Kernel5Ideal.nD Cert.Kernel5Ideal.τ).loc Cert.Kernel5Ideal.main_v62_1) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_v46) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S512 : Shape := ⟨1, ![512]⟩
abbrev S_ : Shape := ⟨0, ![]⟩
abbrev S4x4096x8x128 : Shape := ⟨4, ![4, 4096, 8, 128]⟩
abbrev S4x8x128x4096 : Shape := ⟨4, ![4, 8, 128, 4096]⟩
abbrev S4x1024x4096 : Shape := ⟨3, ![4, 1024, 4096]⟩
abbrev S4x4096x1x32 : Shape := ⟨4, ![4, 4096, 1, 32]⟩
abbrev S4x4096x1024 : Shape := ⟨3, ![4, 4096, 1024]⟩
abbrev S4x4096x8x1 : Shape := ⟨4, ![4, 4096, 8, 1]⟩
abbrev S4x4096x8x15 : Shape := ⟨4, ![4, 4096, 8, 15]⟩
abbrev S4x4096x8x80 : Shape := ⟨4, ![4, 4096, 8, 80]⟩
abbrev S4x8x80x4096 : Shape := ⟨4, ![4, 8, 80, 4096]⟩
abbrev S4x640x4096 : Shape := ⟨3, ![4, 640, 4096]⟩
abbrev S1x512 : Shape := ⟨2, ![1, 512]⟩
abbrev S4x4096x512 : Shape := ⟨3, ![4, 4096, 512]⟩
abbrev S1x256x256 : Shape := ⟨3, ![1, 256, 256]⟩
abbrev S1x4096x256 : Shape := ⟨3, ![1, 4096, 256]⟩
abbrev S1x160x4096 : Shape := ⟨3, ![1, 160, 4096]⟩
abbrev S1x128 : Shape := ⟨2, ![1, 128]⟩
abbrev S1x256x128 : Shape := ⟨3, ![1, 256, 128]⟩
abbrev S2x4096x256 : Shape := ⟨3, ![2, 4096, 256]⟩
abbrev S2x8x256 : Shape := ⟨3, ![2, 8, 256]⟩
abbrev S1x8x256 : Shape := ⟨3, ![1, 8, 256]⟩
abbrev S8x256 : Shape := ⟨2, ![8, 256]⟩
abbrev S1x256 : Shape := ⟨2, ![1, 256]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S256 : Shape := ⟨1, ![256]⟩
abbrev S1x80x256 : Shape := ⟨3, ![1, 80, 256]⟩
abbrev S80x256 : Shape := ⟨2, ![80, 256]⟩
abbrev S64x256 : Shape := ⟨2, ![64, 256]⟩

abbrev nBuf : Space → Nat
  | .hbm => 29
  | .vmem => 14
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x32, .f32⟩
  | .hbm, ⟨2, _⟩ => ⟨S4x4096x8x64, .f32⟩
  | .hbm, ⟨3, _⟩ => ⟨S4x4096x32, .f32⟩
  | .hbm, ⟨4, _⟩ => ⟨S4x4096x8x64, .f32⟩
  | .hbm, ⟨5, _⟩ => ⟨S512, .f32⟩
  | .hbm, ⟨6, _⟩ => ⟨S_, .f32⟩
  | .hbm, ⟨7, _⟩ => ⟨S4x4096x8x32, .f32⟩
  | .hbm, ⟨8, _⟩ => ⟨S4x4096x8x128, .f32⟩
  | .hbm, ⟨9, _⟩ => ⟨S4x8x128x4096, .f32⟩
  | .hbm, ⟨10, _⟩ => ⟨S4x1024x4096, .f32⟩
  | .hbm, ⟨11, _⟩ => ⟨S4x1024x4096, .bf16⟩
  | .hbm, ⟨12, _⟩ => ⟨S4x4096x1x32, .f32⟩
  | .hbm, ⟨13, _⟩ => ⟨S4x4096x8x32, .f32⟩
  | .hbm, ⟨14, _⟩ => ⟨S_, .f32⟩
  | .hbm, ⟨15, _⟩ => ⟨S4x4096x8x32, .f32⟩
  | .hbm, ⟨16, _⟩ => ⟨S4x4096x8x128, .f32⟩
  | .hbm, ⟨17, _⟩ => ⟨S4x4096x1024, .f32⟩
  | .hbm, ⟨18, _⟩ => ⟨S4x4096x1024, .bf16⟩
  | .hbm, ⟨19, _⟩ => ⟨S_, .f32⟩
  | .hbm, ⟨20, _⟩ => ⟨S4x4096x8x1, .f32⟩
  | .hbm, ⟨21, _⟩ => ⟨S_, .f32⟩
  | .hbm, ⟨22, _⟩ => ⟨S4x4096x8x15, .f32⟩
  | .hbm, ⟨23, _⟩ => ⟨S4x4096x8x80, .f32⟩
  | .hbm, ⟨24, _⟩ => ⟨S4x8x80x4096, .f32⟩
  | .hbm, ⟨25, _⟩ => ⟨S4x640x4096, .f32⟩
  | .hbm, ⟨26, _⟩ => ⟨S4x640x4096, .bf16⟩
  | .hbm, ⟨27, _⟩ => ⟨S1x512, .f32⟩
  | .hbm, ⟨28, _⟩ => ⟨S4x4096x512, .f32⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x160x4096, .bf16⟩
  | .local _ .vmem, ⟨5, _⟩ => ⟨S1x160x4096, .bf16⟩
  | .local _ .vmem, ⟨6, _⟩ => ⟨S1x128, .f32⟩
  | .local _ .vmem, ⟨7, _⟩ => ⟨S1x128, .f32⟩
  | .local _ .vmem, ⟨8, _⟩ => ⟨S1x256x128, .f32⟩
  | .local _ .vmem, ⟨9, _⟩ => ⟨S1x256x128, .f32⟩
  | .local _ .vmem, ⟨10, _⟩ => ⟨S2x4096x256, .f32⟩
  | .local _ .vmem, ⟨11, _⟩ => ⟨S2x4096x256, .f32⟩
  | .local _ .vmem, ⟨12, _⟩ => ⟨S2x8x256, .f32⟩
  | .local _ .vmem, ⟨13, _⟩ => ⟨S2x8x256, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c255_i32 : BitVec 32 := 255#32
  let v0 : BitVec 32 := Scalar.minsi arg0 c255_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  ![v17.toNat, v44.toNat, v54.toNat]

def cc0_transform_1 (i : grid0.Coords) : Fin 3 → Nat :=
  let arg0 : BitVec 32 := BitVec.ofNat 32 (i 0).val
  let c255_i32 : BitVec 32 := 255#32
  let v0 : BitVec 32 := Scalar.minsi arg0 c255_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v17.toNat, c0_i32_21.toNat, v44.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v18.toNat, v45.toNat, c0_i32_23.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![c0_i32_23.toNat, v45.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v55.toNat, v45.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "scale_log2e" => some (((3424635 / 33554432) * (Real.log 2)⁻¹ : ℝ) : EReal)
  | _ => none
-- ==== ReferenceIdeal.lean ====
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S512 : Shape := ⟨1, ![512]⟩
abbrev S4x8x4096x4096 : Shape := ⟨4, ![4, 8, 4096, 4096]⟩
abbrev S4x4096x4096x8 : Shape := ⟨4, ![4, 4096, 4096, 8]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x8 : Shape := ⟨3, ![4, 4096, 8]⟩
abbrev S4x4096x8x1 : Shape := ⟨4, ![4, 4096, 8, 1]⟩
abbrev S4x4096x512 : Shape := ⟨3, ![4, 4096, 512]⟩
abbrev S1x1x512 : Shape := ⟨3, ![1, 1, 512]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x32, .f32⟩
  | .hbm, ⟨2, _⟩ => ⟨S4x4096x8x64, .f32⟩
  | .hbm, ⟨3, _⟩ => ⟨S4x4096x32, .f32⟩
  | .hbm, ⟨4, _⟩ => ⟨S4x4096x8x64, .f32⟩
  | .hbm, ⟨5, _⟩ => ⟨S512, .f32⟩
  | .hbm, ⟨6, _⟩ => ⟨S4x8x4096x4096, .f32⟩
  | .hbm, ⟨7, _⟩ => ⟨S4x4096x4096x8, .f32⟩
  | .hbm, ⟨8, _⟩ => ⟨S4x8x4096x4096, .f32⟩
  | .hbm, ⟨9, _⟩ => ⟨S4x8x4096x4096, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S_, .f32⟩
  | .hbm, ⟨14, _⟩ => ⟨S4x8x4096, .f32⟩
  | .hbm, ⟨15, _⟩ => ⟨S_, .f32⟩
  | .hbm, ⟨16, _⟩ => ⟨S4x8x4096, .f32⟩
  | .hbm, ⟨17, _⟩ => ⟨S4x8x4096, .f32⟩
  | .hbm, ⟨18, _⟩ => ⟨S4x8x4096x1, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S4x8x4096, .f32⟩
  | .hbm, ⟨24, _⟩ => ⟨S4x8x4096x1, .f32⟩
  | .hbm, ⟨25, _⟩ => ⟨S4x8x4096x4096, .f32⟩
  | .hbm, ⟨26, _⟩ => ⟨S4x8x4096x4096, .f32⟩
  | .hbm, ⟨27, _⟩ => ⟨S4x8x64x4096, .f32⟩
  | .hbm, ⟨28, _⟩ => ⟨S4x4096x8x64, .f32⟩
  | .hbm, ⟨29, _⟩ => ⟨S4x4096x8x64, .f32⟩
  | .hbm, ⟨30, _⟩ => ⟨S_, .f32⟩
  | .hbm, ⟨31, _⟩ => ⟨S4x4096x8, .f32⟩
  | .hbm, ⟨32, _⟩ => ⟨S4x4096x8x1, .f32⟩
  | .hbm, ⟨33, _⟩ => ⟨S_, .f32⟩
  | .hbm, ⟨34, _⟩ => ⟨S4x4096x8x1, .f32⟩
  | .hbm, ⟨35, _⟩ => ⟨S4x4096x8x1, .f32⟩
  | .hbm, ⟨36, _⟩ => ⟨S_, .f32⟩
  | .hbm, ⟨37, _⟩ => ⟨S4x4096x8x1, .f32⟩
  | .hbm, ⟨38, _⟩ => ⟨S4x4096x8x1, .f32⟩
  | .hbm, ⟨39, _⟩ => ⟨S4x4096x8x1, .f32⟩
  | .hbm, ⟨40, _⟩ => ⟨S4x4096x8x64, .f32⟩
  | .hbm, ⟨41, _⟩ => ⟨S4x4096x8x64, .f32⟩
  | .hbm, ⟨42, _⟩ => ⟨S4x4096x512, .f32⟩
  | .hbm, ⟨43, _⟩ => ⟨S1x1x512, .f32⟩
  | .hbm, ⟨44, _⟩ => ⟨S4x4096x512, .f32⟩
  | .hbm, ⟨45, _⟩ => ⟨S4x4096x512, .f32⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel2.lean ====
abbrev S4x16x512x1024 : Shape := ⟨4, ![4, 16, 512, 1024]⟩
abbrev S16x1024x2048 : Shape := ⟨3, ![16, 1024, 2048]⟩
abbrev S16x2048x1024 : Shape := ⟨3, ![16, 2048, 1024]⟩
abbrev S4x1x512x1024 : Shape := ⟨4, ![4, 1, 512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S1x1x512x1024 : Shape := ⟨4, ![1, 1, 512, 1024]⟩
abbrev S512x512 : Shape := ⟨2, ![512, 512]⟩

abbrev nBuf : Space → Nat
  | .hbm => 5
  | .vmem => 13
  | .smem => 0
  | _ => 0

abbrev bufTy : (tb : Table) → Fin (tcTables nBuf tb) → BufTy
  | .hbm, ⟨0, _⟩ => ⟨S4x16x512x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S4x16x512x1024, .f32⟩
  | .local _ .vmem, ⟨0, _⟩ => ⟨S4x1x512x1024, .bf16⟩
  | .local _ .vmem, ⟨1, _⟩ => ⟨S4x1x512x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S4x1x512x1024, .f32⟩
  | .local _ .vmem, ⟨9, _⟩ => ⟨S4x1x512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | _, _ => ⟨S4x16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4x16x512x1024 : Shape := ⟨4, ![4, 16, 512, 1024]⟩
abbrev S16x1024x2048 : Shape := ⟨3, ![16, 1024, 2048]⟩
abbrev S16x2048x1024 : Shape := ⟨3, ![16, 2048, 1024]⟩
abbrev S16x2048x4x512 : Shape := ⟨4, ![16, 2048, 4, 512]⟩
abbrev S4x16x512x2048 : Shape := ⟨4, ![4, 16, 512, 2048]⟩
abbrev S_ : Shape := ⟨0, ![]⟩
abbrev S16x1024x4x512 : Shape := ⟨4, ![16, 1024, 4, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x16x512x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S4x16x512x1024, .f32⟩
  | .hbm, ⟨5, _⟩ => ⟨S16x2048x4x512, .f32⟩
  | .hbm, ⟨6, _⟩ => ⟨S4x16x512x2048, .f32⟩
  | .hbm, ⟨7, _⟩ => ⟨S4x16x512x2048, .f32⟩
  | .hbm, ⟨8, _⟩ => ⟨S4x16x512x2048, .f32⟩
  | .hbm, ⟨9, _⟩ => ⟨S_, .f32⟩
  | .hbm, ⟨10, _⟩ => ⟨S4x16x512x2048, .f32⟩
  | .hbm, ⟨11, _⟩ => ⟨S4x16x512x2048, .f32⟩
  | .hbm, ⟨12, _⟩ => ⟨S_, .f32⟩
  | .hbm, ⟨13, _⟩ => ⟨S4x16x512x2048, .f32⟩
  | .hbm, ⟨14, _⟩ => ⟨S4x16x512x2048, .f32⟩
  | .hbm, ⟨15, _⟩ => ⟨S4x16x512x2048, .f32⟩
  | .hbm, ⟨16, _⟩ => ⟨S16x2048x4x512, .f32⟩
  | .hbm, ⟨17, _⟩ => ⟨S4x16x512x2048, .f32⟩
  | .hbm, ⟨18, _⟩ => ⟨S4x16x512x2048, .f32⟩
  | .hbm, ⟨19, _⟩ => ⟨S16x1024x4x512, .f32⟩
  | .hbm, ⟨20, _⟩ => ⟨S4x16x512x1024, .f32⟩
  | _, _ => ⟨S4x16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S4x256x1024, .bf16⟩
  | .hbm, ⟨8, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x1024, .bf16⟩
  | .hbm, ⟨22, _⟩ => ⟨S4x256x1024, .f32⟩
  | .hbm, ⟨23, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x512x4096 : Shape := ⟨3, ![4, 512, 4096]⟩
abbrev S4x4096x512 : Shape := ⟨3, ![4, 4096, 512]⟩
abbrev S4x256x1024 : Shape := ⟨3, ![4, 256, 1024]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S1024x128 : Shape := ⟨2, ![1024, 128]⟩
abbrev S1 : Shape := ⟨1, ![1]⟩
abbrev S1x512 : Shape := ⟨2, ![1, 512]⟩
abbrev S1x1024 : Shape := ⟨2, ![1, 1024]⟩
abbrev S4x4096x8x128 : Shape := ⟨4, ![4, 4096, 8, 128]⟩
abbrev S4x4096x128 : Shape := ⟨3, ![4, 4096, 128]⟩
abbrev S4x16x4096 : Shape := ⟨3, ![4, 16, 4096]⟩
abbrev S1x512x1024 : Shape := ⟨3, ![1, 512, 1024]⟩
abbrev S1x512x512 : Shape := ⟨3, ![1, 512, 512]⟩
abbrev S1x256x1024 : Shape := ⟨3, ![1, 256, 1024]⟩
abbrev S1x512x8x128 : Shape := ⟨4, ![1, 512, 8, 128]⟩
abbrev S1x512x128 : Shape := ⟨3, ![1, 512, 128]⟩
abbrev S1x16x512 : Shape := ⟨3, ![1, 16, 512]⟩
abbrev S1x512x256 : Shape := ⟨3, ![1, 512, 256]⟩
abbrev S512x256 : Shape := ⟨2, ![512, 256]⟩
abbrev S256x512 : Shape := ⟨2, ![256, 512]⟩
abbrev S1x256x512 : Shape := ⟨3, ![1, 256, 512]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S256x8x128 : Shape := ⟨3, ![256, 8, 128]⟩
abbrev S1x256x8x128 : Shape := ⟨4, ![1, 256, 8, 128]⟩
abbrev S1x256x128 : Shape := ⟨3, ![1, 256, 128]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 33
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x512x4096, .f32⟩
  | .hbm, ⟨2, _⟩ => ⟨S4x512x4096, .f32⟩
  | .hbm, ⟨3, _⟩ => ⟨S4x4096x512, .f32⟩
  | .hbm, ⟨4, _⟩ => ⟨S4x4096x512, .f32⟩
  | .hbm, ⟨5, _⟩ => ⟨S4x256x1024, .bf16⟩
  | .hbm, ⟨6, _⟩ => ⟨S4x256x1024, .bf16⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x16, .f32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1x512, .f32⟩
  | .hbm, ⟨24, _⟩ => ⟨S1024x1024, .bf16⟩
  | .hbm, ⟨25, _⟩ => ⟨S1x1024, .f32⟩
  | .hbm, ⟨26, _⟩ => ⟨S1024x1024, .bf16⟩
  | .hbm, ⟨27, _⟩ => ⟨S1024x1024, .bf16⟩
  | .hbm, ⟨28, _⟩ => ⟨S1x1024, .f32⟩
  | .hbm, ⟨29, _⟩ => ⟨S4x4096x1024, .f32⟩
  | .hbm, ⟨30, _⟩ => ⟨S4x4096x8x128, .f32⟩
  | .hbm, ⟨31, _⟩ => ⟨S4x4096x128, .f32⟩
  | .hbm, ⟨32, _⟩ => ⟨S4x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x128, .bf16⟩
  | .local _ .vmem, ⟨21, _⟩ => ⟨S1024x128, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x8x128, .f32⟩
  | .local _ .vmem, ⟨25, _⟩ => ⟨S1x512x8x128, .f32⟩
  | .local _ .vmem, ⟨26, _⟩ => ⟨S1x512x128, .f32⟩
  | .local _ .vmem, ⟨27, _⟩ => ⟨S1x512x128, .f32⟩
  | .local _ .vmem, ⟨28, _⟩ => ⟨S1x16x512, .f32⟩
  | .local _ .vmem, ⟨29, _⟩ => ⟨S1x16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference4Ideal.lean ====
abbrev S4x4096x1024 : Shape := ⟨3, ![4, 4096, 1024]⟩
abbrev S4x512x4096 : Shape := ⟨3, ![4, 512, 4096]⟩
abbrev S4x4096x512 : Shape := ⟨3, ![4, 4096, 512]⟩
abbrev S4x256x1024 : Shape := ⟨3, ![4, 256, 1024]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S4x4x128x4096 : Shape := ⟨4, ![4, 4, 128, 4096]⟩
abbrev S4x4096x4x128 : Shape := ⟨4, ![4, 4096, 4, 128]⟩
abbrev S_ : Shape := ⟨0, ![]⟩
abbrev S4x4096x4 : Shape := ⟨3, ![4, 4096, 4]⟩
abbrev S4x4096x4x1 : Shape := ⟨4, ![4, 4096, 4, 1]⟩
abbrev S1x1x512 : Shape := ⟨3, ![1, 1, 512]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S4x4096x8x128 : Shape := ⟨4, ![4, 4096, 8, 128]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x512x4096, .f32⟩
  | .hbm, ⟨2, _⟩ => ⟨S4x512x4096, .f32⟩
  | .hbm, ⟨3, _⟩ => ⟨S4x4096x512, .f32⟩
  | .hbm, ⟨4, _⟩ => ⟨S4x4096x512, .f32⟩
  | .hbm, ⟨5, _⟩ => ⟨S4x256x1024, .bf16⟩
  | .hbm, ⟨6, _⟩ => ⟨S4x256x1024, .bf16⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x16, .f32⟩
  | .hbm, ⟨14, _⟩ => ⟨S4x512x4096, .f32⟩
  | .hbm, ⟨15, _⟩ => ⟨S4x4x128x4096, .f32⟩
  | .hbm, ⟨16, _⟩ => ⟨S4x4096x4x128, .f32⟩
  | .hbm, ⟨17, _⟩ => ⟨S4x4096x4x128, .f32⟩
  | .hbm, ⟨18, _⟩ => ⟨S_, .f32⟩
  | .hbm, ⟨19, _⟩ => ⟨S4x4096x4, .f32⟩
  | .hbm, ⟨20, _⟩ => ⟨S4x4096x4x1, .f32⟩
  | .hbm, ⟨21, _⟩ => ⟨S_, .f32⟩
  | .hbm, ⟨22, _⟩ => ⟨S4x4096x4x1, .f32⟩
  | .hbm, ⟨23, _⟩ => ⟨S4x4096x4x1, .f32⟩
  | .hbm, ⟨24, _⟩ => ⟨S_, .f32⟩
  | .hbm, ⟨25, _⟩ => ⟨S4x4096x4x1, .f32⟩
  | .hbm, ⟨26, _⟩ => ⟨S4x4096x4x1, .f32⟩
  | .hbm, ⟨27, _⟩ => ⟨S4x4096x4x1, .f32⟩
  | .hbm, ⟨28, _⟩ => ⟨S4x4096x4x128, .f32⟩
  | .hbm, ⟨29, _⟩ => ⟨S4x4096x4x128, .f32⟩
  | .hbm, ⟨30, _⟩ => ⟨S4x4096x512, .f32⟩
  | .hbm, ⟨31, _⟩ => ⟨S4x4096x512, .f32⟩
  | .hbm, ⟨32, _⟩ => ⟨S_, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S1x1x512, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x4x256, .f32⟩
  | .hbm, ⟨64, _⟩ => ⟨S4x256x1024, .f32⟩
  | .hbm, ⟨65, _⟩ => ⟨S4x256x4x256, .f32⟩
  | .hbm, ⟨66, _⟩ => ⟨S4x256x1024, .f32⟩
  | .hbm, ⟨67, _⟩ => ⟨S4x256x4x256, .f32⟩
  | .hbm, ⟨68, _⟩ => ⟨S4x4x4096x256, .f32⟩
  | .hbm, ⟨69, _⟩ => ⟨S_, .f32⟩
  | .hbm, ⟨70, _⟩ => ⟨S4x4x4096x256, .f32⟩
  | .hbm, ⟨71, _⟩ => ⟨S4x4x4096x256, .f32⟩
  | .hbm, ⟨72, _⟩ => ⟨S_, .f32⟩
  | .hbm, ⟨73, _⟩ => ⟨S4x4x4096, .f32⟩
  | .hbm, ⟨74, _⟩ => ⟨S_, .f32⟩
  | .hbm, ⟨75, _⟩ => ⟨S4x4x4096, .f32⟩
  | .hbm, ⟨76, _⟩ => ⟨S4x4x4096, .f32⟩
  | .hbm, ⟨77, _⟩ => ⟨S4x4x4096x1, .f32⟩
  | .hbm, ⟨78, _⟩ => ⟨S4x4x4096x256, .f32⟩
  | .hbm, ⟨79, _⟩ => ⟨S4x4x4096x256, .f32⟩
  | .hbm, ⟨80, _⟩ => ⟨S4x4x4096x256, .f32⟩
  | .hbm, ⟨81, _⟩ => ⟨S_, .f32⟩
  | .hbm, ⟨82, _⟩ => ⟨S4x4x4096, .f32⟩
  | .hbm, ⟨83, _⟩ => ⟨S4x4x4096x1, .f32⟩
  | .hbm, ⟨84, _⟩ => ⟨S4x4x4096x256, .f32⟩
  | .hbm, ⟨85, _⟩ => ⟨S4x4x4096x256, .f32⟩
  | .hbm, ⟨86, _⟩ => ⟨S4x4x256x4096, .f32⟩
  | .hbm, ⟨87, _⟩ => ⟨S4x4096x4x256, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S_, .f32⟩
  | .hbm, ⟨93, _⟩ => ⟨S4x4096, .f32⟩
  | .hbm, ⟨94, _⟩ => ⟨S4x4096x1, .f32⟩
  | .hbm, ⟨95, _⟩ => ⟨S_, .f32⟩
  | .hbm, ⟨96, _⟩ => ⟨S4x4096x1, .f32⟩
  | .hbm, ⟨97, _⟩ => ⟨S4x4096x1, .f32⟩
  | .hbm, ⟨98, _⟩ => ⟨S_, .f32⟩
  | .hbm, ⟨99, _⟩ => ⟨S4x4096x1, .f32⟩
  | .hbm, ⟨100, _⟩ => ⟨S4x4096x1, .f32⟩
  | .hbm, ⟨101, _⟩ => ⟨S4x4096x1, .f32⟩
  | .hbm, ⟨102, _⟩ => ⟨S4x4096x1024, .f32⟩
  | .hbm, ⟨103, _⟩ => ⟨S4x4096x1024, .f32⟩
  | .hbm, ⟨104, _⟩ => ⟨S1x1x1024, .f32⟩
  | .hbm, ⟨105, _⟩ => ⟨S4x4096x1024, .f32⟩
  | .hbm, ⟨106, _⟩ => ⟨S4x4096x1024, .f32⟩
  | .hbm, ⟨107, _⟩ => ⟨S4x4096x8x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096 : Shape := ⟨2, ![4, 4096]⟩
abbrev S1024 : Shape := ⟨1, ![1024]⟩
abbrev S1024x2480 : Shape := ⟨2, ![1024, 2480]⟩
abbrev S16 : Shape := ⟨1, ![16]⟩
abbrev S3x1024 : Shape := ⟨2, ![3, 1024]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S4x1x4096 : Shape := ⟨3, ![4, 1, 4096]⟩
abbrev S1024x1024 : Shape := ⟨2, ![1024, 1024]⟩
abbrev S1024x512 : Shape := ⟨2, ![1024, 512]⟩
abbrev S512x1024 : Shape := ⟨2, ![512, 1024]⟩
abbrev S1024x16 : Shape := ⟨2, ![1024, 16]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S32x1024 : Shape := ⟨2, ![32, 1024]⟩
abbrev S1 : Shape := ⟨1, ![1]⟩
abbrev S1x128 : Shape := ⟨2, ![1, 128]⟩
abbrev S2 : Shape := ⟨1, ![2]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x8x80 : Shape := ⟨3, ![128, 8, 80]⟩
abbrev S128x640 : Shape := ⟨2, ![128, 640]⟩
abbrev S640x128 : Shape := ⟨2, ![640, 128]⟩
abbrev S8x80x256 : Shape := ⟨3, ![8, 80, 256]⟩
abbrev S8x256 : Shape := ⟨2, ![8, 256]⟩
abbrev S640x256 : Shape := ⟨2, ![640, 256]⟩
abbrev S16x1 : Shape := ⟨2, ![16, 1]⟩
abbrev S1x1024 : Shape := ⟨2, ![1, 1024]⟩
abbrev S1x256 : Shape := ⟨2, ![1, 256]⟩
abbrev S4x512x4096 : Shape := ⟨3, ![4, 512, 4096]⟩
abbrev S4x4096x512 : Shape := ⟨3, ![4, 4096, 512]⟩
abbrev S4x4096x128 : Shape := ⟨3, ![4, 4096, 128]⟩
abbrev S4x32x4096 : Shape := ⟨3, ![4, 32, 4096]⟩
abbrev S4x1024x4096 : Shape := ⟨3, ![4, 1024, 4096]⟩
abbrev S4x640x4096 : Shape := ⟨3, ![4, 640, 4096]⟩
abbrev S1x512x1024 : Shape := ⟨3, ![1, 512, 1024]⟩
abbrev S1x8x1024 : Shape := ⟨3, ![1, 8, 1024]⟩
abbrev S1x1x512 : Shape := ⟨3, ![1, 1, 512]⟩
abbrev S1x512x512 : Shape := ⟨3, ![1, 512, 512]⟩
abbrev S1x512x128 : Shape := ⟨3, ![1, 512, 128]⟩
abbrev S1x32x512 : Shape := ⟨3, ![1, 32, 512]⟩
abbrev S1x1024x512 : Shape := ⟨3, ![1, 1024, 512]⟩
abbrev S1x640x512 : Shape := ⟨3, ![1, 640, 512]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S256x128 : Shape := ⟨2, ![256, 128]⟩
abbrev S272x1024 : Shape := ⟨2, ![272, 1024]⟩
abbrev S256x512 : Shape := ⟨2, ![256, 512]⟩
abbrev S512x256 : Shape := ⟨2, ![512, 256]⟩
abbrev S1x256x512 : Shape := ⟨3, ![1, 256, 512]⟩
abbrev S128x256 : Shape := ⟨2, ![128, 256]⟩
abbrev S256x1 : Shape := ⟨2, ![256, 1]⟩
abbrev S256x256 : Shape := ⟨2, ![256, 256]⟩
abbrev S1x512x256 : Shape := ⟨3, ![1, 512, 256]⟩
abbrev S8x128 : Shape := ⟨2, ![8, 128]⟩
abbrev S248x128 : Shape := ⟨2, ![248, 128]⟩
abbrev S16x128 : Shape := ⟨2, ![16, 128]⟩
abbrev S240x128 : Shape := ⟨2, ![240, 128]⟩
abbrev S32x128 : Shape := ⟨2, ![32, 128]⟩
abbrev S224x128 : Shape := ⟨2, ![224, 128]⟩
abbrev S64x128 : Shape := ⟨2, ![64, 128]⟩
abbrev S192x128 : Shape := ⟨2, ![192, 128]⟩
abbrev S128x128 : Shape := ⟨2, ![128, 128]⟩
abbrev S1x256x128 : Shape := ⟨3, ![1, 256, 128]⟩
abbrev S32x256 : Shape := ⟨2, ![32, 256]⟩
abbrev S1x32x256 : Shape := ⟨3, ![1, 32, 256]⟩
abbrev S1x1x256 : Shape := ⟨3, ![1, 1, 256]⟩
abbrev S16x256 : Shape := ⟨2, ![16, 256]⟩
abbrev S64x256 : Shape := ⟨2, ![64, 256]⟩
abbrev S1x128x256 : Shape := ⟨3, ![1, 128, 256]⟩
abbrev S1x640x256 : Shape := ⟨3, ![1, 640, 256]⟩

abbrev nBuf : Space → Nat
  | .hbm => 101
  | .vmem => 41
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024, .f32⟩
  | .hbm, ⟨3, _⟩ => ⟨S1024x2480, .f32⟩
  | .hbm, ⟨4, _⟩ => ⟨S16, .f32⟩
  | .hbm, ⟨5, _⟩ => ⟨S3x1024, .f32⟩
  | .hbm, ⟨6, _⟩ => ⟨S256, .f32⟩
  | .hbm, ⟨7, _⟩ => ⟨S256x768, .f32⟩
  | .hbm, ⟨8, _⟩ => ⟨S128, .f32⟩
  | .hbm, ⟨9, _⟩ => ⟨S128x1024, .f32⟩
  | .hbm, ⟨10, _⟩ => ⟨S4x4096, .f32⟩
  | .hbm, ⟨11, _⟩ => ⟨S4x1x4096, .f32⟩
  | .hbm, ⟨12, _⟩ => ⟨S1024x1024, .f32⟩
  | .hbm, ⟨13, _⟩ => ⟨S1024x1024, .bf16⟩
  | .hbm, ⟨14, _⟩ => ⟨S1024x512, .f32⟩
  | .hbm, ⟨15, _⟩ => ⟨S512x1024, .f32⟩
  | .hbm, ⟨16, _⟩ => ⟨S512x1024, .bf16⟩
  | .hbm, ⟨17, _⟩ => ⟨S1024x512, .f32⟩
  | .hbm, ⟨18, _⟩ => ⟨S1024x512, .bf16⟩
  | .hbm, ⟨19, _⟩ => ⟨S1024x16, .f32⟩
  | .hbm, ⟨20, _⟩ => ⟨S1024x256, .f32⟩
  | .hbm, ⟨21, _⟩ => ⟨S1024x128, .f32⟩
  | .hbm, ⟨22, _⟩ => ⟨S1024x32, .f32⟩
  | .hbm, ⟨23, _⟩ => ⟨S_, .f32⟩
  | .hbm, ⟨24, _⟩ => ⟨S128x1024, .f32⟩
  | .hbm, ⟨25, _⟩ => ⟨S32x1024, .f32⟩
  | .hbm, ⟨26, _⟩ => ⟨S_, .i32⟩
  | .hbm, ⟨27, _⟩ => ⟨S1, .i32⟩
  | .hbm, ⟨28, _⟩ => ⟨S128x1024, .f32⟩
  | .hbm, ⟨29, _⟩ => ⟨S128x1024, .bf16⟩
  | .hbm, ⟨30, _⟩ => ⟨S_, .f32⟩
  | .hbm, ⟨31, _⟩ => ⟨S1024x128, .f32⟩
  | .hbm, ⟨32, _⟩ => ⟨S_, .i32⟩
  | .hbm, ⟨33, _⟩ => ⟨S1, .i32⟩
  | .hbm, ⟨34, _⟩ => ⟨S1024x128, .f32⟩
  | .hbm, ⟨35, _⟩ => ⟨S1024x512, .f32⟩
  | .hbm, ⟨36, _⟩ => ⟨S1024x512, .bf16⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S256x8x96, .f32⟩
  | .hbm, ⟨46, _⟩ => ⟨S_, .i32⟩
  | .hbm, ⟨47, _⟩ => ⟨S_, .f32⟩
  | .hbm, ⟨48, _⟩ => ⟨S256x8x128, .f32⟩
  | .hbm, ⟨49, _⟩ => ⟨S256x1024, .f32⟩
  | .hbm, ⟨50, _⟩ => ⟨S1024x256, .f32⟩
  | .hbm, ⟨51, _⟩ => ⟨S1024x256, .bf16⟩
  | .hbm, ⟨52, _⟩ => ⟨S128x8x128, .f32⟩
  | .hbm, ⟨53, _⟩ => ⟨S128x8x64, .f32⟩
  | .hbm, ⟨54, _⟩ => ⟨S_, .i32⟩
  | .hbm, ⟨55, _⟩ => ⟨S_, .f32⟩
  | .hbm, ⟨56, _⟩ => ⟨S128x8x128, .f32⟩
  | .hbm, ⟨57, _⟩ => ⟨S128x1024, .f32⟩
  | .hbm, ⟨58, _⟩ => ⟨S128x1024, .bf16⟩
  | .hbm, ⟨59, _⟩ => ⟨S128x8x64, .f32⟩
  | .hbm, ⟨60, _⟩ => ⟨S_, .i32⟩
  | .hbm, ⟨61, _⟩ => ⟨S_, .f32⟩
  | .hbm, ⟨62, _⟩ => ⟨S128x8x80, .f32⟩
  | .hbm, ⟨63, _⟩ => ⟨S128x640, .f32⟩
  | .hbm, ⟨64, _⟩ => ⟨S640x128, .f32⟩
  | .hbm, ⟨65, _⟩ => ⟨S640x128, .bf16⟩
  | .hbm, ⟨66, _⟩ => ⟨S_, .f32⟩
  | .hbm, ⟨67, _⟩ => ⟨S8x80x256, .f32⟩
  | .hbm, ⟨68, _⟩ => ⟨S_, .i32⟩
  | .hbm, ⟨69, _⟩ => ⟨S1, .i32⟩
  | .hbm, ⟨70, _⟩ => ⟨S_, .f32⟩
  | .hbm, ⟨71, _⟩ => ⟨S8x256, .f32⟩
  | .hbm, ⟨72, _⟩ => ⟨S8x80x256, .f32⟩
  | .hbm, ⟨73, _⟩ => ⟨S640x256, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S16x1, .f32⟩
  | .hbm, ⟨89, _⟩ => ⟨S1x1024, .f32⟩
  | .hbm, ⟨90, _⟩ => ⟨S1x256, .f32⟩
  | .hbm, ⟨91, _⟩ => ⟨S1x128, .f32⟩
  | .hbm, ⟨92, _⟩ => ⟨S4x512x4096, .bf16⟩
  | .hbm, ⟨93, _⟩ => ⟨S4x4096x512, .bf16⟩
  | .hbm, ⟨94, _⟩ => ⟨S4x512x4096, .bf16⟩
  | .hbm, ⟨95, _⟩ => ⟨S4x4096x512, .f32⟩
  | .hbm, ⟨96, _⟩ => ⟨S4x4096x128, .f32⟩
  | .hbm, ⟨97, _⟩ => ⟨S4x32x4096, .f32⟩
  | .hbm, ⟨98, _⟩ => ⟨S4x1024x4096, .bf16⟩
  | .hbm, ⟨99, _⟩ => ⟨S4x4096x1024, .bf16⟩
  | .hbm, ⟨100, _⟩ => ⟨S4x640x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x512, .f32⟩
  | .local _ .vmem, ⟨7, _⟩ => ⟨S1x1x512, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S128x1024, .bf16⟩
  | .local _ .vmem, ⟨14, _⟩ => ⟨S1x128, .f32⟩
  | .local _ .vmem, ⟨15, _⟩ => ⟨S3x1024, .f32⟩
  | .local _ .vmem, ⟨16, _⟩ => ⟨S1x256, .f32⟩
  | .local _ .vmem, ⟨17, _⟩ => ⟨S1024x256, .bf16⟩
  | .local _ .vmem, ⟨18, _⟩ => ⟨S1x128, .f32⟩
  | .local _ .vmem, ⟨19, _⟩ => ⟨S128x1024, .bf16⟩
  | .local _ .vmem, ⟨20, _⟩ => ⟨S640x128, .bf16⟩
  | .local _ .vmem, ⟨21, _⟩ => ⟨S640x256, .f32⟩
  | .local _ .vmem, ⟨22, _⟩ => ⟨S16x1, .f32⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .f32⟩
  | .local _ .vmem, ⟨30, _⟩ => ⟨S1x512x512, .f32⟩
  | .local _ .vmem, ⟨31, _⟩ => ⟨S1x512x128, .f32⟩
  | .local _ .vmem, ⟨32, _⟩ => ⟨S1x512x128, .f32⟩
  | .local _ .vmem, ⟨33, _⟩ => ⟨S1x32x512, .f32⟩
  | .local _ .vmem, ⟨34, _⟩ => ⟨S1x32x512, .f32⟩
  | .local _ .vmem, ⟨35, _⟩ => ⟨S1x1024x512, .bf16⟩
  | .local _ .vmem, ⟨36, _⟩ => ⟨S1x1024x512, .bf16⟩
  | .local _ .vmem, ⟨37, _⟩ => ⟨S1x512x1024, .bf16⟩
  | .local _ .vmem, ⟨38, _⟩ => ⟨S1x512x1024, .bf16⟩
  | .local _ .vmem, ⟨39, _⟩ => ⟨S1x640x512, .bf16⟩
  | .local _ .vmem, ⟨40, _⟩ => ⟨S1x640x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call1_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_call2_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_cst_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62_0 : Ref sig .tc := ⟨.hbm, 92, rfl⟩
abbrev main_v62_1 : Ref sig .tc := ⟨.hbm, 93, rfl⟩
abbrev main_v62_2 : Ref sig .tc := ⟨.hbm, 94, rfl⟩
abbrev main_v62_3 : Ref sig .tc := ⟨.hbm, 95, rfl⟩
abbrev main_v62_4 : Ref sig .tc := ⟨.hbm, 96, rfl⟩
abbrev main_v62_5 : Ref sig .tc := ⟨.hbm, 97, rfl⟩
abbrev main_v62_6 : Ref sig .tc := ⟨.hbm, 98, rfl⟩
abbrev main_v62_7 : Ref sig .tc := ⟨.hbm, 99, rfl⟩
abbrev main_v62_8 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S640x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S640x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S16x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x32x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1024x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x640x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== Reference5Ideal.lean ====
abbrev S4x4096x1024 : Shape := ⟨3, ![4, 4096, 1024]⟩
abbrev S4x4096 : Shape := ⟨2, ![4, 4096]⟩
abbrev S1024 : Shape := ⟨1, ![1024]⟩
abbrev S1024x2480 : Shape := ⟨2, ![1024, 2480]⟩
abbrev S16 : Shape := ⟨1, ![16]⟩
abbrev S3x1024 : Shape := ⟨2, ![3, 1024]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S_ : Shape := ⟨0, ![]⟩
abbrev S4x4096x1 : Shape := ⟨3, ![4, 4096, 1]⟩
abbrev S1x1x1024 : Shape := ⟨3, ![1, 1, 1024]⟩
abbrev S4x4096x2480 : Shape := ⟨3, ![4, 4096, 2480]⟩
abbrev S4x4098x1024 : Shape := ⟨3, ![4, 4098, 1024]⟩
abbrev S1x1024 : Shape := ⟨2, ![1, 1024]⟩
abbrev S4x4096x512 : Shape := ⟨3, ![4, 4096, 512]⟩
abbrev S4x512x4096 : Shape := ⟨3, ![4, 512, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024, .f32⟩
  | .hbm, ⟨3, _⟩ => ⟨S1024x2480, .f32⟩
  | .hbm, ⟨4, _⟩ => ⟨S16, .f32⟩
  | .hbm, ⟨5, _⟩ => ⟨S3x1024, .f32⟩
  | .hbm, ⟨6, _⟩ => ⟨S256, .f32⟩
  | .hbm, ⟨7, _⟩ => ⟨S256x768, .f32⟩
  | .hbm, ⟨8, _⟩ => ⟨S128, .f32⟩
  | .hbm, ⟨9, _⟩ => ⟨S128x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x2480, .f32⟩
  | .hbm, ⟨27, _⟩ => ⟨S4x4096x1024, .f32⟩
  | .hbm, ⟨28, _⟩ => ⟨S_, .i32⟩
  | .hbm, ⟨29, _⟩ => ⟨S_, .f32⟩
  | .hbm, ⟨30, _⟩ => ⟨S4x4098x1024, .f32⟩
  | .hbm, ⟨31, _⟩ => ⟨S4x4096x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x512, .f32⟩
  | .hbm, ⟨61, _⟩ => ⟨S4x4096x512, .f32⟩
  | .hbm, ⟨62, _⟩ => ⟨S_, .f32⟩
  | .hbm, ⟨63, _⟩ => ⟨S4x4096x512, .f32⟩
  | .hbm, ⟨64, _⟩ => ⟨S4x4096x512, .f32⟩
  | .hbm, ⟨65, _⟩ => ⟨S4x4096x512, .f32⟩
  | .hbm, ⟨66, _⟩ => ⟨S4x4096x512, .f32⟩
  | .hbm, ⟨67, _⟩ => ⟨S4x512x4096, .f32⟩
  | .hbm, ⟨68, _⟩ => ⟨S4x512x4096, .bf16⟩
  | .hbm, ⟨69, _⟩ => ⟨S4x512x4096, .f32⟩
  | .hbm, ⟨70, _⟩ => ⟨S4x512x4096, .bf16⟩
  | .hbm, ⟨71, _⟩ => ⟨S4x4096x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.IdealFrame.RunB.lean ====
/- The attention call's body at an odd grid point, run store by store.
   The generated module with its imports and, in the two runs, the step that writes the body's parts as
   their skeletons changed: that step is definitional here. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1428000 in
/-- What the body's stores leave in each output's staging memref, as pieces (last first) IN CASE B (`scf.if` 0 not taken, `scf.if` 1 not taken, `scf.if` 2 taken: points 1, 3, … 255: 128 of 257), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) :
    Σ' (L4 : List (View.Piece (Elt F) S1x256x128 .f32)), Σ' (LS0 : List (View.Piece (Elt F) S2x4096x256 .f32)), Σ' (LS1 : List (View.Piece (Elt F) S2x4096x256 .f32)), Σ' (LS2 : List (View.Piece (Elt F) S2x8x256 .f32)), { LS3 : List (View.Piece (Elt F) S2x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ owns (c : Thread nD τ) arg8 fullShare xs2 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ (∃ f, arg7.view.loc (c : Thread nD τ) ↦[arg7.view.set]{fullShare} arg7.view.writes (Elt F) f LS1) ∗ owns (c : Thread nD τ) arg8 fullShare xs2 ∗ (∃ f, arg9.view.loc (c : Thread nD τ) ↦[arg9.view.set]{fullShare} arg9.view.writes (Elt F) f LS3)) -∗ K ⟨⟩))
          ⊢ wp frame (wpE (defs₀ (F := F)) Variants.none c none) E (cc0_mla_attn i arg1 harg1 arg2 harg2 arg3 harg3 arg4 harg4 arg5 harg5 arg6 harg6 arg7 harg7 arg8 harg8 arg9 harg9) K } := by
  refine ⟨?_, [], ?_, [], ?_, fun E K => ?run⟩
  case run =>
    simp only [cc0_mla_attn_eq_skeleton]; unfold cc0_mla_attn_skel
    dsimp (config := { zeta := false, beta := false, eta := false, proj := false, iota := false }) only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg6.eq_unread hfs0; obtain rfl := harg8.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]; · iexists _; iexact HS1
    isplitl [HS2]
    · iexists _; isplitr; · ipureintro; exact harg8.read_unread _
      iexact HS2
    iexists _; iexact HS3

end Cert.KernelIdeal.Gen

end
-- ==== Proof.IdealFrame.RunC.lean ====
/- The attention call's body at a later even grid point, run store by store.
   The generated module with its imports and, in the two runs, the step that writes the body's parts as
   their skeletons changed: that step is definitional here. -/
module

public import proofs.«01_k».proof.Proof.IdealFrame.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1428000 in
/-- What the body's stores leave in each output's staging memref, as pieces (last first) IN CASE C (`scf.if` 0 not taken, `scf.if` 1 taken, `scf.if` 2 not taken: points 2, 4, … 256: 128 of 257), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) :
    Σ' (L4 : List (View.Piece (Elt F) S1x256x128 .f32)), Σ' (LS0 : List (View.Piece (Elt F) S2x4096x256 .f32)), Σ' (LS1 : List (View.Piece (Elt F) S2x4096x256 .f32)), Σ' (LS2 : List (View.Piece (Elt F) S2x8x256 .f32)), { LS3 : List (View.Piece (Elt F) S2x8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs1 ∗ (∃ d, owns (c : Thread nD τ) arg8 fullShare d) ∗ owns (c : Thread nD τ) arg9 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ owns (c : Thread nD τ) arg7 fullShare xs1 ∗ (∃ f, arg8.view.loc (c : Thread nD τ) ↦[arg8.view.set]{fullShare} arg8.view.writes (Elt F) f LS2) ∗ owns (c : Thread nD τ) arg9 fullShare xs3) -∗ K ⟨⟩))
          ⊢ wp frame (wpE (defs₀ (F := F)) Variants.none c none) E (cc0_mla_attn i arg1 harg1 arg2 harg2 arg3 harg3 arg4 harg4 arg5 harg5 arg6 harg6 arg7 harg7 arg8 harg8 arg9 harg9) K } := by
  refine ⟨?_, ?_, [], ?_, [], fun E K => ?run⟩
  case run =>
    simp only [cc0_mla_attn_eq_skeleton]; unfold cc0_mla_attn_skel
    dsimp (config := { zeta := false, beta := false, eta := false, proj := false, iota := false }) only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg7.eq_unread hfs1; obtain rfl := harg9.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]
    · iexists _; isplitr; · ipureintro; exact harg7.read_unread _
      iexact HS1
    isplitl [HS2]; · iexists _; iexact HS2
    iexists _; isplitr; · ipureintro; exact harg9.read_unread _
    iexact HS3

end Cert.KernelIdeal.Gen

end
-- ==== Proof.IdealFrame.Whole.lean ====
/- The attention call's frame: what each buffer holds point by point, and the run of the whole grid.
   The generated module with its imports and, in the two runs, the step that writes the body's parts as
   their skeletons changed: that step is definitional here. -/
module

public import proofs.«01_k».proof.Proof.IdealFrame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 4 tile its block (1 store of `S1x256x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (y : S1x256x128.Idx) :
    ∃ pc ∈ (kernelRun0_A c i arg1 harg1 arg2 harg2 arg3 harg3 arg4 harg4 arg5 harg5 arg6 harg6 arg7 harg7 arg8 harg8 arg9 harg9 hc0 hc1 hc2 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3).1 S1x256x128.size (by sl_kernel_rfl) y

/-- What case A leaves in output 4's staging buffer: its pieces read back over junk. -/
def out0_A_4 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) : Vec F S1x256x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 hc2 x0 x1 x2 x3).1)

/-- Case A's pieces for scratch `arg6`, which the kernel carries between points, cover it: 32 pieces of `S1x256x256` tiling it (Lib/Ring.lean `Piece.tiledL`). -/
theorem scover0_A_0 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (y : S2x4096x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3).2.1 S1x256x256.size (by sl_kernel_rfl) y

/-- What case A leaves in scratch `arg6`: its pieces read back over junk. -/
def sout0_A_0 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) : Vec F S2x4096x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 hc2 x0 x1 x2 x3).2.1)

/-- Case A's pieces for scratch `arg7`, which the kernel carries between points, cover it: 1 piece of `S2x4096x256` tiling it (Lib/Ring.lean `Piece.tiledL`). -/
theorem scover0_A_1 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (y : S2x4096x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3).2.2.1 S2x4096x256.size (by sl_kernel_rfl) y

/-- What case A leaves in scratch `arg7`: its pieces read back over junk. -/
def sout0_A_1 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) : Vec F S2x4096x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 hc2 x0 x1 x2 x3).2.2.1)

/-- Case A's pieces for scratch `arg8`, which the kernel carries between points, cover it: 2 pieces of `S1x8x256` tiling it (Lib/Ring.lean `Piece.tiledL`). -/
theorem scover0_A_2 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (y : S2x8x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3).2.2.2.1 S1x8x256.size (by sl_kernel_rfl) y

/-- What case A leaves in scratch `arg8`: its pieces read back over junk. -/
def sout0_A_2 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) : Vec F S2x8x256 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 hc2 x0 x1 x2 x3).2.2.2.1)

/-- Case A's pieces for scratch `arg9`, which the kernel carries between points, cover it: 1 piece of `S2x8x256` tiling it (Lib/Ring.lean `Piece.tiledL`). -/
theorem scover0_A_3 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (y : S2x8x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3).2.2.2.2.1 S2x8x256.size (by sl_kernel_rfl) y

/-- What case A leaves in scratch `arg9`: its pieces read back over junk. -/
def sout0_A_3 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : cond0_0 i) (hc1 : cond0_1 i) (hc2 : ¬cond0_2 i)
    (x0 : Vec F S1x256x256 .bf16) (x1 : Vec F S1x4096x256 .bf16) (x2 : Vec F S1x160x4096 .bf16) (x3 : Vec F S1x128 .f32) : Vec F S2x8x256 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 hc0 hc1 hc2 x0 x1 x2 x3).2.2.2.2.1)

/-- Case B's pieces for output 4 tile its block (1 store of `S1x256x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) (y : S1x256x128.Idx) :
    ∃ pc ∈ (kernelRun0_B c i arg1 harg1 arg2 harg2 arg3 harg3 arg4 harg4 arg5 harg5 arg6 harg6 arg7 harg7 arg8 harg8 arg9 harg9 hc0 hc1 hc2 x0 x1 x2 x3 xs0 xs2).1, y ∈ pc.1.set :=
  View.cover_of_tiledL (kernelRun0_B c i arg1 harg1 arg2 harg2 arg3 harg3 arg4 harg4 arg5 harg5 arg6 harg6 arg7 harg7 arg8 harg8 arg9 harg9 hc0 hc1 hc2 x0 x1 x2 x3 xs0 xs2).1 S1x256x128.size (by sl_kernel_rfl) y

/-- What case B leaves in output 4's staging buffer: its pieces read back over junk. -/
def out0_B_4 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) : Vec F S1x256x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 hc2 x0 x1 x2 x3 xs0 xs2).1)

/-- Case B stores nothing into scratch `arg6`: it holds what the point before left. -/
def sout0_B_0 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) : Vec F S2x4096x256 .f32 := xs0

/-- Case B's pieces for scratch `arg7`, which the kernel carries between points, cover it: 32 pieces of `S1x256x256` tiling it (Lib/Ring.lean `Piece.tiledL`). -/
theorem scover0_B_1 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) (y : S2x4096x256.Idx) :
    ∃ pc ∈ (kernelRun0_B c i arg1 harg1 arg2 harg2 arg3 harg3 arg4 harg4 arg5 harg5 arg6 harg6 arg7 harg7 arg8 harg8 arg9 harg9 hc0 hc1 hc2 x0 x1 x2 x3 xs0 xs2).2.2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 x0 x1 x2 x3 xs0 xs2).2.2.1 S1x256x256.size (by sl_kernel_rfl) y

/-- What case B leaves in scratch `arg7`: its pieces read back over junk. -/
def sout0_B_1 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) : Vec F S2x4096x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 hc2 x0 x1 x2 x3 xs0 xs2).2.2.1)

/-- Case B stores nothing into scratch `arg8`: it holds what the point before left. -/
def sout0_B_2 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) : Vec F S2x8x256 .f32 := xs2

/-- Case B's pieces for scratch `arg9`, which the kernel carries between points, cover it: 2 pieces of `S1x8x256` tiling it (Lib/Ring.lean `Piece.tiledL`). -/
theorem scover0_B_3 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) (y : S2x8x256.Idx) :
    ∃ pc ∈ (kernelRun0_B c i arg1 harg1 arg2 harg2 arg3 harg3 arg4 harg4 arg5 harg5 arg6 harg6 arg7 harg7 arg8 harg8 arg9 harg9 hc0 hc1 hc2 x0 x1 x2 x3 xs0 xs2).2.2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 x0 x1 x2 x3 xs0 xs2).2.2.2.2.1 S1x8x256.size (by sl_kernel_rfl) y

/-- What case B leaves in scratch `arg9`: its pieces read back over junk. -/
def sout0_B_3 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : ¬cond0_1 i) (hc2 : cond0_2 i)
    (x0 : Vec F S1x256x256 .bf16) (x1 : Vec F S1x4096x256 .bf16) (x2 : Vec F S1x160x4096 .bf16) (x3 : Vec F S1x128 .f32) (xs0 : Vec F S2x4096x256 .f32) (xs2 : Vec F S2x8x256 .f32) : Vec F S2x8x256 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 hc0 hc1 hc2 x0 x1 x2 x3 xs0 xs2).2.2.2.2.1)

/-- Case C's pieces for output 4 tile its block (1 store of `S1x256x128`, checked by the kernel's evaluation: Lib/Ring.lean `Piece.tiledL`, linear in the pieces, through a loop's `@[irreducible]` trip theorem too), so they cover it. -/
theorem cover0_C_4 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) (y : S1x256x128.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 xs1 xs3).1, y ∈ pc.1.set :=
  View.cover_of_tiledL (kernelRun0_C c i arg1 harg1 arg2 harg2 arg3 harg3 arg4 harg4 arg5 harg5 arg6 harg6 arg7 harg7 arg8 harg8 arg9 harg9 hc0 hc1 hc2 x0 x1 x2 x3 xs1 xs3).1 S1x256x128.size (by sl_kernel_rfl) y

/-- What case C leaves in output 4's staging buffer: its pieces read back over junk. -/
def out0_C_4 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) : Vec F S1x256x128 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 hc2 x0 x1 x2 x3 xs1 xs3).1)

/-- Case C's pieces for scratch `arg6`, which the kernel carries between points, cover it: 32 pieces of `S1x256x256` tiling it (Lib/Ring.lean `Piece.tiledL`). -/
theorem scover0_C_0 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) (y : S2x4096x256.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 xs1 xs3).2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 x0 x1 x2 x3 xs1 xs3).2.1 S1x256x256.size (by sl_kernel_rfl) y

/-- What case C leaves in scratch `arg6`: its pieces read back over junk. -/
def sout0_C_0 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) : Vec F S2x4096x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 hc2 x0 x1 x2 x3 xs1 xs3).2.1)

/-- Case C stores nothing into scratch `arg7`: it holds what the point before left. -/
def sout0_C_1 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) : Vec F S2x4096x256 .f32 := xs1

/-- Case C's pieces for scratch `arg8`, which the kernel carries between points, cover it: 2 pieces of `S1x8x256` tiling it (Lib/Ring.lean `Piece.tiledL`). -/
theorem scover0_C_2 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) (y : S2x8x256.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 xs1 xs3).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 x0 x1 x2 x3 xs1 xs3).2.2.2.1 S1x8x256.size (by sl_kernel_rfl) y

/-- What case C leaves in scratch `arg8`: its pieces read back over junk. -/
def sout0_C_2 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) : Vec F S2x8x256 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 hc0 hc1 hc2 x0 x1 x2 x3 xs1 xs3).2.2.2.1)

/-- Case C stores nothing into scratch `arg9`: it holds what the point before left. -/
def sout0_C_3 (c : Dev nD) (i : grid0.Coords) (arg1 : Memref sig .tc .vmem S1x256x256 .bf16) (harg1 : arg1.IsWhole) (arg2 : Memref sig .tc .vmem S1x4096x256 .bf16) (harg2 : arg2.IsWhole) (arg3 : Memref sig .tc .vmem S1x160x4096 .bf16) (harg3 : arg3.IsWhole) (arg4 : Memref sig .tc .vmem S1x128 .f32) (harg4 : arg4.IsWhole) (arg5 : Memref sig .tc .vmem S1x256x128 .f32) (harg5 : arg5.IsWhole) (arg6 : Memref sig .tc .vmem S2x4096x256 .f32) (harg6 : arg6.IsWhole) (arg7 : Memref sig .tc .vmem S2x4096x256 .f32) (harg7 : arg7.IsWhole) (arg8 : Memref sig .tc .vmem S2x8x256 .f32) (harg8 : arg8.IsWhole) (arg9 : Memref sig .tc .vmem S2x8x256 .f32) (harg9 : arg9.IsWhole) (hc0 : ¬cond0_0 i) (hc1 : cond0_1 i) (hc2 : ¬cond0_2 i)
    (x0 : Vec F S1x256x256 .bf16) (x1 : Vec F S1x4096x256 .bf16) (x2 : Vec F S1x160x4096 .bf16) (x3 : Vec F S1x128 .f32) (xs1 : Vec F S2x4096x256 .f32) (xs3 : Vec F S2x8x256 .f32) : Vec F S2x8x256 .f32 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x128 .f32 × Vec F S2x4096x256 .f32 × Vec F S2x4096x256 .f32 × Vec F S2x8x256 .f32 × Vec F S2x8x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 257 = 0 then
      if h1 : (n + 1) % 2 = 0 then
        if h2 : (n + 1) % 2 = 1 then
          False.elim (by have hN : n + 1 < 257 := lt_of_lt_of_eq hn (show cfg0.N = 257 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 257 := lt_of_lt_of_eq hn (show cfg0.N = 257 from N_0); omega)
    else
      if h1 : (n + 1) % 2 = 0 then
        if h2 : (n + 1) % 2 = 1 then
          False.elim (by have hN : n + 1 < 257 := lt_of_lt_of_eq hn (show cfg0.N = 257 from N_0); omega)
        else
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.2)
      else
        if h2 : (n + 1) % 2 = 1 then
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2.1)
        else
          False.elim (by have hN : n + 1 < 257 := lt_of_lt_of_eq hn (show cfg0.N = 257 from N_0); omega)

/-- `outsAt0` at a point of case A: that case's contents. -/
theorem outsAt0_A (c : Dev nD) (t : Fin cfg0.N) (h0 : t.val % 257 = 0) (h1 : t.val % 2 = 0) (h2 : ¬t.val % 2 = 1) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 257 = 0) (h1 : ¬t.val % 2 = 0) (h2 : t.val % 2 = 1) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 257 = 0) (h1 : t.val % 2 = 0) (h2 : ¬t.val % 2 = 1) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 257 := lt_of_lt_of_eq t.isLt (show cfg0.N = 257 from N_0)
  by_cases h0 : t.val % 257 = 0
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) (fun h => h2 ((hcond0_2 t).mp h))], after0_4]
        by_cases hz : t.val = 0
        · rw [PhiS_castSucc m c t, PhiS_zero m c _ _ hz, PhiA0_eq]
          rw [outsAt0_A m c t h0 h1 h2]
          unfold out0_A_4 sout0_A_0 sout0_A_1 sout0_A_2 sout0_A_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t)).2.2.2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          isplitl [HS3]; · iexact HS3
          iintro ⟨H0, H1, H2, H3, ⟨%e4, H4⟩, ⟨%es0, HS0⟩, ⟨%es1, HS1⟩, ⟨%es2, HS2⟩, ⟨%es3, HS3⟩⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _)
              unfold owns; iexists _; isplitr
              swap; · iexact HS3
              ipureintro; exact View.read_writes_of_cover _ _ _ _ _ (scover0_A_3 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_A_4 c _ _ _ _ _ _ _ _ _ _ _ _ _ _ _ _ _ _ _ _ _ _ _ _ _ _)
        · exfalso; have hN : t.val < 257 := lt_of_lt_of_eq t.isLt (show cfg0.N = 257 from N_0); omega
    · exfalso; omega
  · by_cases h1 : t.val % 2 = 0
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1) (fun h => h2 ((hcond0_2 t).mp h))], after0_4]
        by_cases hz : t.val = 0
        · exfalso; have hN : t.val < 257 := lt_of_lt_of_eq t.isLt (show cfg0.N = 257 from N_0); omega
        · rw [PhiS_castSucc m c t, PhiS_pos m c _ _ hz]
          rw [outsAt0_C m c t h0 h1 h2]
          unfold out0_C_4 sout0_C_0 sout0_C_1 sout0_C_2 sout0_C_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _ _).2.2.2.2.2 Set.univ _)
          isplitl [H0]; · iexact H0
          isplitl [H1]; · iexact H1
          isplitl [H2]; · iexact H2
          isplitl [H3]; · iexact H3
          isplitl [H4]; · iexists _; iexact H4
          isplitl [HS0]; · iexists _; iexact HS0
          isplitl [HS1]; · iexact HS1
          isplitl [HS2]; · iexists _; iexact HS2
          isplitl [HS3]; · iexact HS3
          iintro ⟨H0, H1, H2, H3, ⟨%e4, H4⟩, ⟨%es0, HS0⟩, HS1, ⟨%es2, HS2⟩, HS3⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _)
              isplitl [HS1]
              · iexact HS1
              isplitl [HS2]
              · unfold owns; iexists _; isplitr
                swap; · iexact HS2
                ipureintro; exact View.read_writes_of_cover _ _ _ _ _ (scover0_C_2 c _ _ _ _ _ _ _ _ _ _ _ _ _ _ _ _ _ _ _ _ _ _ _ _ _ _ _ _)
              iexact HS3
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_C_4 c _ _ _ _ _ _ _ _ _ _ _ _ _ _ _ _ _ _ _ _ _ _ _ _ _ _ _ _)
    · by_cases h2 : t.val % 2 = 1
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_B t (fun h => h0 ((hcond0_0 t).mp h)) (fun h => h1 ((hcond0_1 t).mp h)) ((hcond0_2 t).mpr h2)], after0_4]
        by_cases hz : t.val = 0
        · exfalso; have hN : t.val < 257 := lt_of_lt_of_eq t.isLt (show cfg0.N = 257 from N_0); omega
        · rw [PhiS_castSucc m c t, PhiS_pos m c _ _ hz]
          rw [outsAt0_B m c t h0 h1 h2]
          unfold out0_B_4 sout0_B_0 sout0_B_1 sout0_B_2 sout0_B_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _).2.2.2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexists _; iexact HS1
          isplitl [HS2]; · iexact HS2
          isplitl [HS3]; · iexists _; iexact HS3
          iintro ⟨H0, H1, H2, H3, ⟨%e4, H4⟩, HS0, ⟨%es1, HS1⟩, HS2, ⟨%es3, HS3⟩⟩
          isplitl [HS0 HS1 HS2 HS3 Hg]
          · isplitl [HS0 HS1 HS2 HS3]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _)
              isplitl [HS2]
              · iexact HS2
              unfold owns; iexists _; isplitr
              swap; · iexact HS3
              ipureintro; exact View.read_writes_of_cover _ _ _ _ _ (scover0_B_3 c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_B_4 c _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 257 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.IdealFrame.Value.lean ====
/- What the attention call's result array holds after the run.
   The generated module with its imports and, in the two runs, the step that writes the body's parts as
   their skeletons changed: that step is definitional here. -/
module

public import proofs.«01_k».proof.Proof.IdealFrame.Whole
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 257 = 0) (h1 : t.val % 2 = 0) (h2 : ¬t.val % 2 = 1) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t)) := by
  simp only [flushed4, outsAt0_A m c t h0 h1 h2]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 257 = 0) (h1 : ¬t.val % 2 = 0) (h2 : t.val % 2 = 1) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2.1) := by
  simp only [flushed4, outsAt0_B m c t h0 h1 h2]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 257 = 0) (h1 : t.val % 2 = 0) (h2 : ¬t.val % 2 = 1) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2) := by
  simp only [flushed4, outsAt0_C m c t h0 h1 h2]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S4x4096x512.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v18) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v18) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post4 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.Mla.Parts.lean ====
module

public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic

namespace Cert.KernelIdeal.Mla

open Cert.KernelIdeal Cert.KernelIdeal.Gen

/-- The factor of the logits inside the power of two. -/
def cst : EReal := Named.named (F := Ideal) (φ := .f32) κ "scale_log2e" 0x3E16C740#32

/-- The number of lanes of a head, as the kernel divides by it. -/
def c64 : EReal := Ideal.ofBits .f32 0x42800000#32

/-- The constant added to the mean square. -/
def eps : EReal := Ideal.ofBits .f32 0x358637BD#32

/-- The pattern of minus infinity. -/
theorem ninf : Ideal.ofBits .f32 0xFF800000#32 = ⊥ := by
  simp [Ideal.ofBits, Ideal.ieee, -EReal.coe_mul]

/-! ## The steps of the body, on vectors -/

/-- The logits of 256 keys against 256 queries of one head. -/
def lg (k : FVec Ideal S1x256x128 .bf16) (q : FVec Ideal S1x128x256 .bf16) : FVec Ideal S1x256x256 .f32 := k0_pay9 k q

/-- Where the running maximum begins. -/
def bot : FVec Ideal S1x256 .f32 := broadcast S1x256 (Scalar.ofBits .f32 0xFF800000#32)

/-- One step of the running maximum. -/
def mx (u : FVec Ideal S1x256 .f32) (k : FVec Ideal S1x256x128 .bf16) (q : FVec Ideal S1x128x256 .bf16) : FVec Ideal S1x256 .f32 :=
  k0_pay136 u k q

/-- The maximum's row from the eight rows it is kept in. -/
def row (u : FVec Ideal S1x8x256 .f32) : FVec Ideal S1x256 .f32 := k0_pay5 u

/-- The eight rows a maximum is kept in. -/
def rows8 (u : FVec Ideal S1x256 .f32) : FVec Ideal S1x8x256 .f32 := k0_pay148 u

/-- The first contribution to the weighted values. -/
def ac0 (u : FVec Ideal S1x256 .f32) (s : FVec Ideal S1x256x256 .f32) (v : FVec Ideal S1x80x256 .bf16) : FVec Ideal S80x256 .f32 :=
  k0_pay13 u s v

/-- A later contribution to the weighted values. -/
def ac (u : FVec Ideal S1x256 .f32) (a : FVec Ideal S80x256 .f32) (s : FVec Ideal S1x256x256 .f32) (v : FVec Ideal S1x80x256 .bf16) :
    FVec Ideal S80x256 .f32 := k0_pay138 u a s v

/-- The quotient of the weighted values by the weights' sum. -/
def qt (a : FVec Ideal S80x256 .f32) : FVec Ideal S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- The reciprocal root of the mean square. -/
def rs (o : FVec Ideal S64x256 .f32) : FVec Ideal S1x256 .f32 :=
  rsqrt (addf (divf (shapeCast S1x256 (multiReduction .add [0] S256 (mulf o o) 0x00000000#32 reduces_S64x256_S256 (.inl rfl) rfl)
    shapeCasts_S256_S1x256) (broadcast S1x256 (Scalar.ofBits .f32 0x42800000#32))) (broadcast S1x256 (Scalar.ofBits .f32 0x358637BD#32)))

/-- The normalised head from its accumulator. -/
def nm (a : FVec Ideal S80x256 .f32) : FVec Ideal S64x256 .f32 := k0_pay150 a

/-- A logit is a sum of products over the lanes. -/
theorem lg_apply (k : FVec Ideal S1x256x128 .bf16) (q : FVec Ideal S1x128x256 .bf16) (a b : Fin 256) :
    lg k q (ix3 0 a b) = ∑ l : Fin 128, k (ix3 0 a l) * q (ix3 0 l b) := by
  pointwise [lg, k0_pay9, k0_pay7]

/-- The running maximum begins at minus infinity. -/
theorem bot_apply (b : Fin 256) : bot (ix2 0 b) = ⊥ := by
  pointwise [bot, ninf]

/-- The first of the eight rows. -/
theorem row_apply (u : FVec Ideal S1x8x256 .f32) (b : Fin 256) : row u (ix2 0 b) = u (ix3 0 0 b) := by
  pointwise [row, k0_pay5]

/-- The eight rows are equal. -/
theorem rows8_apply (u : FVec Ideal S1x256 .f32) (a : Fin 8) (b : Fin 256) : rows8 u (ix3 0 a b) = u (ix2 0 b) := by
  pointwise [rows8, k0_pay148]

/-- A step of the running maximum, at a query. -/
theorem mx_apply (u : FVec Ideal S1x256 .f32) (k : FVec Ideal S1x256x128 .bf16) (q : FVec Ideal S1x128x256 .bf16) (b : Fin 256) :
    mx u k q (ix2 0 b) = u (ix2 0 b) ⊔ (Finset.univ.sup fun a : Fin 256 => ∑ l : Fin 128, k (ix3 0 a l) * q (ix3 0 l b)) := by
  pointwise [mx, k0_pay136, k0_pay135, ninf]
  rfl

/-- The first contribution, at a row and a query. -/
theorem ac0_apply (u : FVec Ideal S1x256 .f32) (s : FVec Ideal S1x256x256 .f32) (v : FVec Ideal S1x80x256 .bf16) (r : Fin 80) (b : Fin 256) :
    ac0 u s v (ix2 r b) = ∑ k : Fin 256, v (ix3 0 r k) * Ideal.exp2 ((s (ix3 0 k b) - u (ix2 0 b)) * cst) := by
  pointwise [ac0, k0_pay13, cst]
  rfl

/-- A later contribution, at a row and a query. -/
theorem ac_apply (u : FVec Ideal S1x256 .f32) (a : FVec Ideal S80x256 .f32) (s : FVec Ideal S1x256x256 .f32) (v : FVec Ideal S1x80x256 .bf16)
    (r : Fin 80) (b : Fin 256) :
    ac u a s v (ix2 r b) = a (ix2 r b) + ∑ k : Fin 256, v (ix3 0 r k) * Ideal.exp2 ((s (ix3 0 k b) - u (ix2 0 b)) * cst) := by
  pointwise [ac, k0_pay138, cst]
  rfl

/-- A normalised lane, from the head's weighted values and the weights' sum. -/
def nrm (a : Fin 64 → EReal) (l : EReal) (d : Fin 64) : EReal :=
  Ideal.div (a d) l * Ideal.rsqrt (Ideal.div (∑ x, Ideal.div (a x) l * Ideal.div (a x) l) c64 + eps)

/-- The normalised lane is the quotient times the reciprocal root. -/
theorem nm_apply (a : FVec Ideal S80x256 .f32) (d : Fin 64) (b : Fin 256) :
    nm a (ix2 d b) = nrm (fun x => a (ix2 ⟨x.val, by omega⟩ b)) (a (ix2 64 b)) d := by
  pointwise [nm, k0_pay150, nrm, c64, eps]

/-- A lane's quotient. -/
theorem qr_apply (a : FVec Ideal S80x256 .f32) (d : Fin 64) (b : Fin 256) :
    qt a (ix2 d b) * rs (qt a) (ix2 0 b) = nrm (fun x => a (ix2 ⟨x.val, by omega⟩ b)) (a (ix2 64 b)) d := by
  pointwise [qt, rs, nrm, c64, eps]

/-- The block the body stores, at a query and a lane: lanes below 64 are the pair's first head. -/
theorem fin_apply (a0 a1 : FVec Ideal S80x256 .f32) (g : FVec Ideal S1x128 .f32) (b : Fin 256) (l : Fin 128) :
    k0_pay3 (nm a0) (qt a1) (rs (qt a1)) g (ix3 0 b l)
      = (if h : l.val < 64 then nrm (fun x => a0 (ix2 ⟨x.val, by omega⟩ b)) (a0 (ix2 64 b)) ⟨l.val, h⟩
          else nrm (fun x => a1 (ix2 ⟨x.val, by omega⟩ b)) (a1 (ix2 64 b)) ⟨l.val - 64, by omega⟩) * g (ix2 0 l) := by
  pointwise [k0_pay3]
  simp only [nm_apply, qr_apply]

/-! ## Sixteen chunks of 256 as one range of 4096 -/

/-- The chunk and the place of a key. -/
abbrev hi (k : Fin 4096) : Fin 16 := ⟨k.val / 256, by omega⟩
/-- The place of a key in its tile. -/
abbrev lo (k : Fin 4096) : Fin 256 := ⟨k.val % 256, by omega⟩

/-- A sum over all keys, chunk by chunk. -/
theorem sum16 (f : Fin 16 → Fin 256 → EReal) :
    (∑ k : Fin 4096, f (hi k) (lo k)) = ∑ j : Fin 16, ∑ i : Fin 256, f j i := by
  refine (Fin.sum_mul_add_congr (fun j i hl => ?_)).symm
  congr 1
  · exact Fin.ext (by show j.val = (j.val * 256 + i.val) / 256; omega)
  · exact Fin.ext (by show i.val = (j.val * 256 + i.val) % 256; omega)

/-- A maximum over all keys, chunk by chunk. -/
theorem sup16 (f : Fin 16 → Fin 256 → EReal) :
    (Finset.univ.sup fun k : Fin 4096 => f (hi k) (lo k)) = Finset.univ.sup fun j : Fin 16 => Finset.univ.sup fun i : Fin 256 => f j i := by
  refine le_antisymm (Finset.sup_le fun k _ => ?_) (Finset.sup_le fun j _ => Finset.sup_le fun i _ => ?_)
  · exact (Finset.le_sup (f := fun i => f (hi k) i) (Finset.mem_univ (lo k))).trans
      (Finset.le_sup (f := fun j => Finset.univ.sup fun i : Fin 256 => f j i) (Finset.mem_univ (hi k)))
  · have e1 : hi ⟨j.val * 256 + i.val, by omega⟩ = j := Fin.ext (by show (j.val * 256 + i.val) / 256 = j.val; omega)
    have e2 : lo ⟨j.val * 256 + i.val, by omega⟩ = i := Fin.ext (by show (j.val * 256 + i.val) % 256 = i.val; omega)
    have := Finset.le_sup (f := fun k : Fin 4096 => f (hi k) (lo k)) (Finset.mem_univ ⟨j.val * 256 + i.val, by omega⟩)
    simp only [e1, e2] at this
    exact this

/-- Sixteen nested maxima are one. -/
theorem supNest (g : Fin 16 → EReal) : (((((((((((((((⊥ ⊔ g 0) ⊔ g 1) ⊔ g 2) ⊔ g 3) ⊔ g 4) ⊔ g 5) ⊔ g 6) ⊔ g 7) ⊔ g 8) ⊔ g 9) ⊔ g 10) ⊔ g 11) ⊔ g 12) ⊔ g 13) ⊔ g 14) ⊔ g 15 = Finset.univ.sup g := by
  refine le_antisymm ?_ (Finset.sup_le fun j _ => ?_)
  · repeat' apply sup_le
    · exact bot_le
    all_goals exact Finset.le_sup (f := g) (Finset.mem_univ _)
  · obtain ⟨j, hj⟩ := j
    interval_cases j <;> first
      | exact (show g 0 ≤ _ by simp only [le_sup_iff, le_refl, true_or, or_true])
      | exact (show g 1 ≤ _ by simp only [le_sup_iff, le_refl, true_or, or_true])
      | exact (show g 2 ≤ _ by simp only [le_sup_iff, le_refl, true_or, or_true])
      | exact (show g 3 ≤ _ by simp only [le_sup_iff, le_refl, true_or, or_true])
      | exact (show g 4 ≤ _ by simp only [le_sup_iff, le_refl, true_or, or_true])
      | exact (show g 5 ≤ _ by simp only [le_sup_iff, le_refl, true_or, or_true])
      | exact (show g 6 ≤ _ by simp only [le_sup_iff, le_refl, true_or, or_true])
      | exact (show g 7 ≤ _ by simp only [le_sup_iff, le_refl, true_or, or_true])
      | exact (show g 8 ≤ _ by simp only [le_sup_iff, le_refl, true_or, or_true])
      | exact (show g 9 ≤ _ by simp only [le_sup_iff, le_refl, true_or, or_true])
      | exact (show g 10 ≤ _ by simp only [le_sup_iff, le_refl, true_or, or_true])
      | exact (show g 11 ≤ _ by simp only [le_sup_iff, le_refl, true_or, or_true])
      | exact (show g 12 ≤ _ by simp only [le_sup_iff, le_refl, true_or, or_true])
      | exact (show g 13 ≤ _ by simp only [le_sup_iff, le_refl, true_or, or_true])
      | exact (show g 14 ≤ _ by simp only [le_sup_iff, le_refl, true_or, or_true])
      | exact (show g 15 ≤ _ by simp only [le_sup_iff, le_refl, true_or, or_true])

/-- The running maximum after the sixteen chunks. -/
theorem mxNest (k : Fin 16 → FVec Ideal S1x256x128 .bf16) (q : FVec Ideal S1x128x256 .bf16) (b : Fin 256) :
    (mx (mx (mx (mx (mx (mx (mx (mx (mx (mx (mx (mx (mx (mx (mx (mx bot (k 0) q) (k 1) q) (k 2) q) (k 3) q) (k 4) q) (k 5) q) (k 6) q) (k 7) q) (k 8) q) (k 9) q) (k 10) q) (k 11) q) (k 12) q) (k 13) q) (k 14) q) (k 15) q) (ix2 0 b) = Finset.univ.sup fun i : Fin 4096 => ∑ l : Fin 128, k (hi i) (ix3 0 (lo i) l) * q (ix3 0 l b) := by
  rw [sup16 (fun j i => ∑ l : Fin 128, k j (ix3 0 i l) * q (ix3 0 l b)), ← supNest]
  simp only [mx_apply, bot_apply]

/-- A head's weighted values after the sixteen chunks. -/
def acN (u : FVec Ideal S1x256 .f32) (s : Fin 16 → FVec Ideal S1x256x256 .f32) (v : Fin 16 → FVec Ideal S1x80x256 .bf16) :
    FVec Ideal S80x256 .f32 :=
  ac u (ac u (ac u (ac u (ac u (ac u (ac u (ac u (ac u (ac u (ac u (ac u (ac u (ac u (ac u (ac0 u (s 0) (v 0)) (s 1) (v 1)) (s 2) (v 2)) (s 3) (v 3)) (s 4) (v 4)) (s 5) (v 5)) (s 6) (v 6)) (s 7) (v 7)) (s 8) (v 8)) (s 9) (v 9)) (s 10) (v 10)) (s 11) (v 11)) (s 12) (v 12)) (s 13) (v 13)) (s 14) (v 14)) (s 15) (v 15)

/-- The sixteen products added one after another. -/
theorem acN_apply (u : FVec Ideal S1x256 .f32) (s : Fin 16 → FVec Ideal S1x256x256 .f32) (v : Fin 16 → FVec Ideal S1x80x256 .bf16)
    (r : Fin 80) (b : Fin 256) :
    acN u s v (ix2 r b) = ∑ k : Fin 4096, v (hi k) (ix3 0 r (lo k)) * Ideal.exp2 ((s (hi k) (ix3 0 (lo k) b) - u (ix2 0 b)) * cst) := by
  rw [sum16 (fun j i => v j (ix3 0 r i) * Ideal.exp2 ((s j (ix3 0 i b) - u (ix2 0 b)) * cst))]
  unfold acN
  simp only [ac_apply, ac0_apply, Fin.sum_univ_castSucc (n := 15), Fin.sum_univ_castSucc (n := 14), Fin.sum_univ_castSucc (n := 13),
    Fin.sum_univ_castSucc (n := 12), Fin.sum_univ_castSucc (n := 11), Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0), Fin.sum_univ_zero, zero_add]
  rfl

end Cert.KernelIdeal.Mla
-- ==== Proof.Mla.Blocks.lean ====
module

public import proofs.«01_k».proof.Proof.Mla.Parts

@[expose] public section

set_option maxRecDepth 16384

noncomputable section

open Idealize.ShloMosaic

namespace Cert.KernelIdeal.Mla

open Cert.KernelIdeal Cert.KernelIdeal.Gen

/-! # What one grid point computes from its blocks -/

/-- The logits of a pair of heads: head, key, query. -/
def SS (Q : FVec Ideal S1x256x256 .bf16) (K : FVec Ideal S1x4096x256 .bf16) (h : Fin 2) (k : Fin 4096) (b : Fin 256) : EReal :=
  ∑ l : Fin 128, K (ix3 0 k ⟨128 * h.val + l.val, by omega⟩) * Q (ix3 0 ⟨128 * h.val + l.val, by omega⟩ b)

/-- The largest logit of a query, per head of the pair. -/
def MM (Q : FVec Ideal S1x256x256 .bf16) (K : FVec Ideal S1x4096x256 .bf16) (h : Fin 2) (b : Fin 256) : EReal :=
  Finset.univ.sup fun k : Fin 4096 => SS Q K h k b

/-- One row of the weighted values of a head (row 64 of a head's 80 weighs a row of ones). -/
def WW (sp : Fin 2 → Fin 4096 → Fin 256 → EReal) (mp : Fin 2 → Fin 256 → EReal) (V : FVec Ideal S1x160x4096 .bf16)
    (h : Fin 2) (r : Fin 80) (b : Fin 256) : EReal :=
  ∑ k : Fin 4096, V (ix3 0 ⟨80 * h.val + r.val, by omega⟩ k) * Ideal.exp2 ((sp h k b - mp h b) * cst)

/-- The block stored, at a query and a lane of the pair. -/
def OO (sp : Fin 2 → Fin 4096 → Fin 256 → EReal) (mp : Fin 2 → Fin 256 → EReal) (V : FVec Ideal S1x160x4096 .bf16)
    (G : FVec Ideal S1x128 .f32) (b : Fin 256) (l : Fin 128) : EReal :=
  nrm (fun x => WW sp mp V ⟨l.val / 64, by omega⟩ ⟨x.val, by omega⟩ b) (WW sp mp V ⟨l.val / 64, by omega⟩ 64 b) ⟨l.val % 64, by omega⟩ * G (ix2 0 l)

/-- A chunk of 256 keys of one head, and the head's queries. -/
def kk (K : FVec Ideal S1x4096x256 .bf16) (h : Fin 2) (j : Fin 16) : FVec Ideal S1x256x128 .bf16 :=
  View.ld (Val := Elt Ideal) (e' := .bf16) K (Rect.unit (s := S1x4096x256) ![0, 256 * j.val, 128 * h.val] S1x256x128.size
    (by intro a; have := h.isLt; have := j.isLt; match a with
        | ⟨0, _⟩ => show 0 + 1 ≤ 1; omega
        | ⟨1, _⟩ => show 256 * j.val + 256 ≤ 4096; omega
        | ⟨2, _⟩ => show 128 * h.val + 128 ≤ 256; omega))

/-- A head's queries. -/
def qq (Q : FVec Ideal S1x256x256 .bf16) (h : Fin 2) : FVec Ideal S1x128x256 .bf16 :=
  View.ld (Val := Elt Ideal) (e' := .bf16) Q (Rect.unit (s := S1x256x256) ![0, 128 * h.val, 0] S1x128x256.size
    (by intro a; have := h.isLt; match a with
        | ⟨0, _⟩ => show 0 + 1 ≤ 1; omega
        | ⟨1, _⟩ => show 128 * h.val + 128 ≤ 256; omega
        | ⟨2, _⟩ => show 0 + 256 ≤ 256; omega))

/-- A chunk of the logits kept by the point before, of one head; the kept maximum; a chunk of the head's value rows. -/
def sk (S : FVec Ideal S2x4096x256 .f32) (h : Fin 2) (j : Fin 16) : FVec Ideal S1x256x256 .f32 :=
  View.ld (Val := Elt Ideal) (e' := .f32) S (Rect.unit (s := S2x4096x256) ![h.val, 256 * j.val, 0] S1x256x256.size
    (by intro a; have := h.isLt; have := j.isLt; match a with
        | ⟨0, _⟩ => show h.val + 1 ≤ 2; omega
        | ⟨1, _⟩ => show 256 * j.val + 256 ≤ 4096; omega
        | ⟨2, _⟩ => show 0 + 256 ≤ 256; omega))

/-- A head's maxima. -/
def mk (M : FVec Ideal S2x8x256 .f32) (h : Fin 2) : FVec Ideal S1x8x256 .f32 :=
  View.ld (Val := Elt Ideal) (e' := .f32) M (Rect.unit (s := S2x8x256) ![h.val, 0, 0] S1x8x256.size
    (by intro a; have := h.isLt; match a with
        | ⟨0, _⟩ => show h.val + 1 ≤ 2; omega
        | ⟨1, _⟩ => show 0 + 8 ≤ 8; omega
        | ⟨2, _⟩ => show 0 + 256 ≤ 256; omega))

/-- A head's value rows in one tile of keys. -/
def vk (V : FVec Ideal S1x160x4096 .bf16) (h : Fin 2) (j : Fin 16) : FVec Ideal S1x80x256 .bf16 :=
  View.ld (Val := Elt Ideal) (e' := .bf16) V (Rect.unit (s := S1x160x4096) ![0, 80 * h.val, 256 * j.val] S1x80x256.size
    (by intro a; have := h.isLt; have := j.isLt; match a with
        | ⟨0, _⟩ => show 0 + 1 ≤ 1; omega
        | ⟨1, _⟩ => show 80 * h.val + 80 ≤ 160; omega
        | ⟨2, _⟩ => show 256 * j.val + 256 ≤ 4096; omega))

/-- A key of a chunk in the block of keys. -/
theorem kk_apply (K : FVec Ideal S1x4096x256 .bf16) (h : Fin 2) (j : Fin 16) (a : Fin 256) (l : Fin 128) :
    kk K h j (ix3 0 a l) = K (ix3 0 ⟨256 * j.val + a.val, by omega⟩ ⟨128 * h.val + l.val, by omega⟩) := by
  unfold kk
  rw [View.ld_apply]
  refine congrArg K (funext fun x => Fin.ext ?_)
  match x with
  | ⟨0, _⟩ => rfl
  | ⟨1, _⟩ => show 256 * j.val + 1 * a.val = 256 * j.val + a.val; omega
  | ⟨2, _⟩ => show 128 * h.val + 1 * l.val = 128 * h.val + l.val; omega

/-- A head's queries in the block of queries. -/
theorem qq_apply (Q : FVec Ideal S1x256x256 .bf16) (h : Fin 2) (l : Fin 128) (b : Fin 256) :
    qq Q h (ix3 0 l b) = Q (ix3 0 ⟨128 * h.val + l.val, by omega⟩ b) := by
  unfold qq
  rw [View.ld_apply]
  refine congrArg Q (funext fun x => Fin.ext ?_)
  match x with
  | ⟨0, _⟩ => rfl
  | ⟨1, _⟩ => show 128 * h.val + 1 * l.val = 128 * h.val + l.val; omega
  | ⟨2, _⟩ => show 0 + 1 * b.val = b.val; omega

/-- A kept logit of a chunk. -/
theorem sk_apply (S : FVec Ideal S2x4096x256 .f32) (h : Fin 2) (j : Fin 16) (a b : Fin 256) :
    sk S h j (ix3 0 a b) = S (ix3 h ⟨256 * j.val + a.val, by omega⟩ b) := by
  unfold sk
  rw [View.ld_apply]
  refine congrArg S (funext fun x => Fin.ext ?_)
  match x with
  | ⟨0, _⟩ => show h.val + 1 * 0 = h.val; omega
  | ⟨1, _⟩ => show 256 * j.val + 1 * a.val = 256 * j.val + a.val; omega
  | ⟨2, _⟩ => show 0 + 1 * b.val = b.val; omega

/-- A kept maximum of a head. -/
theorem mk_apply (M : FVec Ideal S2x8x256 .f32) (h : Fin 2) (r : Fin 8) (b : Fin 256) : mk M h (ix3 0 r b) = M (ix3 h r b) := by
  unfold mk
  rw [View.ld_apply]
  refine congrArg M (funext fun x => Fin.ext ?_)
  match x with
  | ⟨0, _⟩ => show h.val + 1 * 0 = h.val; omega
  | ⟨1, _⟩ => show 0 + 1 * r.val = r.val; omega
  | ⟨2, _⟩ => show 0 + 1 * b.val = b.val; omega

/-- A value row of a chunk. -/
theorem vk_apply (V : FVec Ideal S1x160x4096 .bf16) (h : Fin 2) (j : Fin 16) (r : Fin 80) (a : Fin 256) :
    vk V h j (ix3 0 r a) = V (ix3 0 ⟨80 * h.val + r.val, by omega⟩ ⟨256 * j.val + a.val, by omega⟩) := by
  unfold vk
  rw [View.ld_apply]
  refine congrArg V (funext fun x => Fin.ext ?_)
  match x with
  | ⟨0, _⟩ => rfl
  | ⟨1, _⟩ => show 80 * h.val + 1 * r.val = 80 * h.val + r.val; omega
  | ⟨2, _⟩ => show 256 * j.val + 1 * a.val = 256 * j.val + a.val; omega

/-- A key is its chunk's start and its place in the chunk. -/
theorem hilo (k : Fin 4096) (h : 256 * (k.val / 256) + k.val % 256 < 4096) : (⟨256 * (k.val / 256) + k.val % 256, h⟩ : Fin 4096) = k :=
  Fin.ext (by show 256 * (k.val / 256) + k.val % 256 = k.val; omega)

/-- The chunk of logits a store keeps. -/
theorem lg_block (Q : FVec Ideal S1x256x256 .bf16) (K : FVec Ideal S1x4096x256 .bf16) (h : Fin 2) (j : Fin 16) (a b : Fin 256) :
    lg (kk K h j) (qq Q h) (ix3 0 a b) = SS Q K h ⟨256 * j.val + a.val, by omega⟩ b := by
  rw [lg_apply]
  simp only [kk_apply, qq_apply, SS]

/-- The running maximum after the sixteen chunks is the largest logit. -/
def mxN (Q : FVec Ideal S1x256x256 .bf16) (K : FVec Ideal S1x4096x256 .bf16) (h : Fin 2) : FVec Ideal S1x256 .f32 :=
  mx (mx (mx (mx (mx (mx (mx (mx (mx (mx (mx (mx (mx (mx (mx (mx bot (kk K h 0) (qq Q h)) (kk K h 1) (qq Q h)) (kk K h 2) (qq Q h)) (kk K h 3) (qq Q h)) (kk K h 4) (qq Q h)) (kk K h 5) (qq Q h)) (kk K h 6) (qq Q h)) (kk K h 7) (qq Q h)) (kk K h 8) (qq Q h)) (kk K h 9) (qq Q h)) (kk K h 10) (qq Q h)) (kk K h 11) (qq Q h)) (kk K h 12) (qq Q h)) (kk K h 13) (qq Q h)) (kk K h 14) (qq Q h)) (kk K h 15) (qq Q h)

/-- The block of maxima at an index. -/
theorem mx_block (Q : FVec Ideal S1x256x256 .bf16) (K : FVec Ideal S1x4096x256 .bf16) (h : Fin 2) (r : Fin 8) (b : Fin 256) :
    rows8 (mxN Q K h) (ix3 0 r b) = MM Q K h b := by
  rw [rows8_apply]
  refine (mxNest (kk K h) (qq Q h) b).trans ?_
  unfold MM
  refine congrArg (Finset.univ.sup) (funext fun k => ?_)
  simp only [kk_apply, qq_apply, SS, hilo]

/-- The logits and their maxima as arrays: what a point keeps for the next. -/
def ssF (Q : FVec Ideal S1x256x256 .bf16) (K : FVec Ideal S1x4096x256 .bf16) (y : S2x4096x256.Idx) : EReal := SS Q K (y 0) (y 1) (y 2)
/-- The maxima as a block. -/
def mmF (Q : FVec Ideal S1x256x256 .bf16) (K : FVec Ideal S1x4096x256 .bf16) (y : S2x8x256.Idx) : EReal := MM Q K (y 0) (y 2)

/-- The kept logits, one stored chunk. -/
theorem ssPiece (Q : FVec Ideal S1x256x256 .bf16) (K : FVec Ideal S1x4096x256 .bf16) (h : Fin 2) (j : Fin 16)
    (inb : ∀ a, (![h.val, 256 * j.val, 0] : Fin 3 → ℕ) a + (![1, 256, 256] : Fin 3 → ℕ) a ≤ S2x4096x256.size a)
    (x : (Rect.unit (s := S2x4096x256) ![h.val, 256 * j.val, 0] ![1, 256, 256] inb).shape.Idx) :
    lg (kk K h j) (qq Q h) x = ssF Q K ((Rect.unit (s := S2x4096x256) ![h.val, 256 * j.val, 0] ![1, 256, 256] inb).emb x) := by
  have hx0 : (x 0).val < 1 := (x 0).isLt
  have e : x = ix3 (0 : Fin 1) (x 1) (x 2) := funext fun a => match a with
    | ⟨0, _⟩ => Fin.ext (by show (x 0).val = 0; omega)
    | ⟨1, _⟩ => rfl
    | ⟨2, _⟩ => rfl
  refine (congrArg (lg (kk K h j) (qq Q h)) e).trans ((lg_block Q K h j (x 1) (x 2)).trans ?_)
  unfold ssF
  congr 1
  · exact Fin.ext (by show h.val = h.val + 1 * (x 0).val; omega)
  · exact Fin.ext (by show 256 * j.val + (x 1).val = 256 * j.val + 1 * (x 1).val; omega)
  · exact Fin.ext (by show (x 2).val = 0 + 1 * (x 2).val; omega)

/-- The kept maxima, one stored head. -/
theorem mmPiece (Q : FVec Ideal S1x256x256 .bf16) (K : FVec Ideal S1x4096x256 .bf16) (h : Fin 2)
    (inb : ∀ a, (![h.val, 0, 0] : Fin 3 → ℕ) a + (![1, 8, 256] : Fin 3 → ℕ) a ≤ S2x8x256.size a)
    (x : (Rect.unit (s := S2x8x256) ![h.val, 0, 0] ![1, 8, 256] inb).shape.Idx) :
    rows8 (mxN Q K h) x = mmF Q K ((Rect.unit (s := S2x8x256) ![h.val, 0, 0] ![1, 8, 256] inb).emb x) := by
  have hx0 : (x 0).val < 1 := (x 0).isLt
  have e : x = ix3 (0 : Fin 1) (x 1) (x 2) := funext fun a => match a with
    | ⟨0, _⟩ => Fin.ext (by show (x 0).val = 0; omega)
    | ⟨1, _⟩ => rfl
    | ⟨2, _⟩ => rfl
  refine (congrArg (rows8 (mxN Q K h)) e).trans ((mx_block Q K h (x 1) (x 2)).trans ?_)
  unfold mmF
  congr 1
  · exact Fin.ext (by show h.val = h.val + 1 * (x 0).val; omega)
  · exact Fin.ext (by show (x 2).val = 0 + 1 * (x 2).val; omega)

/-- One head's weighted values after the sixteen chunks. -/
def acB (S : FVec Ideal S2x4096x256 .f32) (M : FVec Ideal S2x8x256 .f32) (V : FVec Ideal S1x160x4096 .bf16) (h : Fin 2) :
    FVec Ideal S80x256 .f32 := acN (row (mk M h)) (sk S h) (vk V h)

/-- A head's accumulated rows, from the blocks. -/
theorem acB_apply (S : FVec Ideal S2x4096x256 .f32) (M : FVec Ideal S2x8x256 .f32) (V : FVec Ideal S1x160x4096 .bf16) (h : Fin 2)
    (r : Fin 80) (b : Fin 256) :
    acB S M V h (ix2 r b) = WW (fun h k b => S (ix3 h k b)) (fun h b => M (ix3 h 0 b)) V h r b := by
  unfold acB WW
  rw [acN_apply, row_apply, mk_apply]
  simp only [sk_apply, vk_apply, hilo]

/-- The block stored, from what the point before kept. -/
def out (S : FVec Ideal S2x4096x256 .f32) (M : FVec Ideal S2x8x256 .f32) (V : FVec Ideal S1x160x4096 .bf16) (G : FVec Ideal S1x128 .f32) :
    FVec Ideal S1x256x128 .f32 :=
  k0_pay3 (nm (acB S M V 0)) (qt (acB S M V 1)) (rs (qt (acB S M V 1))) G

/-- The stored block at an index. -/
theorem out_block (S : FVec Ideal S2x4096x256 .f32) (M : FVec Ideal S2x8x256 .f32) (V : FVec Ideal S1x160x4096 .bf16)
    (G : FVec Ideal S1x128 .f32) (b : Fin 256) (l : Fin 128) :
    out S M V G (ix3 0 b l) = OO (fun h k b => S (ix3 h k b)) (fun h b => M (ix3 h 0 b)) V G b l := by
  unfold out OO
  rw [fin_apply]
  simp only [acB_apply]
  by_cases h : l.val < 64
  · have e0 : (⟨l.val / 64, by omega⟩ : Fin 2) = 0 := Fin.ext (by show l.val / 64 = 0; omega)
    have e1 : (⟨l.val % 64, by omega⟩ : Fin 64) = ⟨l.val, h⟩ := Fin.ext (by show l.val % 64 = l.val; omega)
    rw [dif_pos h, e0, e1]
  · have e0 : (⟨l.val / 64, by omega⟩ : Fin 2) = 1 := Fin.ext (by show l.val / 64 = 1; omega)
    have e1 : (⟨l.val % 64, by omega⟩ : Fin 64) = ⟨l.val - 64, by omega⟩ := Fin.ext (by show l.val % 64 = l.val - 64; omega)
    rw [dif_neg h, e0, e1]

end Cert.KernelIdeal.Mla
-- ==== Proof.Mla.Step.lean ====
module

public import proofs.«01_k».proof.Proof.Mla.Blocks
public import proofs.«01_k».proof.Proof.IdealFrame.Whole
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Mla

open Cert.KernelIdeal Cert.KernelIdeal.Gen

variable (m : (ℓ : Loc nD τ sig) → Buf (Elt Ideal) ℓ)

/-- The block stored at an odd point: from the logits and maxima the point before kept. -/
theorem outB (c : Dev nD) (t : Fin cfg0.N) (h0 : ¬t.val % 257 = 0) (h1 : ¬t.val % 2 = 0) (h2 : t.val % 2 = 1) :
    (outsAt0 m c t.val t.isLt).1 = out (outsAt0 m c (t.val - 1) (Nat.lt_of_le_of_lt (Nat.sub_le _ _) t.isLt)).2.1
      (outsAt0 m c (t.val - 1) (Nat.lt_of_le_of_lt (Nat.sub_le _ _) t.isLt)).2.2.2.1 (iblk m c 2 t) (iblk m c 3 t) := by
  rw [outsAt0_B m c t h0 h1 h2]
  dsimp only
  generalize (outsAt0 m c (t.val - 1) (Nat.lt_of_le_of_lt (Nat.sub_le _ _) t.isLt)) = P
  frame_out
  simp only [read_unread_whole]
  rfl

/-- The block stored at a later even point: from the logits and maxima the point before kept. -/
theorem outC (c : Dev nD) (t : Fin cfg0.N) (h0 : ¬t.val % 257 = 0) (h1 : t.val % 2 = 0) (h2 : ¬t.val % 2 = 1) :
    (outsAt0 m c t.val t.isLt).1 = out (outsAt0 m c (t.val - 1) (Nat.lt_of_le_of_lt (Nat.sub_le _ _) t.isLt)).2.2.1
      (outsAt0 m c (t.val - 1) (Nat.lt_of_le_of_lt (Nat.sub_le _ _) t.isLt)).2.2.2.2 (iblk m c 2 t) (iblk m c 3 t) := by
  rw [outsAt0_C m c t h0 h1 h2]
  dsimp only
  generalize (outsAt0 m c (t.val - 1) (Nat.lt_of_le_of_lt (Nat.sub_le _ _) t.isLt)) = P
  frame_out
  simp only [read_unread_whole]
  rfl

/-- The logits kept at the first point. -/
theorem keepSA (c : Dev nD) (t : Fin cfg0.N) (h0 : t.val % 257 = 0) (h1 : t.val % 2 = 0) (h2 : ¬t.val % 2 = 1) (y : S2x4096x256.Idx) :
    (outsAt0 m c t.val t.isLt).2.1 y = ssF (iblk m c 0 t) (iblk m c 1 t) y := by
  rw [outsAt0_A m c t h0 h1 h2]
  dsimp only
  frame_out
  refine (View.canon_append_of_piecesOf (Val := Elt Ideal) (s := S2x4096x256) (e := .f32) (ssF (iblk m c 0 t) (iblk m c 1 t)) []
    [_, _, _, _, _, _, _, _, _, _, _, _, _, _, _, _, _, _, _, _, _, _, _, _, _, _, _, _, _, _, _, _]
    ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ y ?_)
  · exact ssPiece (iblk m c 0 t) (iblk m c 1 t) 1 15 inb_S2x4096x256_S1x256x256_1_3840_0 x
  · exact ssPiece (iblk m c 0 t) (iblk m c 1 t) 0 15 inb_S2x4096x256_S1x256x256_0_3840_0 x
  · exact ssPiece (iblk m c 0 t) (iblk m c 1 t) 1 14 inb_S2x4096x256_S1x256x256_1_3584_0 x
  · exact ssPiece (iblk m c 0 t) (iblk m c 1 t) 0 14 inb_S2x4096x256_S1x256x256_0_3584_0 x
  · exact ssPiece (iblk m c 0 t) (iblk m c 1 t) 1 13 inb_S2x4096x256_S1x256x256_1_3328_0 x
  · exact ssPiece (iblk m c 0 t) (iblk m c 1 t) 0 13 inb_S2x4096x256_S1x256x256_0_3328_0 x
  · exact ssPiece (iblk m c 0 t) (iblk m c 1 t) 1 12 inb_S2x4096x256_S1x256x256_1_3072_0 x
  · exact ssPiece (iblk m c 0 t) (iblk m c 1 t) 0 12 inb_S2x4096x256_S1x256x256_0_3072_0 x
  · exact ssPiece (iblk m c 0 t) (iblk m c 1 t) 1 11 inb_S2x4096x256_S1x256x256_1_2816_0 x
  · exact ssPiece (iblk m c 0 t) (iblk m c 1 t) 0 11 inb_S2x4096x256_S1x256x256_0_2816_0 x
  · exact ssPiece (iblk m c 0 t) (iblk m c 1 t) 1 10 inb_S2x4096x256_S1x256x256_1_2560_0 x
  · exact ssPiece (iblk m c 0 t) (iblk m c 1 t) 0 10 inb_S2x4096x256_S1x256x256_0_2560_0 x
  · exact ssPiece (iblk m c 0 t) (iblk m c 1 t) 1 9 inb_S2x4096x256_S1x256x256_1_2304_0 x
  · exact ssPiece (iblk m c 0 t) (iblk m c 1 t) 0 9 inb_S2x4096x256_S1x256x256_0_2304_0 x
  · exact ssPiece (iblk m c 0 t) (iblk m c 1 t) 1 8 inb_S2x4096x256_S1x256x256_1_2048_0 x
  · exact ssPiece (iblk m c 0 t) (iblk m c 1 t) 0 8 inb_S2x4096x256_S1x256x256_0_2048_0 x
  · exact ssPiece (iblk m c 0 t) (iblk m c 1 t) 1 7 inb_S2x4096x256_S1x256x256_1_1792_0 x
  · exact ssPiece (iblk m c 0 t) (iblk m c 1 t) 0 7 inb_S2x4096x256_S1x256x256_0_1792_0 x
  · exact ssPiece (iblk m c 0 t) (iblk m c 1 t) 1 6 inb_S2x4096x256_S1x256x256_1_1536_0 x
  · exact ssPiece (iblk m c 0 t) (iblk m c 1 t) 0 6 inb_S2x4096x256_S1x256x256_0_1536_0 x
  · exact ssPiece (iblk m c 0 t) (iblk m c 1 t) 1 5 inb_S2x4096x256_S1x256x256_1_1280_0 x
  · exact ssPiece (iblk m c 0 t) (iblk m c 1 t) 0 5 inb_S2x4096x256_S1x256x256_0_1280_0 x
  · exact ssPiece (iblk m c 0 t) (iblk m c 1 t) 1 4 inb_S2x4096x256_S1x256x256_1_1024_0 x
  · exact ssPiece (iblk m c 0 t) (iblk m c 1 t) 0 4 inb_S2x4096x256_S1x256x256_0_1024_0 x
  · exact ssPiece (iblk m c 0 t) (iblk m c 1 t) 1 3 inb_S2x4096x256_S1x256x256_1_768_0 x
  · exact ssPiece (iblk m c 0 t) (iblk m c 1 t) 0 3 inb_S2x4096x256_S1x256x256_0_768_0 x
  · exact ssPiece (iblk m c 0 t) (iblk m c 1 t) 1 2 inb_S2x4096x256_S1x256x256_1_512_0 x
  · exact ssPiece (iblk m c 0 t) (iblk m c 1 t) 0 2 inb_S2x4096x256_S1x256x256_0_512_0 x
  · exact ssPiece (iblk m c 0 t) (iblk m c 1 t) 1 1 inb_S2x4096x256_S1x256x256_1_256_0 x
  · exact ssPiece (iblk m c 0 t) (iblk m c 1 t) 0 1 inb_S2x4096x256_S1x256x256_0_256_0 x
  · exact ssPiece (iblk m c 0 t) (iblk m c 1 t) 1 0 inb_S2x4096x256_S1x256x256_1_0_0 x
  · exact ssPiece (iblk m c 0 t) (iblk m c 1 t) 0 0 inb_S2x4096x256_S1x256x256_0_0_0 x
  · exact View.cover_of_tiledL _ ![1, 256, 256] (by sl_kernel_rfl) y

/-- The maxima kept at the first point. -/
theorem keepMA (c : Dev nD) (t : Fin cfg0.N) (h0 : t.val % 257 = 0) (h1 : t.val % 2 = 0) (h2 : ¬t.val % 2 = 1) (y : S2x8x256.Idx) :
    (outsAt0 m c t.val t.isLt).2.2.2.1 y = mmF (iblk m c 0 t) (iblk m c 1 t) y := by
  rw [outsAt0_A m c t h0 h1 h2]
  dsimp only
  frame_out
  refine (View.canon_append_of_piecesOf (Val := Elt Ideal) (s := S2x8x256) (e := .f32) (mmF (iblk m c 0 t) (iblk m c 1 t)) []
    [_, _] ⟨fun x => ?_, fun x => ?_, trivial⟩ y ?_)
  · exact mmPiece (iblk m c 0 t) (iblk m c 1 t) 1 inb_S2x8x256_S1x8x256_1_0_0 x
  · exact mmPiece (iblk m c 0 t) (iblk m c 1 t) 0 inb_S2x8x256_S1x8x256_0_0_0 x
  · exact View.cover_of_tiledL _ ![1, 8, 256] (by sl_kernel_rfl) y

/-- The logits kept at an odd point. -/
theorem keepSB (c : Dev nD) (t : Fin cfg0.N) (h0 : ¬t.val % 257 = 0) (h1 : ¬t.val % 2 = 0) (h2 : t.val % 2 = 1) (y : S2x4096x256.Idx) :
    (outsAt0 m c t.val t.isLt).2.2.1 y = ssF (iblk m c 0 t) (iblk m c 1 t) y := by
  rw [outsAt0_B m c t h0 h1 h2]
  dsimp only
  generalize (outsAt0 m c (t.val - 1) (Nat.lt_of_le_of_lt (Nat.sub_le _ _) t.isLt)) = P
  frame_out
  refine (View.canon_append_of_piecesOf (Val := Elt Ideal) (s := S2x4096x256) (e := .f32) (ssF (iblk m c 0 t) (iblk m c 1 t)) []
    [_, _, _, _, _, _, _, _, _, _, _, _, _, _, _, _, _, _, _, _, _, _, _, _, _, _, _, _, _, _, _, _]
    ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ y ?_)
  · exact ssPiece (iblk m c 0 t) (iblk m c 1 t) 1 15 inb_S2x4096x256_S1x256x256_1_3840_0 x
  · exact ssPiece (iblk m c 0 t) (iblk m c 1 t) 0 15 inb_S2x4096x256_S1x256x256_0_3840_0 x
  · exact ssPiece (iblk m c 0 t) (iblk m c 1 t) 1 14 inb_S2x4096x256_S1x256x256_1_3584_0 x
  · exact ssPiece (iblk m c 0 t) (iblk m c 1 t) 0 14 inb_S2x4096x256_S1x256x256_0_3584_0 x
  · exact ssPiece (iblk m c 0 t) (iblk m c 1 t) 1 13 inb_S2x4096x256_S1x256x256_1_3328_0 x
  · exact ssPiece (iblk m c 0 t) (iblk m c 1 t) 0 13 inb_S2x4096x256_S1x256x256_0_3328_0 x
  · exact ssPiece (iblk m c 0 t) (iblk m c 1 t) 1 12 inb_S2x4096x256_S1x256x256_1_3072_0 x
  · exact ssPiece (iblk m c 0 t) (iblk m c 1 t) 0 12 inb_S2x4096x256_S1x256x256_0_3072_0 x
  · exact ssPiece (iblk m c 0 t) (iblk m c 1 t) 1 11 inb_S2x4096x256_S1x256x256_1_2816_0 x
  · exact ssPiece (iblk m c 0 t) (iblk m c 1 t) 0 11 inb_S2x4096x256_S1x256x256_0_2816_0 x
  · exact ssPiece (iblk m c 0 t) (iblk m c 1 t) 1 10 inb_S2x4096x256_S1x256x256_1_2560_0 x
  · exact ssPiece (iblk m c 0 t) (iblk m c 1 t) 0 10 inb_S2x4096x256_S1x256x256_0_2560_0 x
  · exact ssPiece (iblk m c 0 t) (iblk m c 1 t) 1 9 inb_S2x4096x256_S1x256x256_1_2304_0 x
  · exact ssPiece (iblk m c 0 t) (iblk m c 1 t) 0 9 inb_S2x4096x256_S1x256x256_0_2304_0 x
  · exact ssPiece (iblk m c 0 t) (iblk m c 1 t) 1 8 inb_S2x4096x256_S1x256x256_1_2048_0 x
  · exact ssPiece (iblk m c 0 t) (iblk m c 1 t) 0 8 inb_S2x4096x256_S1x256x256_0_2048_0 x
  · exact ssPiece (iblk m c 0 t) (iblk m c 1 t) 1 7 inb_S2x4096x256_S1x256x256_1_1792_0 x
  · exact ssPiece (iblk m c 0 t) (iblk m c 1 t) 0 7 inb_S2x4096x256_S1x256x256_0_1792_0 x
  · exact ssPiece (iblk m c 0 t) (iblk m c 1 t) 1 6 inb_S2x4096x256_S1x256x256_1_1536_0 x
  · exact ssPiece (iblk m c 0 t) (iblk m c 1 t) 0 6 inb_S2x4096x256_S1x256x256_0_1536_0 x
  · exact ssPiece (iblk m c 0 t) (iblk m c 1 t) 1 5 inb_S2x4096x256_S1x256x256_1_1280_0 x
  · exact ssPiece (iblk m c 0 t) (iblk m c 1 t) 0 5 inb_S2x4096x256_S1x256x256_0_1280_0 x
  · exact ssPiece (iblk m c 0 t) (iblk m c 1 t) 1 4 inb_S2x4096x256_S1x256x256_1_1024_0 x
  · exact ssPiece (iblk m c 0 t) (iblk m c 1 t) 0 4 inb_S2x4096x256_S1x256x256_0_1024_0 x
  · exact ssPiece (iblk m c 0 t) (iblk m c 1 t) 1 3 inb_S2x4096x256_S1x256x256_1_768_0 x
  · exact ssPiece (iblk m c 0 t) (iblk m c 1 t) 0 3 inb_S2x4096x256_S1x256x256_0_768_0 x
  · exact ssPiece (iblk m c 0 t) (iblk m c 1 t) 1 2 inb_S2x4096x256_S1x256x256_1_512_0 x
  · exact ssPiece (iblk m c 0 t) (iblk m c 1 t) 0 2 inb_S2x4096x256_S1x256x256_0_512_0 x
  · exact ssPiece (iblk m c 0 t) (iblk m c 1 t) 1 1 inb_S2x4096x256_S1x256x256_1_256_0 x
  · exact ssPiece (iblk m c 0 t) (iblk m c 1 t) 0 1 inb_S2x4096x256_S1x256x256_0_256_0 x
  · exact ssPiece (iblk m c 0 t) (iblk m c 1 t) 1 0 inb_S2x4096x256_S1x256x256_1_0_0 x
  · exact ssPiece (iblk m c 0 t) (iblk m c 1 t) 0 0 inb_S2x4096x256_S1x256x256_0_0_0 x
  · exact View.cover_of_tiledL _ ![1, 256, 256] (by sl_kernel_rfl) y

/-- The maxima kept at an odd point. -/
theorem keepMB (c : Dev nD) (t : Fin cfg0.N) (h0 : ¬t.val % 257 = 0) (h1 : ¬t.val % 2 = 0) (h2 : t.val % 2 = 1) (y : S2x8x256.Idx) :
    (outsAt0 m c t.val t.isLt).2.2.2.2 y = mmF (iblk m c 0 t) (iblk m c 1 t) y := by
  rw [outsAt0_B m c t h0 h1 h2]
  dsimp only
  generalize (outsAt0 m c (t.val - 1) (Nat.lt_of_le_of_lt (Nat.sub_le _ _) t.isLt)) = P
  frame_out
  refine (View.canon_append_of_piecesOf (Val := Elt Ideal) (s := S2x8x256) (e := .f32) (mmF (iblk m c 0 t) (iblk m c 1 t)) []
    [_, _] ⟨fun x => ?_, fun x => ?_, trivial⟩ y ?_)
  · exact mmPiece (iblk m c 0 t) (iblk m c 1 t) 1 inb_S2x8x256_S1x8x256_1_0_0 x
  · exact mmPiece (iblk m c 0 t) (iblk m c 1 t) 0 inb_S2x8x256_S1x8x256_0_0_0 x
  · exact View.cover_of_tiledL _ ![1, 8, 256] (by sl_kernel_rfl) y

/-- The logits kept at a later even point. -/
theorem keepSC (c : Dev nD) (t : Fin cfg0.N) (h0 : ¬t.val % 257 = 0) (h1 : t.val % 2 = 0) (h2 : ¬t.val % 2 = 1) (y : S2x4096x256.Idx) :
    (outsAt0 m c t.val t.isLt).2.1 y = ssF (iblk m c 0 t) (iblk m c 1 t) y := by
  rw [outsAt0_C m c t h0 h1 h2]
  dsimp only
  generalize (outsAt0 m c (t.val - 1) (Nat.lt_of_le_of_lt (Nat.sub_le _ _) t.isLt)) = P
  frame_out
  refine (View.canon_append_of_piecesOf (Val := Elt Ideal) (s := S2x4096x256) (e := .f32) (ssF (iblk m c 0 t) (iblk m c 1 t)) []
    [_, _, _, _, _, _, _, _, _, _, _, _, _, _, _, _, _, _, _, _, _, _, _, _, _, _, _, _, _, _, _, _]
    ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ y ?_)
  · exact ssPiece (iblk m c 0 t) (iblk m c 1 t) 1 15 inb_S2x4096x256_S1x256x256_1_3840_0 x
  · exact ssPiece (iblk m c 0 t) (iblk m c 1 t) 0 15 inb_S2x4096x256_S1x256x256_0_3840_0 x
  · exact ssPiece (iblk m c 0 t) (iblk m c 1 t) 1 14 inb_S2x4096x256_S1x256x256_1_3584_0 x
  · exact ssPiece (iblk m c 0 t) (iblk m c 1 t) 0 14 inb_S2x4096x256_S1x256x256_0_3584_0 x
  · exact ssPiece (iblk m c 0 t) (iblk m c 1 t) 1 13 inb_S2x4096x256_S1x256x256_1_3328_0 x
  · exact ssPiece (iblk m c 0 t) (iblk m c 1 t) 0 13 inb_S2x4096x256_S1x256x256_0_3328_0 x
  · exact ssPiece (iblk m c 0 t) (iblk m c 1 t) 1 12 inb_S2x4096x256_S1x256x256_1_3072_0 x
  · exact ssPiece (iblk m c 0 t) (iblk m c 1 t) 0 12 inb_S2x4096x256_S1x256x256_0_3072_0 x
  · exact ssPiece (iblk m c 0 t) (iblk m c 1 t) 1 11 inb_S2x4096x256_S1x256x256_1_2816_0 x
  · exact ssPiece (iblk m c 0 t) (iblk m c 1 t) 0 11 inb_S2x4096x256_S1x256x256_0_2816_0 x
  · exact ssPiece (iblk m c 0 t) (iblk m c 1 t) 1 10 inb_S2x4096x256_S1x256x256_1_2560_0 x
  · exact ssPiece (iblk m c 0 t) (iblk m c 1 t) 0 10 inb_S2x4096x256_S1x256x256_0_2560_0 x
  · exact ssPiece (iblk m c 0 t) (iblk m c 1 t) 1 9 inb_S2x4096x256_S1x256x256_1_2304_0 x
  · exact ssPiece (iblk m c 0 t) (iblk m c 1 t) 0 9 inb_S2x4096x256_S1x256x256_0_2304_0 x
  · exact ssPiece (iblk m c 0 t) (iblk m c 1 t) 1 8 inb_S2x4096x256_S1x256x256_1_2048_0 x
  · exact ssPiece (iblk m c 0 t) (iblk m c 1 t) 0 8 inb_S2x4096x256_S1x256x256_0_2048_0 x
  · exact ssPiece (iblk m c 0 t) (iblk m c 1 t) 1 7 inb_S2x4096x256_S1x256x256_1_1792_0 x
  · exact ssPiece (iblk m c 0 t) (iblk m c 1 t) 0 7 inb_S2x4096x256_S1x256x256_0_1792_0 x
  · exact ssPiece (iblk m c 0 t) (iblk m c 1 t) 1 6 inb_S2x4096x256_S1x256x256_1_1536_0 x
  · exact ssPiece (iblk m c 0 t) (iblk m c 1 t) 0 6 inb_S2x4096x256_S1x256x256_0_1536_0 x
  · exact ssPiece (iblk m c 0 t) (iblk m c 1 t) 1 5 inb_S2x4096x256_S1x256x256_1_1280_0 x
  · exact ssPiece (iblk m c 0 t) (iblk m c 1 t) 0 5 inb_S2x4096x256_S1x256x256_0_1280_0 x
  · exact ssPiece (iblk m c 0 t) (iblk m c 1 t) 1 4 inb_S2x4096x256_S1x256x256_1_1024_0 x
  · exact ssPiece (iblk m c 0 t) (iblk m c 1 t) 0 4 inb_S2x4096x256_S1x256x256_0_1024_0 x
  · exact ssPiece (iblk m c 0 t) (iblk m c 1 t) 1 3 inb_S2x4096x256_S1x256x256_1_768_0 x
  · exact ssPiece (iblk m c 0 t) (iblk m c 1 t) 0 3 inb_S2x4096x256_S1x256x256_0_768_0 x
  · exact ssPiece (iblk m c 0 t) (iblk m c 1 t) 1 2 inb_S2x4096x256_S1x256x256_1_512_0 x
  · exact ssPiece (iblk m c 0 t) (iblk m c 1 t) 0 2 inb_S2x4096x256_S1x256x256_0_512_0 x
  · exact ssPiece (iblk m c 0 t) (iblk m c 1 t) 1 1 inb_S2x4096x256_S1x256x256_1_256_0 x
  · exact ssPiece (iblk m c 0 t) (iblk m c 1 t) 0 1 inb_S2x4096x256_S1x256x256_0_256_0 x
  · exact ssPiece (iblk m c 0 t) (iblk m c 1 t) 1 0 inb_S2x4096x256_S1x256x256_1_0_0 x
  · exact ssPiece (iblk m c 0 t) (iblk m c 1 t) 0 0 inb_S2x4096x256_S1x256x256_0_0_0 x
  · exact View.cover_of_tiledL _ ![1, 256, 256] (by sl_kernel_rfl) y

/-- The maxima kept at a later even point. -/
theorem keepMC (c : Dev nD) (t : Fin cfg0.N) (h0 : ¬t.val % 257 = 0) (h1 : t.val % 2 = 0) (h2 : ¬t.val % 2 = 1) (y : S2x8x256.Idx) :
    (outsAt0 m c t.val t.isLt).2.2.2.1 y = mmF (iblk m c 0 t) (iblk m c 1 t) y := by
  rw [outsAt0_C m c t h0 h1 h2]
  dsimp only
  generalize (outsAt0 m c (t.val - 1) (Nat.lt_of_le_of_lt (Nat.sub_le _ _) t.isLt)) = P
  frame_out
  refine (View.canon_append_of_piecesOf (Val := Elt Ideal) (s := S2x8x256) (e := .f32) (mmF (iblk m c 0 t) (iblk m c 1 t)) []
    [_, _] ⟨fun x => ?_, fun x => ?_, trivial⟩ y ?_)
  · exact mmPiece (iblk m c 0 t) (iblk m c 1 t) 1 inb_S2x8x256_S1x8x256_1_0_0 x
  · exact mmPiece (iblk m c 0 t) (iblk m c 1 t) 0 inb_S2x8x256_S1x8x256_0_0_0 x
  · exact View.cover_of_tiledL _ ![1, 8, 256] (by sl_kernel_rfl) y

end Cert.KernelIdeal.Mla
-- ==== Proof.Mla.Core.lean ====
module

public import proofs.«01_k».proof.Proof.Mla.Parts

@[expose] public section

set_option maxRecDepth 16384

noncomputable section

open Idealize.ShloMosaic

namespace Cert.KernelIdeal.Mla

/-! # The attention of one query, on extended reals: the kernel's order of operations and the textbook's agree -/

/-- The softmax's scale: the reference's constant for `96 ^ (-1/2)`. -/
def sc : ℝ := 3424635 / 33554432

/-- The scale is positive. -/
theorem sc_pos : 0 < sc := by norm_num [sc]

/-- The scale's pattern is that number. -/
theorem sc_bits : Ideal.ofBits .f32 0x3DD105EC#32 = (sc : EReal) := by
  simp [Ideal.ofBits, Ideal.ieee, sc, -EReal.coe_mul]
  norm_num

/-- The kernel's factor is the scale over the logarithm of two. -/
theorem cst_eq : cst = ((sc * (Real.log 2)⁻¹ : ℝ) : EReal) :=
  IdealRules.named_const.ideal_named_scalar _ _ _ _ rfl

/-- The kernel's lane count is the real 64. -/
theorem c64_eq : c64 = ((64 : ℝ) : EReal) := by
  simp [c64, Ideal.ofBits, Ideal.ieee, -EReal.coe_mul]
  norm_num

/-- The norm's constant is a real. -/
theorem eps_real : ∃ r : ℝ, eps = (r : EReal) := by
  simp only [eps, Ideal.ofBits, Ideal.ieee]
  norm_num
  exact ⟨_, rfl⟩

/-- The pattern of one. -/
theorem one_bits : Ideal.ofBits .f32 0x3F800000#32 = 1 := by
  have : Ideal.ofBits .f32 0x3F800000#32 = ((1 : ℝ) : EReal) := by
    simp [Ideal.ofBits, Ideal.ieee, -EReal.coe_mul]
    norm_num
  rw [this, EReal.coe_one]

/-- The pattern of zero. -/
theorem zero_bits : Ideal.ofBits .f32 0x00000000#32 = 0 := by
  simp [Ideal.ofBits, Ideal.ieee]

variable {n : ℕ}

/-- The largest logit, scaled, is the largest scaled logit. -/
theorem sup_scale (s : Fin n → EReal) : (Finset.univ.sup fun k => s k * (sc : EReal)) = Finset.univ.sup s * (sc : EReal) := by
  refine (Finset.comp_sup_eq_sup_comp_of_is_total (fun x : EReal => x * (sc : EReal)) ?_ ?_).symm
  · intro a b h
    exact mul_le_mul_of_nonneg_right h (by exact_mod_cast sc_pos.le)
  · exact EReal.bot_mul_coe_of_pos sc_pos

/-- A key's weight: the kernel's power of two is the reference's exponential, a nonnegative real. -/
theorem weight (s : Fin n → EReal) (k : Fin n) : ∃ r : ℝ, 0 ≤ r ∧
    Ideal.exp2 ((s k - Finset.univ.sup s) * cst) = (r : EReal) ∧
    Ideal.exp (s k * (sc : EReal) - Finset.univ.sup s * (sc : EReal)) = (r : EReal) := by
  have hle : s k ≤ Finset.univ.sup s := Finset.le_sup (Finset.mem_univ k)
  have hc : 0 < sc * (Real.log 2)⁻¹ := mul_pos sc_pos (inv_pos.mpr (Real.log_pos one_lt_two))
  have h2 : Ideal.exp2 ⊥ = ((0 : ℝ) : EReal) := rfl
  have h1 : Ideal.exp ⊥ = ((0 : ℝ) : EReal) := rfl
  rw [cst_eq]
  generalize Finset.univ.sup s = M at hle ⊢
  generalize s k = x at hle ⊢
  induction M with
  | top => exact ⟨0, le_rfl, by rw [EReal.sub_top, EReal.bot_mul_coe_of_pos hc, h2], by
      rw [EReal.top_mul_coe_of_pos sc_pos, EReal.sub_top, h1]⟩
  | bot =>
    obtain rfl := le_bot_iff.mp hle
    exact ⟨0, le_rfl, by rw [EReal.bot_sub, EReal.bot_mul_coe_of_pos hc, h2], by
      rw [EReal.bot_mul_coe_of_pos sc_pos, EReal.bot_sub, h1]⟩
  | coe r =>
    induction x with
    | top => exact absurd hle (not_le.mpr (EReal.coe_lt_top r))
    | bot => exact ⟨0, le_rfl, by rw [EReal.bot_sub, EReal.bot_mul_coe_of_pos hc, h2], by
        rw [EReal.bot_mul_coe_of_pos sc_pos, EReal.bot_sub, h1]⟩
    | coe y =>
      refine ⟨Real.exp (y * sc - r * sc), (Real.exp_pos _).le, ?_, ?_⟩
      · rw [← EReal.coe_sub, ← EReal.coe_mul]
        show ((Real.rpow 2 ((y - r) * (sc * (Real.log 2)⁻¹)) : ℝ) : EReal) = _
        congr 1
        show (2 : ℝ) ^ ((y - r) * (sc * (Real.log 2)⁻¹)) = _
        rw [Real.rpow_def_of_pos two_pos]
        congr 1
        have : Real.log 2 ≠ 0 := (Real.log_pos one_lt_two).ne'
        field_simp
      · rw [← EReal.coe_mul, ← EReal.coe_mul, ← EReal.coe_sub]
        rfl

/-- A nonnegative real factor goes into a sum of extended reals. -/
theorem sum_mul_real (f : Fin n → EReal) (c : ℝ) (hc : 0 ≤ c) : (∑ k, f k) * (c : EReal) = ∑ k, f k * (c : EReal) := by
  have : ∀ S : Finset (Fin n), (∑ k ∈ S, f k) * (c : EReal) = ∑ k ∈ S, f k * (c : EReal) := fun S => by
    induction S using Finset.induction_on with
    | empty => simp
    | insert a S ha ih =>
      rw [Finset.sum_insert ha, Finset.sum_insert ha, ← ih]
      exact EReal.right_distrib_of_nonneg_of_ne_top (by exact_mod_cast hc) (EReal.coe_ne_top c) _ _
  exact this Finset.univ

/-- A sum of reals is a real. -/
theorem sum_real (ε : Fin n → ℝ) : (∑ k, (ε k : EReal)) = ((∑ k, ε k : ℝ) : EReal) := by
  have : ∀ S : Finset (Fin n), (∑ k ∈ S, (ε k : EReal)) = ((∑ k ∈ S, ε k : ℝ) : EReal) := fun S => by
    induction S using Finset.induction_on with
    | empty => simp
    | insert a S ha ih => rw [Finset.sum_insert ha, Finset.sum_insert ha, ih, EReal.coe_add]
  exact this Finset.univ

/-- A quotient by a positive real is a product with its inverse. -/
theorem div_pos_real (x : EReal) (c : ℝ) (hc : 0 < c) : Ideal.div x (c : EReal) = x * ((c⁻¹ : ℝ) : EReal) := by
  rw [Ideal.div, if_neg (by exact_mod_cast hc.ne'), EReal.coe_inv]

/-- Sums of products with `⊥` are `⊤`, `⊥` or zero. -/
theorem bot_sum (v : Fin n → EReal) : (∑ k, v k * ⊥) = ⊤ ∨ (∑ k, v k * ⊥) = ⊥ ∨ (∑ k, v k * ⊥) = (0 : EReal) := by
  have : ∀ S : Finset (Fin n), (∑ k ∈ S, v k * ⊥) = ⊤ ∨ (∑ k ∈ S, v k * ⊥) = ⊥ ∨ (∑ k ∈ S, v k * ⊥) = (0 : EReal) := fun S => by
    induction S using Finset.induction_on with
    | empty => simp
    | insert a S ha ih =>
      rw [Finset.sum_insert ha]
      have h : v a * ⊥ = ⊤ ∨ v a * ⊥ = ⊥ ∨ v a * ⊥ = (0 : EReal) := by
        rcases lt_trichotomy (v a) 0 with h | h | h
        · exact .inl (EReal.mul_bot_of_neg h)
        · exact .inr (.inr (by rw [h, zero_mul]))
        · exact .inr (.inl (EReal.mul_bot_of_pos h))
      rcases h with h | h | h <;> rcases ih with i | i | i <;> rw [h, i] <;> simp
  exact this Finset.univ

/-- An infinite mean square takes every lane to zero, whatever infinity the lane holds. -/
theorem nrm_zero (t : Fin 64 → EReal) (h : ∀ d, t d = ⊤ ∨ t d = ⊥ ∨ t d = 0) (d : Fin 64) :
    t d * Ideal.rsqrt (Ideal.div (∑ x, t x * t x) c64 + eps) = 0 := by
  by_cases hd : t d = 0
  · rw [hd, zero_mul]
  have hsq : t d * t d = ⊤ := by
    rcases h d with i | i | i
    · rw [i]; rfl
    · rw [i]; rfl
    · exact absurd i hd
  have hs : (∑ x, t x * t x) = ⊤ := by
    refine top_le_iff.mp (hsq ▸ Finset.single_le_sum (f := fun x => t x * t x) (fun x _ => ?_) (Finset.mem_univ d))
    rcases h x with i | i | i <;> simp [i]
  obtain ⟨e, he⟩ := eps_real
  rw [hs, c64_eq, div_pos_real _ _ (by norm_num), EReal.top_mul_coe_of_pos (by norm_num), he, EReal.top_add_coe]
  exact mul_zero _

/-- One query of one head: the kernel's normalised lane — weights with the power of two, their sum carried beside the
    weighted values and divided by last — is the norm of the softmax-weighted values. -/
theorem core (s : Fin n → EReal) (v : Fin 64 → Fin n → EReal) (d : Fin 64) :
    nrm (fun d => ∑ k, v d k * Ideal.exp2 ((s k - Finset.univ.sup s) * cst))
        (∑ k, 1 * Ideal.exp2 ((s k - Finset.univ.sup s) * cst)) d
      = (∑ k, v d k * Ideal.div (Ideal.exp (s k * (sc : EReal) - Finset.univ.sup s * (sc : EReal)))
            (∑ j, Ideal.exp (s j * (sc : EReal) - Finset.univ.sup s * (sc : EReal))))
          * Ideal.rsqrt (Ideal.div (∑ x, (∑ k, v x k * Ideal.div (Ideal.exp (s k * (sc : EReal) - Finset.univ.sup s * (sc : EReal)))
              (∑ j, Ideal.exp (s j * (sc : EReal) - Finset.univ.sup s * (sc : EReal))))
            * (∑ k, v x k * Ideal.div (Ideal.exp (s k * (sc : EReal) - Finset.univ.sup s * (sc : EReal)))
              (∑ j, Ideal.exp (s j * (sc : EReal) - Finset.univ.sup s * (sc : EReal))))) c64 + eps) := by
  choose ε hε h2 h1 using weight s
  simp only [h2, h1, one_mul]
  have hl : (∑ k, (ε k : EReal)) = ((∑ k, ε k : ℝ) : EReal) := by
    exact sum_real ε
  rw [hl]
  rcases (Finset.sum_nonneg fun k _ => hε k : 0 ≤ ∑ k, ε k).eq_or_lt with h0 | hpos
  · have hz : ∀ k, ε k = 0 := fun k =>
      (Finset.sum_eq_zero_iff_of_nonneg fun k _ => hε k).mp h0.symm k (Finset.mem_univ k)
    have hb : Ideal.div 0 0 = ⊥ := by simp [Ideal.div]
    simp only [hz, Finset.sum_const_zero, EReal.coe_zero, mul_zero, nrm, hb]
    rw [nrm_zero _ (fun d => bot_sum (v d)) d]
    exact nrm_zero (fun _ => ⊥) (fun _ => .inr (.inl rfl)) d
  · have ho : ∀ x, Ideal.div (∑ k, v x k * (ε k : EReal)) ((∑ k, ε k : ℝ) : EReal)
        = ∑ k, v x k * Ideal.div (ε k : EReal) ((∑ k, ε k : ℝ) : EReal) := fun x => by
      rw [div_pos_real _ _ hpos, sum_mul_real _ _ (inv_nonneg.mpr hpos.le)]
      exact Finset.sum_congr rfl fun k _ => by rw [div_pos_real _ _ hpos, mul_assoc]
    simp only [nrm, ho]

end Cert.KernelIdeal.Mla
-- ==== Proof.Mla.Ref.lean ====
module

public import proofs.«01_k».proof.Proof.Mla.Core
public import proofs.«01_k».proof.Proof.Gen.ReferenceIdeal.Read

@[expose] public section

set_option maxRecDepth 16384

noncomputable section

open Idealize.ShloMosaic

namespace Cert.KernelIdeal.Mla

open Cert.KernelIdeal Cert.ReferenceIdeal.Read

/-- The reference's logit of a query and a key before the scale: the heads' own lanes and the shared rotated ones. -/
def LG (qn : FVec Ideal S4x4096x8x64 .f32) (qr : FVec Ideal S4x4096x8x32 .f32) (kn : FVec Ideal S4x4096x8x64 .f32)
    (kr : FVec Ideal S4x4096x32 .f32) (b : Fin 4) (q : Fin 4096) (h : Fin 8) (k : Fin 4096) : EReal :=
  (∑ l : Fin 64, qn (ix4 b q h l) * kn (ix4 b k h l)) + ∑ l : Fin 32, kr (ix3 b k l) * qr (ix4 b q h l)

/-- The softmax's weight of a key. -/
def PR (s : Fin 4096 → EReal) (k : Fin 4096) : EReal :=
  Ideal.div (Ideal.exp (s k * (sc : EReal) - Finset.univ.sup s * (sc : EReal)))
    (∑ j, Ideal.exp (s j * (sc : EReal) - Finset.univ.sup s * (sc : EReal)))

/-- The reference's maximum is the largest scaled logit. -/
theorem ref_max (s : Fin 4096 → EReal) :
    max (⊥ : EReal) (Finset.fold max (⊥ : EReal) (fun k => s k * (sc : EReal)) Finset.univ) = Finset.univ.sup s * (sc : EReal) := by
  rw [← sup_scale]
  exact max_eq_right bot_le

/-- The reference's scaled logit. -/
theorem ref_logit (qn : FVec Ideal S4x4096x8x64 .f32) (qr : FVec Ideal S4x4096x8x32 .f32) (kn : FVec Ideal S4x4096x8x64 .f32)
    (kr : FVec Ideal S4x4096x32 .f32) (b : Fin 4) (h : Fin 8) (q k : Fin 4096) :
    val_main_v5 (F := Ideal) qn qr kn kr (ix4 b h q k) = LG qn qr kn kr b q h k * (sc : EReal) := by
  pointwise [val_main_v5, val_main_v4, val_main_v3, val_main_v2, val_main_v1, val_main_v0, val_main_cst]
  simp only [sc_bits]
  rfl

/-- The reference's maximum over the keys. -/
theorem ref_v6 (qn : FVec Ideal S4x4096x8x64 .f32) (qr : FVec Ideal S4x4096x8x32 .f32) (kn : FVec Ideal S4x4096x8x64 .f32)
    (kr : FVec Ideal S4x4096x32 .f32) (b : Fin 4) (h : Fin 8) (q : Fin 4096) :
    val_main_v6 (F := Ideal) qn qr kn kr (ix3 b h q)
      = Finset.fold max ⊥ (fun k : Fin 4096 => val_main_v5 (F := Ideal) qn qr kn kr (ix4 b h q k)) Finset.univ := by
  pointwise [val_main_v6, val_main_cst_0]
  simp only [ninf]

/-- Where the second maximum begins. -/
theorem ref_v7 (i : Cert.ReferenceIdeal.S4x8x4096.Idx) : val_main_v7 (F := Ideal) i = ⊥ := by
  rw [val_main_v7_apply, val_main_cst_1_apply]
  exact ninf

/-- The maximum the reference subtracts. -/
theorem ref_v8 (qn : FVec Ideal S4x4096x8x64 .f32) (qr : FVec Ideal S4x4096x8x32 .f32) (kn : FVec Ideal S4x4096x8x64 .f32)
    (kr : FVec Ideal S4x4096x32 .f32) (b : Fin 4) (h : Fin 8) (q : Fin 4096) :
    val_main_v8 (F := Ideal) qn qr kn kr (ix3 b h q) = Finset.univ.sup (LG qn qr kn kr b q h) * (sc : EReal) := by
  rw [val_main_v8_apply, ref_v7, ref_v6]
  simp only [ref_logit]
  exact ref_max _

/-- The softmax's quotient, from its logits and maximum. -/
theorem ref_quot (qn : FVec Ideal S4x4096x8x64 .f32) (qr : FVec Ideal S4x4096x8x32 .f32) (kn : FVec Ideal S4x4096x8x64 .f32)
    (kr : FVec Ideal S4x4096x32 .f32) (b : Fin 4) (h : Fin 8) (q k : Fin 4096) :
    val_main_v16 (F := Ideal) qn qr kn kr (ix4 b h q k)
      = Ideal.div (Ideal.exp (val_main_v5 (F := Ideal) qn qr kn kr (ix4 b h q k) - val_main_v8 (F := Ideal) qn qr kn kr (ix3 b h q)))
          (∑ j, Ideal.exp (val_main_v5 (F := Ideal) qn qr kn kr (ix4 b h q j) - val_main_v8 (F := Ideal) qn qr kn kr (ix3 b h q))) := by
  pointwise [val_main_v16, val_main_v15, val_main_v14, val_main_v13, val_main_v12, val_main_v11, val_main_v10, val_main_v9, val_main_cst_2]

/-- The reference's attention weight. -/
theorem ref_weight (qn : FVec Ideal S4x4096x8x64 .f32) (qr : FVec Ideal S4x4096x8x32 .f32) (kn : FVec Ideal S4x4096x8x64 .f32)
    (kr : FVec Ideal S4x4096x32 .f32) (b : Fin 4) (h : Fin 8) (q k : Fin 4096) :
    val_main_v16 (F := Ideal) qn qr kn kr (ix4 b h q k) = PR (LG qn qr kn kr b q h) k := by
  rw [ref_quot, ref_v8]
  simp only [ref_logit, PR]

/-- The reference's result at a head's lane: the norm of the weighted values, times the gain. -/
theorem ref_apply (qn : FVec Ideal S4x4096x8x64 .f32) (qr : FVec Ideal S4x4096x8x32 .f32) (kn : FVec Ideal S4x4096x8x64 .f32)
    (kr : FVec Ideal S4x4096x32 .f32) (v : FVec Ideal S4x4096x8x64 .f32) (g : FVec Ideal S512 .f32) (b : Fin 4) (q : Fin 4096) (h : Fin 8) (d : Fin 64) :
    val_main_v32 (F := Ideal) qn qr kn kr v g (ix3 b q ⟨64 * h.val + d.val, by omega⟩)
      = (∑ k, v (ix4 b k h d) * PR (LG qn qr kn kr b q h) k)
          * Ideal.rsqrt (Ideal.div (∑ x, (∑ k, v (ix4 b k h x) * PR (LG qn qr kn kr b q h) k) * (∑ k, v (ix4 b k h x) * PR (LG qn qr kn kr b q h) k)) c64 + eps)
          * g (ix1 ⟨64 * h.val + d.val, by omega⟩) := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_cst_5, val_main_cst_4, val_main_cst_3]
  simp only [ref_weight]
  rfl

end Cert.KernelIdeal.Mla
-- ==== Proof.Mla.Host.lean ====
module

public import proofs.«01_k».proof.Proof.Mla.Core
public import proofs.«01_k».proof.Proof.IdealFrame.Whole
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Mla

/-! # The arrays the attention call is handed, from the heads' queries, keys and values -/

open Cert.KernelIdeal Cert.KernelIdeal.Gen

/-- A head's 128 lanes: its own 64, the rotated 32, 32 more. -/
def lanes (x : FVec Ideal S4x4096x8x64 .f32) (y z : FVec Ideal S4x4096x8x32 .f32) : FVec Ideal S4x4096x8x128 .f32 :=
  concatenate S4x4096x8x128 3 [⟨S4x4096x8x64, x⟩, ⟨S4x4096x8x32, y⟩, ⟨S4x4096x8x32, z⟩]
    concatenates_S4x4096x8x64_S4x4096x8x32_S4x4096x8x32_S4x4096x8x128_d3

/-- The 32 lanes of zeros. -/
def zlanes : FVec Ideal S4x4096x8x32 .f32 :=
  broadcastInDim S4x4096x8x32 ![] bcast_S_S4x4096x8x32 (constant (F := Ideal) S_ .f32 0x00000000#32)

/-- The queries as handed over: a head's lanes by tokens. -/
def qA (qn : FVec Ideal S4x4096x8x64 .f32) (qr : FVec Ideal S4x4096x8x32 .f32) : FVec Ideal S4x1024x4096 .bf16 :=
  truncf .bf16 (shapeCast S4x1024x4096 (transpose S4x8x128x4096 [0, 2, 3, 1] (lanes qn qr zlanes)
    transposes_S4x4096x8x128_S4x8x128x4096_0_2_3_1) shapeCasts_S4x8x128x4096_S4x1024x4096) bitsLt_bf16_f32

/-- The rotated key, the same for every head. -/
def krh (kr : FVec Ideal S4x4096x32 .f32) : FVec Ideal S4x4096x8x32 .f32 :=
  broadcastInDim S4x4096x8x32 ![0, 1, 2, 3] bcast_S4x4096x1x32_S4x4096x8x32_0_1_2_3
    (broadcastInDim S4x4096x1x32 ![0, 1, 3] bcast_S4x4096x32_S4x4096x1x32_0_1_3 kr)

/-- The keys as handed over: tokens by a head's lanes. -/
def kA (kn : FVec Ideal S4x4096x8x64 .f32) (kr : FVec Ideal S4x4096x32 .f32) : FVec Ideal S4x4096x1024 .bf16 :=
  truncf .bf16 (shapeCast S4x4096x1024 (lanes kn (krh kr) zlanes) shapeCasts_S4x4096x8x128_S4x4096x1024) bitsLt_bf16_f32

/-- A head's 80 rows: its 64 values, a one, zeros. -/
def vrows (v : FVec Ideal S4x4096x8x64 .f32) (o : FVec Ideal S4x4096x8x1 .f32) (z : FVec Ideal S4x4096x8x15 .f32) : FVec Ideal S4x4096x8x80 .f32 :=
  concatenate S4x4096x8x80 3 [⟨S4x4096x8x64, v⟩, ⟨S4x4096x8x1, o⟩, ⟨S4x4096x8x15, z⟩]
    concatenates_S4x4096x8x64_S4x4096x8x1_S4x4096x8x15_S4x4096x8x80_d3

/-- The row of ones. -/
def onesRow : FVec Ideal S4x4096x8x1 .f32 :=
  broadcastInDim S4x4096x8x1 ![] bcast_S_S4x4096x8x1 (constant (F := Ideal) S_ .f32 0x3F800000#32)

/-- The rows of zeros. -/
def zrows : FVec Ideal S4x4096x8x15 .f32 :=
  broadcastInDim S4x4096x8x15 ![] bcast_S_S4x4096x8x15 (constant (F := Ideal) S_ .f32 0x00000000#32)

/-- The values as handed over: a head's rows by tokens. -/
def vA (v : FVec Ideal S4x4096x8x64 .f32) : FVec Ideal S4x640x4096 .bf16 :=
  truncf .bf16 (shapeCast S4x640x4096 (transpose S4x8x80x4096 [0, 2, 3, 1] (vrows v onesRow zrows)
    transposes_S4x4096x8x80_S4x8x80x4096_0_2_3_1) shapeCasts_S4x8x80x4096_S4x640x4096) bitsLt_bf16_f32

/-- The gain as handed over: one row. -/
def gA (g : FVec Ideal S512 .f32) : FVec Ideal S1x512 .f32 := shapeCast S1x512 g shapeCasts_S512_S1x512

/-- The first 64 lanes of a head. -/
theorem lanes_own (x : FVec Ideal S4x4096x8x64 .f32) (y z : FVec Ideal S4x4096x8x32 .f32) (B : Fin 4) (H : Fin 8) (l : Fin 64) (q : Fin 4096) :
    lanes x y z (ix4 B q H ⟨l.val, by omega⟩) = x (ix4 B q H l) := by
  pointwise [lanes]

/-- The 32 rotated lanes of a head. -/
theorem lanes_rot (x : FVec Ideal S4x4096x8x64 .f32) (y z : FVec Ideal S4x4096x8x32 .f32) (B : Fin 4) (H : Fin 8) (l : Fin 32) (q : Fin 4096) :
    lanes x y z (ix4 B q H ⟨64 + l.val, by omega⟩) = y (ix4 B q H l) := by
  pointwise [lanes]

/-- The 32 lanes that fill a head up. -/
theorem lanes_pad (x : FVec Ideal S4x4096x8x64 .f32) (y z : FVec Ideal S4x4096x8x32 .f32) (B : Fin 4) (H : Fin 8) (l : Fin 32) (q : Fin 4096) :
    lanes x y z (ix4 B q H ⟨96 + l.val, by omega⟩) = z (ix4 B q H l) := by
  pointwise [lanes]
  rw [dif_neg (by omega), dif_neg (by omega)]
  exact congrArg (fun i => z (ix4 B q H i)) (Fin.ext (by show 96 + l.val - 64 - 32 = l.val; omega))

/-- The filling lanes are zero. -/
theorem zlanes_apply (B : Fin 4) (H : Fin 8) (l : Fin 32) (q : Fin 4096) : zlanes (ix4 B q H l) = 0 := by
  pointwise [zlanes, zero_bits]

/-- Every head has the same rotated key. -/
theorem krh_apply (kr : FVec Ideal S4x4096x32 .f32) (B : Fin 4) (H : Fin 8) (l : Fin 32) (q : Fin 4096) :
    krh kr (ix4 B q H l) = kr (ix3 B q l) := by
  pointwise [krh]

/-- The queries' array at a head's lane and a token. -/
theorem qA_lanes (X : FVec Ideal S4x4096x8x128 .f32) (B : Fin 4) (H : Fin 8) (l : Fin 128) (q : Fin 4096) :
    (truncf .bf16 (shapeCast S4x1024x4096 (transpose S4x8x128x4096 [0, 2, 3, 1] X
      transposes_S4x4096x8x128_S4x8x128x4096_0_2_3_1) shapeCasts_S4x8x128x4096_S4x1024x4096) bitsLt_bf16_f32 : FVec Ideal S4x1024x4096 .bf16)
      (ix3 B ⟨128 * H.val + l.val, by omega⟩ q) = X (ix4 B q H l) := by
  pointwise

/-- The keys' array at a token and a head's lane. -/
theorem kA_lanes (X : FVec Ideal S4x4096x8x128 .f32) (B : Fin 4) (H : Fin 8) (l : Fin 128) (q : Fin 4096) :
    (truncf .bf16 (shapeCast S4x4096x1024 X shapeCasts_S4x4096x8x128_S4x4096x1024) bitsLt_bf16_f32 : FVec Ideal S4x4096x1024 .bf16)
      (ix3 B q ⟨128 * H.val + l.val, by omega⟩) = X (ix4 B q H l) := by
  pointwise

/-- The values' array at a head's row and a token. -/
theorem vA_rows (X : FVec Ideal S4x4096x8x80 .f32) (B : Fin 4) (H : Fin 8) (r : Fin 80) (q : Fin 4096) :
    (truncf .bf16 (shapeCast S4x640x4096 (transpose S4x8x80x4096 [0, 2, 3, 1] X
      transposes_S4x4096x8x80_S4x8x80x4096_0_2_3_1) shapeCasts_S4x8x80x4096_S4x640x4096) bitsLt_bf16_f32 : FVec Ideal S4x640x4096 .bf16)
      (ix3 B ⟨80 * H.val + r.val, by omega⟩ q) = X (ix4 B q H r) := by
  pointwise

/-- The first 64 rows of a head are its values. -/
theorem vrows_val (v : FVec Ideal S4x4096x8x64 .f32) (o : FVec Ideal S4x4096x8x1 .f32) (z : FVec Ideal S4x4096x8x15 .f32)
    (B : Fin 4) (H : Fin 8) (d : Fin 64) (q : Fin 4096) : vrows v o z (ix4 B q H ⟨d.val, by omega⟩) = v (ix4 B q H d) := by
  pointwise [vrows]

/-- The row after the values is the row of ones. -/
theorem vrows_one (v : FVec Ideal S4x4096x8x64 .f32) (o : FVec Ideal S4x4096x8x1 .f32) (z : FVec Ideal S4x4096x8x15 .f32)
    (B : Fin 4) (H : Fin 8) (q : Fin 4096) : vrows v o z (ix4 B q H 64) = o (ix4 B q H 0) := by
  pointwise [vrows]

/-- The row of ones is one. -/
theorem ones_apply (B : Fin 4) (H : Fin 8) (q : Fin 4096) : onesRow (ix4 B q H 0) = 1 := by
  pointwise [onesRow, one_bits]

/-- A value's row. -/
theorem vA_val (v : FVec Ideal S4x4096x8x64 .f32) (B : Fin 4) (H : Fin 8) (d : Fin 64) (k : Fin 4096) (R : Fin 640) (hR : R.val = 80 * H.val + d.val) :
    vA v (ix3 B R k) = v (ix4 B k H d) := by
  rw [show R = ⟨80 * H.val + (⟨d.val, by omega⟩ : Fin 80).val, by show 80 * H.val + d.val < 640; omega⟩ from Fin.ext hR]
  exact (vA_rows (vrows v onesRow zrows) B H ⟨d.val, by omega⟩ k).trans (vrows_val v onesRow zrows B H d k)

/-- The row of ones. -/
theorem vA_one (v : FVec Ideal S4x4096x8x64 .f32) (B : Fin 4) (H : Fin 8) (k : Fin 4096) (R : Fin 640) (hR : R.val = 80 * H.val + 64) :
    vA v (ix3 B R k) = 1 := by
  rw [show R = ⟨80 * H.val + (64 : Fin 80).val, by show 80 * H.val + 64 < 640; omega⟩ from Fin.ext hR]
  exact (vA_rows (vrows v onesRow zrows) B H 64 k).trans ((vrows_one v onesRow zrows B H k).trans (ones_apply B H k))

/-- The gain's row. -/
theorem gA_apply (g : FVec Ideal S512 .f32) (L : Fin 512) : gA g (ix2 0 L) = g (ix1 L) := by
  pointwise [gA]

/-- A sum over a head's lanes, in its three parts. -/
theorem sum_lanes (f : Fin 128 → EReal) :
    ∑ l, f l = (∑ l : Fin 64, f ⟨l.val, by omega⟩) + ((∑ l : Fin 32, f ⟨64 + l.val, by omega⟩) + ∑ l : Fin 32, f ⟨96 + l.val, by omega⟩) := by
  refine (Fin.sum_univ_add (a := 64) (b := 64) f).trans (congrArg₂ (· + ·) rfl ?_)
  refine (Fin.sum_univ_add (a := 32) (b := 32) fun i => f (Fin.natAdd 64 i)).trans (congrArg₂ (· + ·) rfl ?_)
  refine Finset.sum_congr rfl fun l _ => congrArg f (Fin.ext ?_)
  show 64 + (32 + l.val) = 96 + l.val
  omega

/-- The queries' array, from the two arguments. -/
theorem qA_apply (qn : FVec Ideal S4x4096x8x64 .f32) (qr : FVec Ideal S4x4096x8x32 .f32) (B : Fin 4) (H : Fin 8) (l : Fin 128) (q : Fin 4096) :
    qA qn qr (ix3 B ⟨128 * H.val + l.val, by omega⟩ q) = lanes qn qr zlanes (ix4 B q H l) :=
  qA_lanes _ B H l q

/-- The keys' array, from the two arguments. -/
theorem kA_apply (kn : FVec Ideal S4x4096x8x64 .f32) (kr : FVec Ideal S4x4096x32 .f32) (B : Fin 4) (H : Fin 8) (l : Fin 128) (q : Fin 4096) :
    kA kn kr (ix3 B q ⟨128 * H.val + l.val, by omega⟩) = lanes kn (krh kr) zlanes (ix4 B q H l) :=
  kA_lanes _ B H l q

/-- A key's lanes against a query's. -/
theorem logit (qn : FVec Ideal S4x4096x8x64 .f32) (qr : FVec Ideal S4x4096x8x32 .f32) (kn : FVec Ideal S4x4096x8x64 .f32)
    (kr : FVec Ideal S4x4096x32 .f32) (B : Fin 4) (H : Fin 8) (q k : Fin 4096) :
    (∑ l : Fin 128, kA kn kr (ix3 B k ⟨128 * H.val + l.val, by omega⟩) * qA qn qr (ix3 B ⟨128 * H.val + l.val, by omega⟩ q))
      = (∑ l : Fin 64, qn (ix4 B q H l) * kn (ix4 B k H l)) + ∑ l : Fin 32, kr (ix3 B k l) * qr (ix4 B q H l) := by
  simp only [kA_apply, qA_apply]
  rw [sum_lanes]
  simp only [lanes_own, lanes_rot, lanes_pad, krh_apply, zlanes_apply, mul_zero, Finset.sum_const_zero, add_zero]
  exact congrArg₂ (· + ·) (Finset.sum_congr rfl fun l _ => mul_comm _ _) rfl

variable (m : (ℓ : Loc nD τ sig) → Buf (Elt Ideal) ℓ)

/-- What the call finds as its queries. -/
theorem q_entry (c : Dev nD) : V m c main_v4 = qA (m ((c : Thread nD τ).loc main_arg0)) (m ((c : Thread nD τ).loc main_arg1)) := by
  unfold V
  after_reads_simp
  rfl

/-- What the call finds as its keys. -/
theorem k_entry (c : Dev nD) : V m c main_v10 = kA (m ((c : Thread nD τ).loc main_arg2)) (m ((c : Thread nD τ).loc main_arg3)) := by
  unfold V
  after_reads_simp
  rfl

/-- What the call finds as its value rows. -/
theorem v_entry (c : Dev nD) : V m c main_v16 = vA (m ((c : Thread nD τ).loc main_arg4)) := by
  unfold V
  after_reads_simp
  rfl

/-- What the call finds as its gain. -/
theorem g_entry (c : Dev nD) : V m c main_v17 = gA (m ((c : Thread nD τ).loc main_arg5)) := by
  unfold V
  after_reads_simp
  rfl

end Cert.KernelIdeal.Mla
-- ==== Proof.Mla.Final.lean ====
module

public import proofs.«01_k».proof.Proof.Mla.Step
public import proofs.«01_k».proof.Proof.Mla.Ref
public import proofs.«01_k».proof.Proof.Mla.Host
public import proofs.«01_k».proof.Proof.IdealFrame.Value

@[expose] public section

set_option maxRecDepth 16384

noncomputable section

open Idealize.ShloMosaic Idealize.ShloMosaic.TcCoe Idealize.SL.Sem
open Idealize.ShloMosaic.Pipeline (Dat)

namespace Cert.KernelIdeal.Mla

open Cert.KernelIdeal Cert.KernelIdeal.Gen

variable (m : (ℓ : Loc nD τ sig) → Buf (Elt Ideal) ℓ)

/-- The blocks of the queries and keys a point before the last holds: sequence `t / 64`, pair of heads `t / 16 % 4`, tile `t % 16`. -/
theorem idxQ : ∀ t : Fin cfg0.N, t.val < 256 → win0_0.index t = ![t.val / 64, t.val / 16 % 4, t.val % 16]
    ∧ win0_1.index t = ![t.val / 64, 0, t.val / 16 % 4] :=
  (by decide +kernel : ∀ t : Fin grid0.N, _)

/-- The blocks of the values, the gain and the result: the point before's. -/
theorem idxV : ∀ t : Fin cfg0.N, win0_2.index t = ![(t.val - 1) / 64, (t.val - 1) / 16 % 4, 0]
    ∧ win0_3.index t = ![0, (t.val - 1) / 16 % 4]
    ∧ win0_4.index t = ![(t.val - 1) / 64, (t.val - 1) % 16, (t.val - 1) / 16 % 4] :=
  (by decide +kernel : ∀ t : Fin grid0.N, _)

/-- A point that writes its result back is not the first. -/
theorem pos_of_flush : ∀ t : Fin cfg0.N, win0_4.flush t = true → 0 < t.val :=
  (by decide +kernel : ∀ t : Fin grid0.N, _)

/-! ## The blocks, read off the arrays -/

/-- A block of queries, read from any array in its place. -/
theorem q_read (X : FVec Ideal S4x1024x4096 .bf16) (t : Fin cfg0.N) (ht : t.val < 256) (r b : Fin 256) :
    ((cfg0.win 0).blk t).view.read (Elt Ideal) X (ix3 0 r b)
      = X (ix3 ⟨t.val / 64, by omega⟩ ⟨256 * (t.val / 16 % 4) + r.val, by omega⟩ ⟨256 * (t.val % 16) + b.val, by omega⟩) := by
  refine congrArg X ?_
  blk_ext [idxQ t ht]

/-- A block of keys, read from any array in its place. -/
theorem k_read (X : FVec Ideal S4x4096x1024 .bf16) (t : Fin cfg0.N) (ht : t.val < 256) (k : Fin 4096) (r : Fin 256) :
    ((cfg0.win 1).blk t).view.read (Elt Ideal) X (ix3 0 k r)
      = X (ix3 ⟨t.val / 64, by omega⟩ k ⟨256 * (t.val / 16 % 4) + r.val, by omega⟩) := by
  refine congrArg X ?_
  blk_ext [idxQ t ht]

/-- The grid has 257 points. -/
theorem lt_N (t : Fin cfg0.N) : t.val < 257 := t.isLt

/-- A block of value rows, read from any array in its place. -/
theorem v_read (X : FVec Ideal S4x640x4096 .bf16) (t : Fin cfg0.N) (r : Fin 160) (k : Fin 4096) :
    ((cfg0.win 2).blk t).view.read (Elt Ideal) X (ix3 0 r k)
      = X (ix3 ⟨(t.val - 1) / 64, by have := lt_N t; omega⟩ ⟨160 * ((t.val - 1) / 16 % 4) + r.val, by omega⟩ k) := by
  refine congrArg X ?_
  blk_ext [idxV t]

/-- A block of the gain, read from any array in its place. -/
theorem g_read (X : FVec Ideal S1x512 .f32) (t : Fin cfg0.N) (l : Fin 128) :
    ((cfg0.win 3).blk t).view.read (Elt Ideal) X (ix2 0 l) = X (ix2 0 ⟨128 * ((t.val - 1) / 16 % 4) + l.val, by omega⟩) := by
  refine congrArg X ?_
  blk_ext [idxV t]

/-- The block of queries that a point holds. -/
theorem q_block (c : Dev nD) (t : Fin cfg0.N) (ht : t.val < 256) (r b : Fin 256) :
    iblk m c 0 t (ix3 0 r b)
      = qA (m ((c : Thread nD τ).loc main_arg0)) (m ((c : Thread nD τ).loc main_arg1))
          (ix3 ⟨t.val / 64, by omega⟩ ⟨256 * (t.val / 16 % 4) + r.val, by omega⟩ ⟨256 * (t.val % 16) + b.val, by omega⟩) := by
  rw [← q_entry m c]
  unfold iblk
  generalize V m c = W
  exact q_read (W main_v4) t ht r b

/-- The block of keys that a point holds. -/
theorem k_block (c : Dev nD) (t : Fin cfg0.N) (ht : t.val < 256) (k : Fin 4096) (r : Fin 256) :
    iblk m c 1 t (ix3 0 k r)
      = kA (m ((c : Thread nD τ).loc main_arg2)) (m ((c : Thread nD τ).loc main_arg3))
          (ix3 ⟨t.val / 64, by omega⟩ k ⟨256 * (t.val / 16 % 4) + r.val, by omega⟩) := by
  rw [← k_entry m c]
  unfold iblk
  generalize V m c = W
  exact k_read (W main_v10) t ht k r

/-- The block of value rows that a point holds. -/
theorem v_block (c : Dev nD) (t : Fin cfg0.N) (r : Fin 160) (k : Fin 4096) :
    iblk m c 2 t (ix3 0 r k)
      = vA (m ((c : Thread nD τ).loc main_arg4))
          (ix3 ⟨(t.val - 1) / 64, by have := lt_N t; omega⟩ ⟨160 * ((t.val - 1) / 16 % 4) + r.val, by omega⟩ k) := by
  rw [← v_entry m c]
  unfold iblk
  generalize V m c = W
  exact v_read (W main_v16) t r k

/-- The block of the gain that a point holds. -/
theorem g_block (c : Dev nD) (t : Fin cfg0.N) (l : Fin 128) :
    iblk m c 3 t (ix2 0 l)
      = gA (m ((c : Thread nD τ).loc main_arg5)) (ix2 0 ⟨128 * ((t.val - 1) / 16 % 4) + l.val, by omega⟩) := by
  rw [← g_entry m c]
  unfold iblk
  generalize V m c = W
  exact g_read (W main_v17) t l

/-! ## One point -/

/-- The logits a point keeps are the reference's, unscaled. -/
theorem SS_eq (c : Dev nD) (t : Fin cfg0.N) (ht : t.val < 256) (h : Fin 2) (k : Fin 4096) (b : Fin 256) :
    SS (iblk m c 0 t) (iblk m c 1 t) h k b
      = LG (m ((c : Thread nD τ).loc main_arg0)) (m ((c : Thread nD τ).loc main_arg1)) (m ((c : Thread nD τ).loc main_arg2))
          (m ((c : Thread nD τ).loc main_arg3)) ⟨t.val / 64, by omega⟩ ⟨256 * (t.val % 16) + b.val, by omega⟩
          ⟨2 * (t.val / 16 % 4) + h.val, by omega⟩ k := by
  refine Eq.trans ?_ (logit _ _ _ _ ⟨t.val / 64, by omega⟩ ⟨2 * (t.val / 16 % 4) + h.val, by omega⟩ ⟨256 * (t.val % 16) + b.val, by omega⟩ k)
  unfold SS
  refine Finset.sum_congr rfl fun l _ => ?_
  rw [k_block m c t ht, q_block m c t ht]
  have e : ∀ p p', (⟨256 * (t.val / 16 % 4) + (128 * h.val + l.val), p⟩ : Fin 1024) = ⟨128 * (2 * (t.val / 16 % 4) + h.val) + l.val, p'⟩ :=
    fun p p' => Fin.ext (by show 256 * (t.val / 16 % 4) + (128 * h.val + l.val) = 128 * (2 * (t.val / 16 % 4) + h.val) + l.val; omega)
  exact congrArg₂ (· * ·) (congrArg (fun x => kA _ _ (ix3 _ k x)) (e _ _)) (congrArg (fun x => qA _ _ (ix3 _ x _)) (e _ _))

/-- The block stored at any point after the first, from the blocks held there and at the point before. -/
theorem out_eq (c : Dev nD) (t : Fin cfg0.N) (h0 : 0 < t.val) (b : Fin 256) (l : Fin 128) :
    (outsAt0 m c t.val t.isLt).1 (ix3 0 b l)
      = OO (SS (iblk m c 0 ⟨t.val - 1, Nat.lt_of_le_of_lt (Nat.sub_le _ _) t.isLt⟩) (iblk m c 1 ⟨t.val - 1, Nat.lt_of_le_of_lt (Nat.sub_le _ _) t.isLt⟩))
          (MM (iblk m c 0 ⟨t.val - 1, Nat.lt_of_le_of_lt (Nat.sub_le _ _) t.isLt⟩) (iblk m c 1 ⟨t.val - 1, Nat.lt_of_le_of_lt (Nat.sub_le _ _) t.isLt⟩))
          (iblk m c 2 t) (iblk m c 3 t) b l := by
  have hN := lt_N t
  have hz : ¬t.val % 257 = 0 := by omega
  generalize hp : (⟨t.val - 1, Nat.lt_of_le_of_lt (Nat.sub_le _ _) t.isLt⟩ : Fin cfg0.N) = p
  have hpv : p.val = t.val - 1 := by rw [← hp]
  have key : ∀ (S : FVec Ideal S2x4096x256 .f32) (M : FVec Ideal S2x8x256 .f32),
      (∀ y, S y = ssF (iblk m c 0 p) (iblk m c 1 p) y) → (∀ y, M y = mmF (iblk m c 0 p) (iblk m c 1 p) y) →
      out S M (iblk m c 2 t) (iblk m c 3 t) (ix3 0 b l)
        = OO (SS (iblk m c 0 p) (iblk m c 1 p)) (MM (iblk m c 0 p) (iblk m c 1 p)) (iblk m c 2 t) (iblk m c 3 t) b l := by
    intro S M hS hM
    rw [out_block]
    simp only [hS, hM]
    rfl
  rcases Nat.mod_two_eq_zero_or_one t.val with h1 | h1
  · rw [outC m c t hz h1 (by omega)]
    have hp0 : ¬p.val % 257 = 0 := by omega
    have hp1 : ¬p.val % 2 = 0 := by omega
    have hp2 : p.val % 2 = 1 := by omega
    subst hp
    exact key _ _ (keepSB m c _ hp0 hp1 hp2) (keepMB m c _ hp0 hp1 hp2)
  · rw [outB m c t hz (by omega) h1]
    have hp1 : p.val % 2 = 0 := by omega
    have hp2 : ¬p.val % 2 = 1 := by omega
    subst hp
    by_cases hp0 : (t.val - 1) % 257 = 0
    · exact key _ _ (keepSA m c _ hp0 hp1 hp2) (keepMA m c _ hp0 hp1 hp2)
    · exact key _ _ (keepSC m c _ hp0 hp1 hp2) (keepMC m c _ hp0 hp1 hp2)

/-- What a point after the first stores is the reference's result at its place. -/
theorem point (c : Dev nD) (t : Fin cfg0.N) (h0 : 0 < t.val) (b : Fin 256) (l : Fin 128) :
    (outsAt0 m c t.val t.isLt).1 (ix3 0 b l)
      = Cert.ReferenceIdeal.Read.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
          (ix3 ⟨(t.val - 1) / 64, by have := lt_N t; omega⟩ ⟨256 * ((t.val - 1) % 16) + b.val, by omega⟩
            ⟨128 * ((t.val - 1) / 16 % 4) + l.val, by omega⟩) := by
  have hN := lt_N t
  rw [out_eq m c t h0]
  have hl : (⟨128 * ((t.val - 1) / 16 % 4) + l.val, by omega⟩ : Fin 512)
      = ⟨64 * (⟨2 * ((t.val - 1) / 16 % 4) + l.val / 64, by omega⟩ : Fin 8).val + (⟨l.val % 64, by omega⟩ : Fin 64).val,
          by show 64 * (2 * ((t.val - 1) / 16 % 4) + l.val / 64) + l.val % 64 < 512; omega⟩ :=
    Fin.ext (by show 128 * ((t.val - 1) / 16 % 4) + l.val = 64 * (2 * ((t.val - 1) / 16 % 4) + l.val / 64) + l.val % 64; omega)
  unfold OO
  rw [g_block, gA_apply, hl, ref_apply]
  refine congrArg₂ (· * ·) ?_ rfl
  unfold WW MM
  simp only [SS_eq m c ⟨t.val - 1, Nat.lt_of_le_of_lt (Nat.sub_le _ _) t.isLt⟩ (by show t.val - 1 < 256; omega), v_block]
  refine Eq.trans ?_ (core (LG (m ((c : Thread nD τ).loc main_arg0)) (m ((c : Thread nD τ).loc main_arg1)) (m ((c : Thread nD τ).loc main_arg2))
          (m ((c : Thread nD τ).loc main_arg3)) ⟨(t.val - 1) / 64, by omega⟩ ⟨256 * ((t.val - 1) % 16) + b.val, by omega⟩
          ⟨2 * ((t.val - 1) / 16 % 4) + l.val / 64, by omega⟩)
    (fun d k => m ((c : Thread nD τ).loc main_arg4) (ix4 ⟨(t.val - 1) / 64, by omega⟩ k ⟨2 * ((t.val - 1) / 16 % 4) + l.val / 64, by omega⟩ d))
    ⟨l.val % 64, by omega⟩)
  refine congrArg₂ (fun (a : Fin 64 → EReal) (s : EReal) => nrm a s ⟨l.val % 64, by omega⟩) (funext fun d => Finset.sum_congr rfl fun k _ => congrArg₂ (· * ·) ?_ rfl)
    (Finset.sum_congr rfl fun k _ => congrArg₂ (· * ·) ?_ rfl)
  · exact vA_val _ _ ⟨2 * ((t.val - 1) / 16 % 4) + l.val / 64, by omega⟩ d k _
      (by show 160 * ((t.val - 1) / 16 % 4) + (80 * (l.val / 64) + d.val) = 80 * (2 * ((t.val - 1) / 16 % 4) + l.val / 64) + d.val; omega)
  · exact vA_one _ _ ⟨2 * ((t.val - 1) / 16 % 4) + l.val / 64, by omega⟩ k _
      (by show 160 * ((t.val - 1) / 16 % 4) + (80 * (l.val / 64) + 64) = 80 * (2 * ((t.val - 1) / 16 % 4) + l.val / 64) + 64; omega)

/-- The kernel's result array is the reference's. -/
theorem final (c : Dev nD) : (dats m 0 c).arrAt 4 (cfgs 0).N
    = Cert.ReferenceIdeal.Read.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 4 _ (by decide +kernel) fun t hf y => ?_
  have hN := lt_N t
  have hy0 : (y 0).val < 1 := (y 0).isLt
  have hy1 : (y 1).val < 256 := (y 1).isLt
  have hy2 : (y 2).val < 128 := (y 2).isLt
  have hpt := point m c t (pos_of_flush t hf) ⟨(y 1).val, hy1⟩ ⟨(y 2).val, hy2⟩
  generalize Cert.ReferenceIdeal.Read.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) = R at hpt ⊢
  blk_simp
  rw [after0_4]
  have he : (win0_4.blk t).view.emb y = (ix3 ⟨(t.val - 1) / 64, by omega⟩ ⟨256 * ((t.val - 1) % 16) + (y 1).val, by omega⟩
            ⟨128 * ((t.val - 1) / 16 % 4) + (y 2).val, by omega⟩ : S4x4096x512.Idx) := by
    blk_ext [idxV t]
  rw [he]
  have ey : y = (ix3 0 ⟨(y 1).val, hy1⟩ ⟨(y 2).val, hy2⟩ : S1x256x128.Idx) := funext fun a => match a with
    | ⟨0, _⟩ => Fin.ext (by show (y 0).val = 0; omega)
    | ⟨1, _⟩ => rfl
    | ⟨2, _⟩ => rfl
  exact (congrArg (outsAt0 m c t.val t.isLt).1 ey).trans hpt

end Cert.KernelIdeal.Mla
-- ==== Proof.Ffn.Step.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- The gated unit: `h · logistic(h) · u`. -/
def gate (h u : EReal) : EReal := h * Ideal.div 1 (1 + Ideal.exp (-h)) * u

/-- What one step adds to row `r`, column `d` of one batch entry's output: the gated hidden row contracted with a block of
    the last weight. -/
def rowPart (xb : FVec Ideal S1x1x512x1024 .bf16) (Wg Wu : FVec Ideal S1x1024x512 .f32) (Wd : FVec Ideal S1x512x1024 .f32)
    (r : Fin 512) (d : Fin 1024) : EReal :=
  ∑ f : Fin 512, gate (∑ k : Fin 1024, xb (ix4 0 0 r k) * Wg (ix3 0 k f)) (∑ k : Fin 1024, xb (ix4 0 0 r k) * Wu (ix3 0 k f))
    * Wd (ix3 0 f d)

/-- The payload of batch entry 0's store: what the output block held there, and the step's part. -/
theorem piece0 (xb : FVec Ideal S1x1x512x1024 .bf16) (Wg Wu : FVec Ideal S1x1024x512 .f32) (Wd : FVec Ideal S1x512x1024 .f32)
    (ab : FVec Ideal S1x1x512x1024 .f32) (x : S1x1x512x1024.Idx) :
    k0_pay11 (k0_pay6 xb (k0_pay2 Wg)) (k0_pay7 xb (k0_pay3 Wu)) ab (k0_pay4 Wd) x
    = ab x + rowPart xb Wg Wu Wd (x 2) (x 3) := by
  idx_vars x
  pointwise [k0_pay11, k0_pay12, k0_pay16, k0_pay2, k0_pay3, k0_pay4, k0_pay5, k0_pay6, k0_pay7, k0_pay8, rowPart, gate]
  obtain rfl : x0 = 0 := Subsingleton.elim _ _
  obtain rfl : x1 = 0 := Subsingleton.elim _ _
  simp only [zero_sub]

/-- The payload of batch entry 1's store: what the output block held there, and the step's part. -/
theorem piece1 (xb : FVec Ideal S1x1x512x1024 .bf16) (Wg Wu : FVec Ideal S1x1024x512 .f32) (Wd : FVec Ideal S1x512x1024 .f32)
    (ab : FVec Ideal S1x1x512x1024 .f32) (x : S1x1x512x1024.Idx) :
    k0_pay15 (k0_pay9 xb (k0_pay2 Wg)) (k0_pay10 xb (k0_pay3 Wu)) ab (k0_pay4 Wd) x
    = ab x + rowPart xb Wg Wu Wd (x 2) (x 3) := by
  idx_vars x
  pointwise [k0_pay10, k0_pay12, k0_pay15, k0_pay16, k0_pay2, k0_pay3, k0_pay4, k0_pay5, k0_pay8, k0_pay9, rowPart, gate]
  obtain rfl : x0 = 0 := Subsingleton.elim _ _
  obtain rfl : x1 = 0 := Subsingleton.elim _ _
  simp only [zero_sub]

/-- The payload of batch entry 2's store: what the output block held there, and the step's part. -/
theorem piece2 (xb : FVec Ideal S1x1x512x1024 .bf16) (Wg Wu : FVec Ideal S1x1024x512 .f32) (Wd : FVec Ideal S1x512x1024 .f32)
    (ab : FVec Ideal S1x1x512x1024 .f32) (x : S1x1x512x1024.Idx) :
    k0_pay21 (k0_pay13 xb (k0_pay2 Wg)) (k0_pay14 (k0_pay12 xb) (k0_pay3 Wu)) (k0_pay19 (k0_pay13 xb (k0_pay2 Wg))) k0_pay20 ab (k0_pay4 Wd) x
    = ab x + rowPart xb Wg Wu Wd (x 2) (x 3) := by
  idx_vars x
  pointwise [k0_pay12, k0_pay13, k0_pay14, k0_pay16, k0_pay19, k0_pay2, k0_pay20, k0_pay21, k0_pay3, k0_pay4, k0_pay5, k0_pay8, rowPart, gate]
  obtain rfl : x0 = 0 := Subsingleton.elim _ _
  obtain rfl : x1 = 0 := Subsingleton.elim _ _
  simp only [zero_sub]

/-- The payload of batch entry 3's store: what the output block held there, and the step's part. -/
theorem piece3 (xb : FVec Ideal S1x1x512x1024 .bf16) (Wg Wu : FVec Ideal S1x1024x512 .f32) (Wd : FVec Ideal S1x512x1024 .f32)
    (ab : FVec Ideal S1x1x512x1024 .f32) (x : S1x1x512x1024.Idx) :
    k0_pay22 (k0_pay17 xb (k0_pay2 Wg)) (k0_pay18 xb (k0_pay3 Wu)) ab (k0_pay4 Wd) x
    = ab x + rowPart xb Wg Wu Wd (x 2) (x 3) := by
  idx_vars x
  pointwise [k0_pay12, k0_pay16, k0_pay17, k0_pay18, k0_pay2, k0_pay22, k0_pay3, k0_pay4, k0_pay5, k0_pay8, rowPart, gate]
  obtain rfl : x0 = 0 := Subsingleton.elim _ _
  obtain rfl : x1 = 0 := Subsingleton.elim _ _
  simp only [zero_sub]

/-- What one step adds to the output block, at an index. -/
def part (X : FVec Ideal S4x1x512x1024 .bf16) (Wg Wu : FVec Ideal S1x1024x512 .f32) (Wd : FVec Ideal S1x512x1024 .f32)
    (y : S4x1x512x1024.Idx) : EReal :=
  ∑ f : Fin 512, gate (∑ k : Fin 1024, X (ix4 (y 0) 0 (y 2) k) * Wg (ix3 0 k f)) (∑ k : Fin 1024, X (ix4 (y 0) 0 (y 2) k) * Wu (ix3 0 k f))
    * Wd (ix3 0 f (y 3))

/-- The zero block, at an index. -/
theorem zero_apply (y : S4x1x512x1024.Idx) : k0_pay1 (F := Ideal) y = 0 := by pointwise [k0_pay1]

/-- A batch entry's part, read off the entry's slice of the block. -/
theorem slice_part (X : FVec Ideal S4x1x512x1024 .bf16) (Wg Wu : FVec Ideal S1x1024x512 .f32) (Wd : FVec Ideal S1x512x1024 .f32)
    (o : Fin 4 → ℕ) (inb : ∀ a, o a + (![1, 1, 512, 1024] : Fin 4 → ℕ) a ≤ S4x1x512x1024.size a)
    (h1 : o 1 = 0) (h2 : o 2 = 0) (h3 : o 3 = 0)
    (x : (Rect.unit (s := S4x1x512x1024) o ![1, 1, 512, 1024] inb).shape.Idx) :
    rowPart (View.ld (Val := Elt Ideal) (e' := .bf16) X (Rect.unit (s := S4x1x512x1024) o ![1, 1, 512, 1024] inb)) Wg Wu Wd (x 2) (x 3) = part X Wg Wu Wd ((Rect.unit (s := S4x1x512x1024) o ![1, 1, 512, 1024] inb).emb x) := by
  have e : ∀ k : Fin 1024, View.ld (Val := Elt Ideal) (e' := .bf16) X (Rect.unit (s := S4x1x512x1024) o ![1, 1, 512, 1024] inb) (ix4 0 0 (x 2) k)
      = X (ix4 ((Rect.unit (s := S4x1x512x1024) o ![1, 1, 512, 1024] inb).emb x 0) 0 ((Rect.unit (s := S4x1x512x1024) o ![1, 1, 512, 1024] inb).emb x 2) k) := fun k => by
    rw [View.ld_apply]
    refine congrArg X (funext fun a => Fin.ext ?_)
    have hx0 : (x 0).val < 1 := (x 0).isLt
    match a with
    | ⟨0, _⟩ => show o 0 + 1 * 0 = o 0 + 1 * (x 0).val; omega
    | ⟨1, _⟩ => show o 1 + 1 * 0 = 0; omega
    | ⟨2, _⟩ => show o 2 + 1 * (x 2).val = o 2 + 1 * (x 2).val; omega
    | ⟨3, _⟩ => show o 3 + 1 * k.val = k.val; omega
  have e3 : ∀ f : Fin 512, Wd (ix3 0 f (x 3)) = Wd (ix3 0 f ((Rect.unit (s := S4x1x512x1024) o ![1, 1, 512, 1024] inb).emb x 3)) := fun f => by
    refine congrArg Wd (funext fun a => Fin.ext ?_)
    match a with
    | ⟨0, _⟩ => rfl
    | ⟨1, _⟩ => rfl
    | ⟨2, _⟩ => show (x 3).val = o 3 + 1 * (x 3).val; omega
  unfold rowPart part
  simp only [e, e3]

/-- A later step: the block before it, and the step's part. -/
theorem outB (c : Dev nD) (t : Fin cfg0.N) (h : ¬ t.val % 4 = 0) (y : S4x1x512x1024.Idx) :
    outsAt0 m c t.val t.isLt y = outsAt0 m c (t.val - 1) (Nat.lt_of_le_of_lt (Nat.sub_le _ _) t.isLt) y
      + part (iblk m c 0 t) (iblk m c 1 t) (iblk m c 2 t) (iblk m c 3 t) y := by
  rw [outsAt0_B m c t h]
  frame_out
  refine (View.canon_append_of_piecesOf (Val := Elt Ideal) (s := S4x1x512x1024) (e := .f32) (fun y => outsAt0 m c (t.val - 1) (Nat.lt_of_le_of_lt (Nat.sub_le _ _) t.isLt) y
      + part (iblk m c 0 t) (iblk m c 1 t) (iblk m c 2 t) (iblk m c 3 t) y) [] [_, _, _, _] ⟨fun x => ?_, fun x => ?_, fun x => ?_, fun x => ?_, trivial⟩ y ?_)
  · exact (piece3 _ _ _ _ _ x).trans (congrArg _ (slice_part _ _ _ _ _ inb_S4x1x512x1024_S1x1x512x1024_3_0_0_0 rfl rfl rfl x))
  · exact (piece2 _ _ _ _ _ x).trans (congrArg _ (slice_part _ _ _ _ _ inb_S4x1x512x1024_S1x1x512x1024_2_0_0_0 rfl rfl rfl x))
  · exact (piece1 _ _ _ _ _ x).trans (congrArg _ (slice_part _ _ _ _ _ inb_S4x1x512x1024_S1x1x512x1024_1_0_0_0 rfl rfl rfl x))
  · exact (piece0 _ _ _ _ _ x).trans (congrArg _ (slice_part _ _ _ _ _ inb_S4x1x512x1024_S1x1x512x1024_0_0_0_0 rfl rfl rfl x))
  · exact View.cover_of_tiledL _ ![1, 1, 512, 1024] (by sl_kernel_rfl) y

/-- The first step of a run of four: the step's part, over the zero block. -/
theorem outA (c : Dev nD) (t : Fin cfg0.N) (h : t.val % 4 = 0) (y : S4x1x512x1024.Idx) :
    outsAt0 m c t.val t.isLt y = 0 + part (iblk m c 0 t) (iblk m c 1 t) (iblk m c 2 t) (iblk m c 3 t) y := by
  rw [outsAt0_A m c t h, ← zero_apply y]
  frame_open
  simp (disch := decide) only [↓ View.readCov_skip, ↓ View.readCov_cons_toLoadRect, ↓ View.readCov_fill]
  frame_out
  refine (View.canon_append_of_piecesOf (Val := Elt Ideal) (s := S4x1x512x1024) (e := .f32) (fun y => k0_pay1 (F := Ideal) y
      + part (iblk m c 0 t) (iblk m c 1 t) (iblk m c 2 t) (iblk m c 3 t) y) [_] [_, _, _, _] ⟨fun x => ?_, fun x => ?_, fun x => ?_, fun x => ?_, trivial⟩ y ?_)
  · exact (piece3 _ _ _ _ _ x).trans (congrArg _ (slice_part _ _ _ _ _ inb_S4x1x512x1024_S1x1x512x1024_3_0_0_0 rfl rfl rfl x))
  · exact (piece2 _ _ _ _ _ x).trans (congrArg _ (slice_part _ _ _ _ _ inb_S4x1x512x1024_S1x1x512x1024_2_0_0_0 rfl rfl rfl x))
  · exact (piece1 _ _ _ _ _ x).trans (congrArg _ (slice_part _ _ _ _ _ inb_S4x1x512x1024_S1x1x512x1024_1_0_0_0 rfl rfl rfl x))
  · exact (piece0 _ _ _ _ _ x).trans (congrArg _ (slice_part _ _ _ _ _ inb_S4x1x512x1024_S1x1x512x1024_0_0_0_0 rfl rfl rfl x))
  · exact View.cover_of_tiledL _ ![1, 1, 512, 1024] (by sl_kernel_rfl) y

end Cert.Kernel2Ideal.Ffn
-- ==== Proof.Ffn.Final.lean ====
module

public import proofs.«01_k».proof.Proof.Ffn.Step
public import proofs.«01_k».proof.Proof.Gen.Reference2Ideal.Read
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- The blocks each window holds at a point: expert `t / 4`, hidden block `t % 4`. -/
theorem idx : ∀ t : Fin cfg0.N, win0_0.index t = ![0, t.val / 4, 0, 0] ∧ win0_1.index t = ![t.val / 4, 0, t.val % 4]
    ∧ win0_2.index t = ![t.val / 4, 0, t.val % 4] ∧ win0_3.index t = ![t.val / 4, t.val % 4, 0] ∧ win0_4.index t = ![0, t.val / 4, 0, 0]
    ∧ t.val / 4 < 16 :=
  (by decide +kernel : ∀ t : Fin grid0.N, _)

open Cert.Reference2Ideal.Read in
/-- The reference's result at an index: the gated hidden row contracted with the last weight. -/
theorem ref_apply (X : FVec Ideal S4x16x512x1024 .bf16) (Wg Wu : FVec Ideal S16x1024x2048 .f32) (Wd : FVec Ideal S16x2048x1024 .f32)
    (b : Fin 4) (e : Fin 16) (r : Fin 512) (d : Fin 1024) :
    val_main_v8 (F := Ideal) X Wg Wu Wd (ix4 b e r d)
      = ∑ f : Fin 2048, gate (∑ k : Fin 1024, X (ix4 b e r k) * Wg (ix3 e k f)) (∑ k : Fin 1024, X (ix4 b e r k) * Wu (ix3 e k f)) * Wd (ix3 e f d) := by
  pointwise [val_main_v8, val_main_v7, val_main_v6, val_main_v5, val_main_v4, val_main_v3, val_main_call0_v5, val_main_call0_v4,
    val_main_call0_cst_0, val_main_call0_v3, val_main_call0_v2, val_main_call0_cst, val_main_call0_v1, val_main_call0_v0, val_main_v2,
    val_main_v1, val_main_v0, gate]
  refine Finset.sum_congr rfl fun f _ => ?_
  have e1 : ∀ (W : FVec Ideal S16x1024x2048 .f32), (∑ k : Fin 1024, W (ix3 e k f) * X (ix4 b e r k)) = ∑ k : Fin 1024, X (ix4 b e r k) * W (ix3 e k f) :=
    fun W => Finset.sum_congr rfl fun k _ => mul_comm _ _
  rw [e1, e1, mul_comm]

/-- The kernel's result array. -/
theorem final (c : Dev nD) : (dats m 0 c).arrAt 4 (cfgs 0).N
    = Cert.Reference2Ideal.Read.val_main_v8 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 4 (fun _ => 0)
    (fun p j => part (iblk m c 0 p) (iblk m c 1 p) (iblk m c 2 p) (iblk m c 3 p) j)
    (fun t h j => outA m c t h j) (fun t h j => outB m c t h j)
    t ((flush0_4 t).mp hf) _, zero_add]
  have he : (win0_4.blk t).view.emb y = (ix4 (y 0) ⟨t.val / 4, (idx t).2.2.2.2.2⟩ (y 2) (y 3) : S4x16x512x1024.Idx) := by
    blk_ext [idx t]
  rw [he]
  refine Eq.trans ?_ (ref_apply _ _ _ _ _ _ _ _).symm
  unfold part
  refine Fin.sum_mul_add_congr fun s k hl => ?_
  blk_point [iblk, V, idx ⟨_, Pipeline.run_point_lt_of_flush t ((flush0_4 t).mp hf) s⟩]

end Cert.Kernel2Ideal.Ffn
-- ==== Proof.Post.Rows.lean ====
module

public import Idealize.ShloMosaic.Lib.Pipeline.ValueKit
public import Idealize.ShloMosaic.Lib.Pointwise

@[expose] public section

noncomputable section

open Idealize.ShloMosaic

/-! # The layer's pieces on one token's row -/

namespace Cert.Rows

/-- The constant added to a mean square. -/
def eps : EReal := Ideal.ofBits .f32 0x358637BD#32

/-- The width of a head of the recurrent branch, of the model, and the factor of the memory's logits. -/
def c128 : EReal := Ideal.ofBits .f32 0x43000000#32
/-- The width of the model. -/
def c1024 : EReal := Ideal.ofBits .f32 0x44800000#32
/-- The factor of the memory's logits. -/
def c16 : EReal := Ideal.ofBits .f32 0x3D800000#32

/-- A row over its root mean square, times a gain. -/
def rms {n : ℕ} (c : EReal) (t g : Fin n → EReal) (i : Fin n) : EReal :=
  t i * Ideal.rsqrt (Ideal.div (∑ k, t k * t k) c + eps) * g i

/-- The logistic function. -/
def lgs (x : EReal) : EReal := Ideal.div (Ideal.ofBits .f32 0x3F800000#32) (Ideal.ofBits .f32 0x3F800000#32 + Ideal.exp (-x))

/-- A row times a matrix. -/
def mv {n p : ℕ} (t : Fin n → EReal) (w : Fin n → Fin p → EReal) (j : Fin p) : EReal := ∑ k, t k * w k j

/-- The recurrent branch's output gated, head by head, beside the attention's. -/
def yc (o h g ya : Fin 512 → EReal) (j : Fin 1024) : EReal :=
  if p : j.val < 512 then
    lgs (o ⟨j.val, p⟩) * rms c128 (fun l : Fin 128 => h ⟨128 * (j.val / 128) + l.val, by omega⟩)
      (fun l : Fin 128 => g ⟨128 * (j.val / 128) + l.val, by omega⟩) ⟨j.val % 128, Nat.mod_lt _ (by decide)⟩
  else ya ⟨j.val - 512, by omega⟩

/-- The logits of one head over the memory's rows. -/
def sc (q : Fin 1024 → EReal) (km : Fin 256 → Fin 1024 → EReal) (h : Fin 4) (k : Fin 256) : EReal :=
  (∑ l : Fin 256, q ⟨256 * h.val + l.val, by omega⟩ * km k ⟨256 * h.val + l.val, by omega⟩) * c16

/-- The largest of a row, found from minus infinity. -/
def mx (s : Fin 256 → EReal) : EReal := Finset.fold max (Ideal.ofBits .f32 0xFF800000#32) s Finset.univ

/-- The softmax of a row. -/
def sm (s : Fin 256 → EReal) (k : Fin 256) : EReal :=
  Ideal.div (Ideal.exp (s k - mx s)) (∑ j, Ideal.exp (s j - mx s))

/-- The memory's values, weighted head by head. -/
def ov (q : Fin 1024 → EReal) (km vm : Fin 256 → Fin 1024 → EReal) (j : Fin 1024) : EReal :=
  ∑ k : Fin 256, sm (sc q km ⟨j.val / 256, by omega⟩) k * vm k j

/-- The row after the recurrent branch and the attention are added. -/
def x1 (x : Fin 1024 → EReal) (o h g ya : Fin 512 → EReal) (wout : Fin 1024 → Fin 1024 → EReal) (j : Fin 1024) : EReal :=
  x j + mv (yc o h g ya) wout j

/-- The row after the attention to the memory is added too. -/
def x2 (x : Fin 1024 → EReal) (km vm : Fin 256 → Fin 1024 → EReal) (g : Fin 1024 → EReal) (wq wo : Fin 1024 → Fin 1024 → EReal)
    (j : Fin 1024) : EReal :=
  x j + mv (ov (mv (rms c1024 x g) wq) km vm) wo j

end Cert.Rows
-- ==== Proof.Memkv.Final.lean ====
module

public import proofs.«01_k».proof.Proof.Post.Rows
public import proofs.«01_k».proof.Proof.Gen.Reference3Ideal.Read
public import proofs.«01_k».proof.Proof.Gen.Kernel3Ideal.Value
public import Idealize.ShloMosaic.Lib.StableHlo.RunRead
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # The memory's keys and values are the reference's -/

namespace Cert.Kernel3Ideal.Memkv

open Cert.Kernel3Ideal Cert.Kernel3Ideal.Gen Cert.Rows

variable (m : (ℓ : Loc nD τ sig) → Buf (Elt Ideal) ℓ)

/-- The blocks a point holds and stores: sequence `t`. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- The grid has 4 points. -/
theorem lt_N (t : Fin cfg0.N) : t.val < 4 := t.isLt

/-- One projected row of the memory. -/
def prow (x g : Fin 1024 → EReal) (w : Fin 1024 → Fin 1024 → EReal) : Fin 1024 → EReal := mv (rms c1024 x g) w

/-! ## One point's arithmetic -/

/-- A memory row over its root mean square, times the gain. -/
theorem pay1_apply (x : FVec Ideal S1x256x1024 .f32) (g : FVec Ideal S1x1024 .f32) (k : Fin 256) (i : Fin 1024) :
    k0_pay1 (F := Ideal) x g (ix2 k i) = rms c1024 (fun i => x (ix3 0 k i)) (fun i => g (ix2 0 i)) i := by
  pointwise [k0_pay1, rms, c1024, eps]

/-- The keys' block. -/
theorem pay2_apply (x : FVec Ideal S1x256x1024 .f32) (g : FVec Ideal S1x1024 .f32) (w : FVec Ideal S1024x1024 .bf16) (k : Fin 256) (j : Fin 1024) :
    k0_pay2 (F := Ideal) x g w (ix3 0 k j) = mv (fun i => k0_pay1 (F := Ideal) x g (ix2 k i)) (fun i j => w (ix2 i j)) j := by
  unfold k0_pay2
  generalize k0_pay1 (F := Ideal) x g = n
  pointwise [mv]

/-- The values' block. -/
theorem pay3_apply (x : FVec Ideal S1x256x1024 .f32) (g : FVec Ideal S1x1024 .f32) (w : FVec Ideal S1024x1024 .bf16) (k : Fin 256) (j : Fin 1024) :
    k0_pay3 (F := Ideal) x g w (ix3 0 k j) = mv (fun i => k0_pay1 (F := Ideal) x g (ix2 k i)) (fun i j => w (ix2 i j)) j := by
  unfold k0_pay3
  generalize k0_pay1 (F := Ideal) x g = n
  pointwise [mv]

/-- The memory's block, loaded whole. -/
theorem ld_mem (x : FVec Ideal S1x256x1024 .f32) : View.ld (Val := Elt Ideal) (e' := .f32) x r0_0 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The gain, loaded whole. -/
theorem ld_gain (x : FVec Ideal S1x1024 .f32) : View.ld (Val := Elt Ideal) (e' := .f32) x r0_1 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega

/-- A weight, loaded whole. -/
theorem ld_weight (x : FVec Ideal S1024x1024 .bf16) : View.ld (Val := Elt Ideal) (e' := .bf16) x r0_2 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega

/-- The first result's block at an index. -/
def F4 (a0 : FVec Ideal S1x256x1024 .f32) (a1 : FVec Ideal S1x1024 .f32) (a2 a3 : FVec Ideal S1024x1024 .bf16) (y : S1x256x1024.Idx) : Elt Ideal .bf16 :=
  prow (fun i => a0 (ix3 0 (y 1) i)) (fun i => a1 (ix2 0 i)) (fun i j => a2 (ix2 i j)) (y 2)

/-- The first result's block. -/
theorem out4 (a0 : FVec Ideal S1x256x1024 .f32) (a1 : FVec Ideal S1x1024 .f32) (a2 a3 : FVec Ideal S1024x1024 .bf16) (y : S1x256x1024.Idx) :
    out0_4 (F := Ideal) a0 a1 a2 a3 y = F4 a0 a1 a2 a3 y := by
  unfold out0_4
  refine (View.canon_append_of_piecesOf (Val := Elt Ideal) (s := S1x256x1024) (e := .bf16) (F4 a0 a1 a2 a3) [] [_]
    ⟨fun z => ?_, trivial⟩ y (cover0_4 _ y))
  idx_vars z
  obtain rfl : z0 = 0 := Subsingleton.elim _ _
  have hl : k0_pay2 (F := Ideal) (View.ld (Val := Elt Ideal) (e' := .f32) a0 r0_0) (View.ld (Val := Elt Ideal) (e' := .f32) a1 r0_1)
      (View.ld (Val := Elt Ideal) (e' := .bf16) a2 r0_2) = k0_pay2 (F := Ideal) a0 a1 a2 := by
    rw [ld_mem, ld_gain, ld_weight]
  refine (congrFun hl _).trans ((pay2_apply _ _ _ _ _).trans ?_)
  simp only [pay1_apply]
  exact congrArg₂ (fun r j => prow (fun i => a0 (ix3 0 r i)) (fun i => a1 (ix2 0 i)) (fun i j => a2 (ix2 i j)) j)
    (Fin.ext (by show z1.val = 0 + 1 * z1.val; omega)) (Fin.ext (by show z2.val = 0 + 1 * z2.val; omega))

/-- The second result's block at an index. -/
def F5 (a0 : FVec Ideal S1x256x1024 .f32) (a1 : FVec Ideal S1x1024 .f32) (a2 a3 : FVec Ideal S1024x1024 .bf16) (y : S1x256x1024.Idx) : Elt Ideal .bf16 :=
  prow (fun i => a0 (ix3 0 (y 1) i)) (fun i => a1 (ix2 0 i)) (fun i j => a3 (ix2 i j)) (y 2)

/-- The second result's block. -/
theorem out5 (a0 : FVec Ideal S1x256x1024 .f32) (a1 : FVec Ideal S1x1024 .f32) (a2 a3 : FVec Ideal S1024x1024 .bf16) (y : S1x256x1024.Idx) :
    out0_5 (F := Ideal) a0 a1 a2 a3 y = F5 a0 a1 a2 a3 y := by
  unfold out0_5
  refine (View.canon_append_of_piecesOf (Val := Elt Ideal) (s := S1x256x1024) (e := .bf16) (F5 a0 a1 a2 a3) [] [_]
    ⟨fun z => ?_, trivial⟩ y (cover0_5 _ y))
  idx_vars z
  obtain rfl : z0 = 0 := Subsingleton.elim _ _
  have hl : k0_pay3 (F := Ideal) (View.ld (Val := Elt Ideal) (e' := .f32) a0 r0_0) (View.ld (Val := Elt Ideal) (e' := .f32) a1 r0_1)
      (View.ld (Val := Elt Ideal) (e' := .bf16) a3 r0_2) = k0_pay3 (F := Ideal) a0 a1 a3 := by
    rw [ld_mem, ld_gain, ld_weight]
  refine (congrFun hl _).trans ((pay3_apply _ _ _ _ _).trans ?_)
  simp only [pay1_apply]
  exact congrArg₂ (fun r j => prow (fun i => a0 (ix3 0 r i)) (fun i => a1 (ix2 0 i)) (fun i j => a3 (ix2 i j)) j)
    (Fin.ext (by show z1.val = 0 + 1 * z1.val; omega)) (Fin.ext (by show z2.val = 0 + 1 * z2.val; omega))

/-- What the call finds as the gain. -/
theorem entry0 (c : Dev nD) : V m c main_v0 = shapeCast S1x1024 (m ((c : Thread nD τ).loc main_arg1) : FVec Ideal S1024 .f32) shapeCasts_S1024_S1x1024 := by
  unfold V
  after_reads_simp <;> rfl

/-- What the call finds as the keys' weights. -/
theorem entry1 (c : Dev nD) : V m c main_v1 = truncf (F := Ideal) .bf16 (m ((c : Thread nD τ).loc main_arg2) : FVec Ideal S1024x1024 .f32) bitsLt_bf16_f32 := by
  unfold V
  after_reads_simp <;> rfl

/-- What the call finds as the values' weights. -/
theorem entry2 (c : Dev nD) : V m c main_v2 = truncf (F := Ideal) .bf16 (m ((c : Thread nD τ).loc main_arg3) : FVec Ideal S1024x1024 .f32) bitsLt_bf16_f32 := by
  unfold V
  after_reads_simp <;> rfl

/-- A gain laid out as one row. -/
theorem row1024 (g : FVec Ideal S1024 .f32) (j : Fin 1024) : shapeCast S1x1024 g shapeCasts_S1024_S1x1024 (ix2 0 j) = g (ix1 j) := by
  pointwise []

/-! ## The blocks, read off the arrays -/

/-- A block of the memory, read from any array in its place. -/
theorem read0 (X : FVec Ideal S4x256x1024 .f32) (t : Fin cfg0.N) (k : Fin 256) (i : Fin 1024) :
    ((cfg0.win 0).blk t).view.read (Elt Ideal) X (ix3 0 k i) = X (ix3 ⟨t.val, lt_N t⟩ k i) := by
  refine congrArg X ?_
  blk_ext [idx t]

/-- The block of the memory that a point holds. -/
theorem block0 (c : Dev nD) (t : Fin cfg0.N) (k : Fin 256) (i : Fin 1024) :
    (iblk m c 0 t : FVec Ideal S1x256x1024 .f32) (ix3 0 k i) = (m ((c : Thread nD τ).loc main_arg0) : FVec Ideal S4x256x1024 .f32) (ix3 ⟨t.val, lt_N t⟩ k i) := by
  rw [← V_main_arg0 m c]
  unfold iblk
  generalize V m c = W
  exact read0 (W main_arg0) t k i

/-- A block of the gain, read from any array in its place. -/
theorem read1 (X : FVec Ideal S1x1024 .f32) (t : Fin cfg0.N) (j : Fin 1024) :
    ((cfg0.win 1).blk t).view.read (Elt Ideal) X (ix2 0 j) = X (ix2 0 j) := by
  refine congrArg X ?_
  blk_ext [idx t]

/-- The block of the gain that a point holds. -/
theorem block1 (c : Dev nD) (t : Fin cfg0.N) (j : Fin 1024) :
    (iblk m c 1 t : FVec Ideal S1x1024 .f32) (ix2 0 j) = (m ((c : Thread nD τ).loc main_arg1) : FVec Ideal S1024 .f32) (ix1 j) := by
  refine Eq.trans (b := (V m c main_v0 : FVec Ideal S1x1024 .f32) (ix2 0 j)) ?_ ((congrFun (entry0 m c) (ix2 0 j)).trans (row1024 _ _))
  unfold iblk
  generalize V m c = W
  exact read1 (W main_v0) t j

/-- A block of the keys' weights, read from any array in its place. -/
theorem read2 (X : FVec Ideal S1024x1024 .bf16) (t : Fin cfg0.N) (i j : Fin 1024) :
    ((cfg0.win 2).blk t).view.read (Elt Ideal) X (ix2 i j) = X (ix2 i j) := by
  refine congrArg X ?_
  blk_ext [idx t]

/-- The block of the keys' weights that a point holds. -/
theorem block2 (c : Dev nD) (t : Fin cfg0.N) (i j : Fin 1024) :
    (iblk m c 2 t : FVec Ideal S1024x1024 .bf16) (ix2 i j) = (m ((c : Thread nD τ).loc main_arg2) : FVec Ideal S1024x1024 .f32) (ix2 i j) := by
  refine Eq.trans (b := (V m c main_v1 : FVec Ideal S1024x1024 .bf16) (ix2 i j)) ?_ ((congrFun (entry1 m c) (ix2 i j)).trans (rfl))
  unfold iblk
  generalize V m c = W
  exact read2 (W main_v1) t i j

/-- A block of the values' weights, read from any array in its place. -/
theorem read3 (X : FVec Ideal S1024x1024 .bf16) (t : Fin cfg0.N) (i j : Fin 1024) :
    ((cfg0.win 3).blk t).view.read (Elt Ideal) X (ix2 i j) = X (ix2 i j) := by
  refine congrArg X ?_
  blk_ext [idx t]

/-- The block of the values' weights that a point holds. -/
theorem block3 (c : Dev nD) (t : Fin cfg0.N) (i j : Fin 1024) :
    (iblk m c 3 t : FVec Ideal S1024x1024 .bf16) (ix2 i j) = (m ((c : Thread nD τ).loc main_arg3) : FVec Ideal S1024x1024 .f32) (ix2 i j) := by
  refine Eq.trans (b := (V m c main_v2 : FVec Ideal S1024x1024 .bf16) (ix2 i j)) ?_ ((congrFun (entry2 m c) (ix2 i j)).trans (rfl))
  unfold iblk
  generalize V m c = W
  exact read3 (W main_v2) t i j

/-- The reference's normalised row. -/
theorem ref12 (x : FVec Ideal S4x256x1024 .f32) (g : FVec Ideal S1024 .f32) (b : Fin 4) (k : Fin 256) (i : Fin 1024) :
    Cert.Reference3Ideal.Read.val_main_v12 (F := Ideal) x g (ix3 b k i) = rms c1024 (fun i => x (ix3 b k i)) (fun i => g (ix1 i)) i := by
  open Cert.Reference3Ideal.Read in
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms, c1024, eps]

/-- The reference's keys. -/
theorem ref14 (x : FVec Ideal S4x256x1024 .f32) (g : FVec Ideal S1024 .f32) (w : FVec Ideal S1024x1024 .f32) (b : Fin 4) (k : Fin 256) (j : Fin 1024) :
    Cert.Reference3Ideal.Read.val_main_v14 (F := Ideal) x g w (ix3 b k j) = prow (fun i => x (ix3 b k i)) (fun i => g (ix1 i)) (fun i j => w (ix2 i j)) j := by
  have h : Cert.Reference3Ideal.Read.val_main_v14 (F := Ideal) x g w (ix3 b k j)
      = mv (fun i => Cert.Reference3Ideal.Read.val_main_v12 (F := Ideal) x g (ix3 b k i)) (fun i j => w (ix2 i j)) j := by
    open Cert.Reference3Ideal.Read in
    pointwise [val_main_v14, val_main_v13, mv]
  rw [h]
  simp only [ref12]
  rfl

/-- The keys' array. -/
theorem final4 (c : Dev nD) : (dats m 0 c).arrAt 4 (cfgs 0).N
    = Cert.Reference3Ideal.Read.val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN := lt_N t
  have hy0 : (y 0).val < 1 := (y 0).isLt
  have hy1 : (y 1).val < 256 := (y 1).isLt
  have hy2 : (y 2).val < 1024 := (y 2).isLt
  have hrow : F4 (iblk m c 0 t) (iblk m c 1 t) (iblk m c 2 t) (iblk m c 3 t) y
      = Cert.Reference3Ideal.Read.val_main_v14 (F := Ideal) (m ((c : Thread nD τ).loc main_arg0)) (m ((c : Thread nD τ).loc main_arg1)) (m ((c : Thread nD τ).loc main_arg2)) (ix3 ⟨t.val, hN⟩ ⟨(y 1).val, hy1⟩ ⟨(y 2).val, hy2⟩) := by
    rw [ref14]
    unfold F4
    refine (congrArg (fun f => prow f _ _ (y 2)) (funext fun i => block0 m c t ⟨(y 1).val, hy1⟩ i)).trans ?_
    simp only [block1, block2]
    rfl
  have hpt := (out4 (iblk m c 0 t) (iblk m c 1 t) (iblk m c 2 t) (iblk m c 3 t) y).trans hrow
  generalize Cert.Reference3Ideal.Read.val_main_v14 (F := Ideal) (m ((c : Thread nD τ).loc main_arg0)) (m ((c : Thread nD τ).loc main_arg1)) (m ((c : Thread nD τ).loc main_arg2)) = R at hpt ⊢
  blk_simp
  rw [after0_4]
  have he : (win0_4.blk t).view.emb y = (ix3 ⟨t.val, hN⟩ ⟨(y 1).val, hy1⟩ ⟨(y 2).val, hy2⟩ : S4x256x1024.Idx) := by
    blk_ext [idx t]
  rw [he]
  exact hpt

/-- The reference's values. -/
theorem ref16 (x : FVec Ideal S4x256x1024 .f32) (g : FVec Ideal S1024 .f32) (w : FVec Ideal S1024x1024 .f32) (b : Fin 4) (k : Fin 256) (j : Fin 1024) :
    Cert.Reference3Ideal.Read.val_main_v16 (F := Ideal) x g w (ix3 b k j) = prow (fun i => x (ix3 b k i)) (fun i => g (ix1 i)) (fun i j => w (ix2 i j)) j := by
  have h : Cert.Reference3Ideal.Read.val_main_v16 (F := Ideal) x g w (ix3 b k j)
      = mv (fun i => Cert.Reference3Ideal.Read.val_main_v12 (F := Ideal) x g (ix3 b k i)) (fun i j => w (ix2 i j)) j := by
    open Cert.Reference3Ideal.Read in
    pointwise [val_main_v16, val_main_v15, mv]
  rw [h]
  simp only [ref12]
  rfl

/-- The values' array. -/
theorem final5 (c : Dev nD) : (dats m 0 c).arrAt 5 (cfgs 0).N
    = Cert.Reference3Ideal.Read.val_main_v16 (F := Ideal) (m ((c : Thread nD τ).loc main_arg0)) (m ((c : Thread nD τ).loc main_arg1)) (m ((c : Thread nD τ).loc main_arg3)) := by
  refine (dats m 0 c).arrAt_eq_of_covers 5 _ (by decide +kernel) fun t hf y => ?_
  have hN := lt_N t
  have hy0 : (y 0).val < 1 := (y 0).isLt
  have hy1 : (y 1).val < 256 := (y 1).isLt
  have hy2 : (y 2).val < 1024 := (y 2).isLt
  have hrow : F5 (iblk m c 0 t) (iblk m c 1 t) (iblk m c 2 t) (iblk m c 3 t) y
      = Cert.Reference3Ideal.Read.val_main_v16 (F := Ideal) (m ((c : Thread nD τ).loc main_arg0)) (m ((c : Thread nD τ).loc main_arg1)) (m ((c : Thread nD τ).loc main_arg3)) (ix3 ⟨t.val, hN⟩ ⟨(y 1).val, hy1⟩ ⟨(y 2).val, hy2⟩) := by
    rw [ref16]
    unfold F5
    refine (congrArg (fun f => prow f _ _ (y 2)) (funext fun i => block0 m c t ⟨(y 1).val, hy1⟩ i)).trans ?_
    simp only [block1, block3]
    rfl
  have hpt := (out5 (iblk m c 0 t) (iblk m c 1 t) (iblk m c 2 t) (iblk m c 3 t) y).trans hrow
  generalize Cert.Reference3Ideal.Read.val_main_v16 (F := Ideal) (m ((c : Thread nD τ).loc main_arg0)) (m ((c : Thread nD τ).loc main_arg1)) (m ((c : Thread nD τ).loc main_arg3)) = R at hpt ⊢
  blk_simp
  rw [after0_5]
  have he : (win0_5.blk t).view.emb y = (ix3 ⟨t.val, hN⟩ ⟨(y 1).val, hy1⟩ ⟨(y 2).val, hy2⟩ : S4x256x1024.Idx) := by
    blk_ext [idx t]
  rw [he]
  exact hpt

end Cert.Kernel3Ideal.Memkv
-- ==== Proof.Post.Parts.lean ====
module

public import proofs.«01_k».proof.Proof.Gen.Kernel4Ideal.Skeleton
public import proofs.«01_k».proof.Proof.Post.Rows

@[expose] public section

set_option maxRecDepth 16384

noncomputable section

open Idealize.ShloMosaic

/-! # The steps of the body on 256 tokens, each read at an index -/

namespace Cert.Kernel4Ideal.Post

open Cert.Kernel4Ideal Cert.Kernel4Ideal.Gen Cert.Rows

/-- One head of the recurrent branch: normalised, scaled, gated. -/
def hd (o h : FVec Ideal S256x128 .f32) (g : FVec Ideal S1x128 .f32) : FVec Ideal S256x128 .f32 :=
  mulf o (mulf (mulf h (broadcastTo S256x128 (rsqrt (addf (divf (shapeCast S256x1 (multiReduction .add [1] S256 (mulf h h) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 g broadcasts_S1x128_S256x128))

/-- The four heads and the attention side by side. -/
def cat (a b c d : FVec Ideal S256x128 .f32) (y : FVec Ideal S1x256x512 .f32) : FVec Ideal S256x1024 .bf16 :=
  truncf .bf16 (concatenate S256x1024 1 [⟨S256x128, a⟩, ⟨S256x128, b⟩, ⟨S256x128, c⟩, ⟨S256x128, d⟩, ⟨S256x512, shapeCast S256x512 y shapeCasts_S1x256x512_S256x512⟩]
    concatenates_S256x128_S256x128_S256x128_S256x128_S256x512_S256x1024_d1) bitsLt_bf16_f32

/-- The recurrent branch gated, beside the attention, for 256 tokens. -/
def yy (O H : FVec Ideal S256x512 .f32) (g : FVec Ideal S1x512 .f32) (y : FVec Ideal S1x256x512 .f32) : FVec Ideal S256x1024 .bf16 :=
  cat
    (hd (extractStridedSlice S256x128 ![0, 0] O slices_S256x512_o0_0_S256x128) (extractStridedSlice S256x128 ![0, 0] H slices_S256x512_o0_0_S256x128) (extractStridedSlice S1x128 ![0, 0] g slices_S1x512_o0_0_S1x128))
    (hd (extractStridedSlice S256x128 ![0, 128] O slices_S256x512_o0_128_S256x128) (extractStridedSlice S256x128 ![0, 128] H slices_S256x512_o0_128_S256x128) (extractStridedSlice S1x128 ![0, 128] g slices_S1x512_o0_128_S1x128))
    (hd (extractStridedSlice S256x128 ![0, 256] O slices_S256x512_o0_256_S256x128) (extractStridedSlice S256x128 ![0, 256] H slices_S256x512_o0_256_S256x128) (extractStridedSlice S1x128 ![0, 256] g slices_S1x512_o0_256_S1x128))
    (hd (extractStridedSlice S256x128 ![0, 384] O slices_S256x512_o0_384_S256x128) (extractStridedSlice S256x128 ![0, 384] H slices_S256x512_o0_384_S256x128) (extractStridedSlice S1x128 ![0, 384] g slices_S1x512_o0_384_S1x128))
    y

/-- The model's normalisation for 256 tokens. -/
def nr (x : FVec Ideal S256x1024 .f32) (g : FVec Ideal S1x1024 .f32) : FVec Ideal S256x1024 .f32 := k0_pay53 x g

/-- 256 tokens times a matrix. -/
def mm (x : FVec Ideal S256x1024 .bf16) (w : FVec Ideal S1024x1024 .bf16) : FVec Ideal S256x1024 .f32 :=
  matmul dot_S256x1024_S1024x1024_S256x1024_1_0_0_1_n_n none x (shapeCast S1024x1024 w shapeCasts_S1024x1024_S1024x1024) (constant S256x1024 .f32 0x00000000#32)

/-- A head's logits from the head's slices. -/
def lo (q k : FVec Ideal S256x256 .bf16) : FVec Ideal S256x256 .f32 :=
  mulf (matmul dot_S256x256_S256x256_S256x256_1_1_0_0_n_n none q k (constant S256x256 .f32 0x00000000#32)) (broadcast S256x256 (Scalar.ofBits .f32 0x3D800000#32))

/-- The four heads' weighted values side by side. -/
def oo (v : FVec Ideal S256x1024 .bf16) (a b c d : FVec Ideal S256x256 .bf16) : FVec Ideal S256x1024 .bf16 := k0_pay44 v a b c d

/-- A head's product of weights and values. -/
def pv (p v : FVec Ideal S256x256 .bf16) : FVec Ideal S256x256 .f32 :=
  matmul dot_S256x256_S256x256_S256x256_1_0_0_1_n_n none p v (constant S256x256 .f32 0x00000000#32)

/-! ## A slice at an index -/

/-- The first head's lanes of the recurrence's rows. -/
theorem sA0 (O : FVec Ideal S256x512 .f32) (b : Fin 256) (l : Fin 128) :
    extractStridedSlice S256x128 ![0, 0] O slices_S256x512_o0_0_S256x128 (ix2 b l) = O (ix2 b ⟨l.val, by omega⟩) := by
  pointwise
/-- The first head's lanes of the gain. -/
theorem sG0 (O : FVec Ideal S1x512 .f32) (l : Fin 128) :
    extractStridedSlice S1x128 ![0, 0] O slices_S1x512_o0_0_S1x128 (ix2 0 l) = O (ix2 0 ⟨l.val, by omega⟩) := by
  pointwise
/-- The second head's lanes of the recurrence's rows. -/
theorem sA128 (O : FVec Ideal S256x512 .f32) (b : Fin 256) (l : Fin 128) :
    extractStridedSlice S256x128 ![0, 128] O slices_S256x512_o0_128_S256x128 (ix2 b l) = O (ix2 b ⟨128 + l.val, by omega⟩) := by
  pointwise
/-- The second head's lanes of the gain. -/
theorem sG128 (O : FVec Ideal S1x512 .f32) (l : Fin 128) :
    extractStridedSlice S1x128 ![0, 128] O slices_S1x512_o0_128_S1x128 (ix2 0 l) = O (ix2 0 ⟨128 + l.val, by omega⟩) := by
  pointwise
/-- The third head's lanes of the recurrence's rows. -/
theorem sA256 (O : FVec Ideal S256x512 .f32) (b : Fin 256) (l : Fin 128) :
    extractStridedSlice S256x128 ![0, 256] O slices_S256x512_o0_256_S256x128 (ix2 b l) = O (ix2 b ⟨256 + l.val, by omega⟩) := by
  pointwise
/-- The third head's lanes of the gain. -/
theorem sG256 (O : FVec Ideal S1x512 .f32) (l : Fin 128) :
    extractStridedSlice S1x128 ![0, 256] O slices_S1x512_o0_256_S1x128 (ix2 0 l) = O (ix2 0 ⟨256 + l.val, by omega⟩) := by
  pointwise
/-- The fourth head's lanes of the recurrence's rows. -/
theorem sA384 (O : FVec Ideal S256x512 .f32) (b : Fin 256) (l : Fin 128) :
    extractStridedSlice S256x128 ![0, 384] O slices_S256x512_o0_384_S256x128 (ix2 b l) = O (ix2 b ⟨384 + l.val, by omega⟩) := by
  pointwise
/-- The fourth head's lanes of the gain. -/
theorem sG384 (O : FVec Ideal S1x512 .f32) (l : Fin 128) :
    extractStridedSlice S1x128 ![0, 384] O slices_S1x512_o0_384_S1x128 (ix2 0 l) = O (ix2 0 ⟨384 + l.val, by omega⟩) := by
  pointwise
/-- The first memory head's lanes. -/
theorem sB0 (q : FVec Ideal S256x1024 .bf16) (b l : Fin 256) :
    extractStridedSlice S256x256 ![0, 0] q slices_S256x1024_o0_0_S256x256 (ix2 b l) = q (ix2 b ⟨l.val, by omega⟩) := by
  pointwise
/-- The second memory head's lanes. -/
theorem sB256 (q : FVec Ideal S256x1024 .bf16) (b l : Fin 256) :
    extractStridedSlice S256x256 ![0, 256] q slices_S256x1024_o0_256_S256x256 (ix2 b l) = q (ix2 b ⟨256 + l.val, by omega⟩) := by
  pointwise
/-- The third memory head's lanes. -/
theorem sB512 (q : FVec Ideal S256x1024 .bf16) (b l : Fin 256) :
    extractStridedSlice S256x256 ![0, 512] q slices_S256x1024_o0_512_S256x256 (ix2 b l) = q (ix2 b ⟨512 + l.val, by omega⟩) := by
  pointwise
/-- The fourth memory head's lanes. -/
theorem sB768 (q : FVec Ideal S256x1024 .bf16) (b l : Fin 256) :
    extractStridedSlice S256x256 ![0, 768] q slices_S256x1024_o0_768_S256x256 (ix2 b l) = q (ix2 b ⟨768 + l.val, by omega⟩) := by
  pointwise

/-! ## A step at an index -/

/-- The head at an index. -/
theorem hd_apply (o h : FVec Ideal S256x128 .f32) (g : FVec Ideal S1x128 .f32) (b : Fin 256) (l : Fin 128) :
    hd o h g (ix2 b l) = o (ix2 b l) * rms c128 (fun l => h (ix2 b l)) (fun l => g (ix2 0 l)) l := by
  pointwise [hd, rms, c128, eps]

/-- Five pieces side by side, at an index. -/
theorem cat_apply (a b c d : FVec Ideal S256x128 .f32) (y : FVec Ideal S1x256x512 .f32) (r : Fin 256) (j : Fin 1024) :
    cat a b c d y (ix2 r j) = if h : j.val < 128 then a (ix2 r ⟨j.val, h⟩) else if h1 : j.val - 128 < 128 then b (ix2 r ⟨j.val - 128, h1⟩)
      else if h2 : j.val - 128 - 128 < 128 then c (ix2 r ⟨j.val - 128 - 128, h2⟩) else if h3 : j.val - 128 - 128 - 128 < 128 then d (ix2 r ⟨j.val - 128 - 128 - 128, h3⟩)
      else y (ix3 0 r ⟨j.val - 128 - 128 - 128 - 128, by omega⟩) := by
  pointwise [cat]

/-- The gated branch beside the attention is the row's function. -/
theorem yy_apply (O H : FVec Ideal S256x512 .f32) (g : FVec Ideal S1x512 .f32) (y : FVec Ideal S1x256x512 .f32) (o : Fin 512 → EReal) (r : Fin 256)
    (ho : ∀ j, O (ix2 r j) = lgs (o j)) (j : Fin 1024) :
    yy O H g y (ix2 r j) = yc o (fun j => H (ix2 r j)) (fun j => g (ix2 0 j)) (fun j => y (ix3 0 r j)) j := by
  unfold yy
  rw [cat_apply]
  unfold yc
  have e : ∀ (p q : ℕ) (hp : p < 512) (hq : q < 512), p = q → (⟨p, hp⟩ : Fin 512) = ⟨q, hq⟩ := fun p q hp hq h => Fin.ext h
  have e' : ∀ (p q : ℕ) (hp : p < 128) (hq : q < 128), p = q → (⟨p, hp⟩ : Fin 128) = ⟨q, hq⟩ := fun p q hp hq h => Fin.ext h
  by_cases h : j.val < 128
  · rw [dif_pos h, dif_pos (by omega), hd_apply]
    simp only [sA0, sG0, ho]
    refine congrArg₂ (· * ·) rfl ?_
    simp only [show j.val / 128 = 0 by omega, show j.val % 128 = j.val by omega, Nat.mul_zero, Nat.zero_add]
  by_cases h1 : j.val - 128 < 128
  · rw [dif_neg h, dif_pos h1, dif_pos (by omega), hd_apply]
    simp only [sA128, sG128, ho]
    refine congrArg₂ (· * ·) (congrArg (fun x => lgs (o x)) (e _ _ _ _ (by omega))) ?_
    simp only [show j.val / 128 = 1 by omega, show j.val % 128 = j.val - 128 by omega, Nat.mul_one]
  by_cases h2 : j.val - 128 - 128 < 128
  · rw [dif_neg h, dif_neg h1, dif_pos h2, dif_pos (by omega), hd_apply]
    simp only [sA256, sG256, ho]
    refine congrArg₂ (· * ·) (congrArg (fun x => lgs (o x)) (e _ _ _ _ (by omega))) ?_
    simp only [show j.val / 128 = 2 by omega, show j.val % 128 = j.val - 128 - 128 by omega, Nat.reduceMul]
  by_cases h3 : j.val - 128 - 128 - 128 < 128
  · rw [dif_neg h, dif_neg h1, dif_neg h2, dif_pos h3, dif_pos (by omega), hd_apply]
    simp only [sA384, sG384, ho]
    refine congrArg₂ (· * ·) (congrArg (fun x => lgs (o x)) (e _ _ _ _ (by omega))) ?_
    simp only [show j.val / 128 = 3 by omega, show j.val % 128 = j.val - 128 - 128 - 128 by omega, Nat.reduceMul]
  · rw [dif_neg h, dif_neg h1, dif_neg h2, dif_neg h3, dif_neg (by omega)]
    exact congrArg (fun x => y (ix3 0 r x)) (e _ _ _ _ (by omega))

/-- The normalised row. -/
theorem nr_apply (x : FVec Ideal S256x1024 .f32) (g : FVec Ideal S1x1024 .f32) (b : Fin 256) (i : Fin 1024) :
    nr x g (ix2 b i) = rms c1024 (fun i => x (ix2 b i)) (fun i => g (ix2 0 i)) i := by
  pointwise [nr, k0_pay53, rms, c1024, eps]

/-- The row times a matrix. -/
theorem mm_apply (x : FVec Ideal S256x1024 .bf16) (w : FVec Ideal S1024x1024 .bf16) (b : Fin 256) (i : Fin 1024) :
    mm x w (ix2 b i) = mv (fun i => x (ix2 b i)) (fun i j => w (ix2 i j)) i := by
  pointwise [mm, mv]

/-- A logit. -/
theorem lo_apply (q k : FVec Ideal S256x256 .bf16) (b i : Fin 256) :
    lo q k (ix2 b i) = (∑ l : Fin 256, q (ix2 b l) * k (ix2 i l)) * c16 := by
  pointwise [lo, c16]

/-- A weighted value. -/
theorem pv_apply (p v : FVec Ideal S256x256 .bf16) (b i : Fin 256) :
    pv p v (ix2 b i) = ∑ k : Fin 256, p (ix2 b k) * v (ix2 k i) := by
  pointwise [pv]

/-- The weights of a row's logits. -/
theorem sm_apply (s : FVec Ideal S256x256 .f32) (b i : Fin 256) :
    k0_pay35 s (ix2 b i) = sm (fun k => s (ix2 b k)) i := by
  pointwise [k0_pay35, sm, mx]

/-- Four pieces side by side, at an index. -/
theorem cat4_apply (a b c d : FVec Ideal S256x256 .f32) (r : Fin 256) (j : Fin 1024) :
    concatenate S256x1024 1 [⟨S256x256, a⟩, ⟨S256x256, b⟩, ⟨S256x256, c⟩, ⟨S256x256, d⟩] concatenates_S256x256_S256x256_S256x256_S256x256_S256x1024_d1 (ix2 r j)
      = if h : j.val < 256 then a (ix2 r ⟨j.val, h⟩) else if h1 : j.val - 256 < 256 then b (ix2 r ⟨j.val - 256, h1⟩)
        else if h2 : j.val - 256 - 256 < 256 then c (ix2 r ⟨j.val - 256 - 256, h2⟩) else d (ix2 r ⟨j.val - 256 - 256 - 256, by omega⟩) := by
  pointwise

/-- The weights of a head of the memory's attention. -/
def wt (q k : FVec Ideal S256x1024 .bf16) : Fin 4 → FVec Ideal S256x256 .bf16
  | 0 => k0_pay35 (lo (extractStridedSlice S256x256 ![0, 0] q slices_S256x1024_o0_0_S256x256) (extractStridedSlice S256x256 ![0, 0] k slices_S256x1024_o0_0_S256x256))
  | 1 => k0_pay35 (lo (extractStridedSlice S256x256 ![0, 256] q slices_S256x1024_o0_256_S256x256) (extractStridedSlice S256x256 ![0, 256] k slices_S256x1024_o0_256_S256x256))
  | 2 => k0_pay35 (lo (extractStridedSlice S256x256 ![0, 512] q slices_S256x1024_o0_512_S256x256) (extractStridedSlice S256x256 ![0, 512] k slices_S256x1024_o0_512_S256x256))
  | 3 => k0_pay35 (lo (extractStridedSlice S256x256 ![0, 768] q slices_S256x1024_o0_768_S256x256) (extractStridedSlice S256x256 ![0, 768] k slices_S256x1024_o0_768_S256x256))

/-- The weights at an index. -/
theorem wt_apply (q k : FVec Ideal S256x1024 .bf16) (h : Fin 4) (b i : Fin 256) :
    wt q k h (ix2 b i) = sm (sc (fun j => q (ix2 b j)) (fun i j => k (ix2 i j)) h) i := by
  have key : ∀ s : FVec Ideal S256x256 .f32, (∀ i, s (ix2 b i) = sc (fun j => q (ix2 b j)) (fun i j => k (ix2 i j)) h i) →
      k0_pay35 s (ix2 b i) = sm (sc (fun j => q (ix2 b j)) (fun i j => k (ix2 i j)) h) i := by
    intro s hs
    rw [sm_apply]
    exact congrArg (fun t => sm t i) (funext hs)
  match h with
  | 0 =>
    exact key _ fun i => by
      rw [lo_apply]; unfold sc; simp only [sB0]
      refine congrArg (· * c16) (Finset.sum_congr rfl fun l _ => ?_)
      exact congrArg₂ (· * ·) (congrArg (fun x => q (ix2 b x)) (Fin.ext (by show l.val = 256 * 0 + l.val; omega))) (congrArg (fun x => k (ix2 i x)) (Fin.ext (by show l.val = 256 * 0 + l.val; omega)))
  | 1 => exact key _ fun i => by rw [lo_apply]; unfold sc; simp only [sB256]; rfl
  | 2 => exact key _ fun i => by rw [lo_apply]; unfold sc; simp only [sB512]; rfl
  | 3 => exact key _ fun i => by rw [lo_apply]; unfold sc; simp only [sB768]; rfl

/-- The weighted values side by side are the row's function. -/
theorem oo_apply (v q k : FVec Ideal S256x1024 .bf16) (b : Fin 256) (j : Fin 1024) :
    oo v (wt q k 0) (wt q k 1) (wt q k 2) (wt q k 3) (ix2 b j)
      = ov (fun j => q (ix2 b j)) (fun i j => k (ix2 i j)) (fun i j => v (ix2 i j)) j := by
  have e : oo v (wt q k 0) (wt q k 1) (wt q k 2) (wt q k 3) = truncf .bf16 (concatenate S256x1024 1 [⟨S256x256, pv (wt q k 0) (extractStridedSlice S256x256 ![0, 0] v slices_S256x1024_o0_0_S256x256)⟩,
      ⟨S256x256, pv (wt q k 1) (extractStridedSlice S256x256 ![0, 256] v slices_S256x1024_o0_256_S256x256)⟩,
      ⟨S256x256, pv (wt q k 2) (extractStridedSlice S256x256 ![0, 512] v slices_S256x1024_o0_512_S256x256)⟩,
      ⟨S256x256, pv (wt q k 3) (extractStridedSlice S256x256 ![0, 768] v slices_S256x1024_o0_768_S256x256)⟩]
      concatenates_S256x256_S256x256_S256x256_S256x256_S256x1024_d1) bitsLt_bf16_f32 := rfl
  rw [e]
  refine (cat4_apply _ _ _ _ b j).trans ?_
  have f : ∀ (p q : ℕ) (hp : p < 1024) (hq : q < 1024), p = q → (⟨p, hp⟩ : Fin 1024) = ⟨q, hq⟩ := fun p q hp hq h => Fin.ext h
  have g : ∀ (h : Fin 4) (p : ℕ) (hp : p < 4), p = h.val → (⟨p, hp⟩ : Fin 4) = h := fun h p hp hh => Fin.ext hh
  unfold ov
  by_cases h : j.val < 256
  · rw [dif_pos h, pv_apply]
    simp only [sB0, wt_apply]
    rw [g 0 (j.val / 256) (by omega) (by show j.val / 256 = 0; omega)]
  by_cases h1 : j.val - 256 < 256
  · rw [dif_neg h, dif_pos h1, pv_apply]
    simp only [sB256, wt_apply]
    rw [g 1 (j.val / 256) (by omega) (by show j.val / 256 = 1; omega)]
    exact Finset.sum_congr rfl fun l _ => congrArg₂ (· * ·) rfl (congrArg (fun x => v (ix2 l x)) (f _ _ _ _ (by omega)))
  by_cases h2 : j.val - 256 - 256 < 256
  · rw [dif_neg h, dif_neg h1, dif_pos h2, pv_apply]
    simp only [sB512, wt_apply]
    rw [g 2 (j.val / 256) (by omega) (by show j.val / 256 = 2; omega)]
    exact Finset.sum_congr rfl fun l _ => congrArg₂ (· * ·) rfl (congrArg (fun x => v (ix2 l x)) (f _ _ _ _ (by omega)))
  · rw [dif_neg h, dif_neg h1, dif_neg h2, pv_apply]
    simp only [sB768, wt_apply]
    rw [g 3 (j.val / 256) (by omega) (by show j.val / 256 = 3; omega)]
    exact Finset.sum_congr rfl fun l _ => congrArg₂ (· * ·) rfl (congrArg (fun x => v (ix2 l x)) (f _ _ _ _ (by omega)))

end Cert.Kernel4Ideal.Post
-- ==== Proof.Post.Step.lean ====
module

public import proofs.«01_k».proof.Proof.Gen.Kernel4Ideal.Frame
public import proofs.«01_k».proof.Proof.Post.Parts
public import Idealize.ShloMosaic.Lib.Pipeline.ReadBack

@[expose] public section

set_option maxRecDepth 16384

noncomputable section

open Idealize.ShloMosaic

/-! # One grid point: 512 tokens in two halves -/

namespace Cert.Kernel4Ideal.Post

open Cert.Kernel4Ideal Cert.Kernel4Ideal.Gen Cert.Rows

/-! ## What a load reads -/

/-- A matrix, a gain and a block of the memory are loaded whole. -/
theorem ld6 (x : FVec Ideal S1024x1024 .bf16) : View.ld (Val := Elt Ideal) (e' := .bf16) x r0_6 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega
/-- A gain of the model width, loaded whole. -/
theorem ld8 (x : FVec Ideal S1x1024 .f32) : View.ld (Val := Elt Ideal) (e' := .f32) x r0_8 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega
/-- The head norm's gain, loaded whole. -/
theorem ld0 (x : FVec Ideal S1x512 .f32) : View.ld (Val := Elt Ideal) (e' := .f32) x r0_0 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega
/-- The memory's keys or values, loaded whole. -/
theorem ld9 (x : FVec Ideal S1x256x1024 .bf16) : View.ld (Val := Elt Ideal) (e' := .bf16) x r0_9 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The first and the second half of the tokens, of each input. -/
theorem ld1 (x : FVec Ideal S1x512x512 .f32) (p : Fin 512) (q : Fin 256) : View.ld (Val := Elt Ideal) (e' := .f32) x r0_1 (ix3 0 p q) = x (ix3 0 p ⟨0 + q.val, by omega⟩) := by
  rw [View.ld_apply]; refine congrArg x (funext fun a => Fin.ext ?_)
  match a with
  | ⟨0, _⟩ => rfl
  | ⟨1, _⟩ => show 0 + 1 * p.val = p.val; omega
  | ⟨2, _⟩ => show 0 + 1 * q.val = 0 + q.val; omega
/-- A load of the first 256 tokens of a block with tokens as rows. -/
theorem ld2 (x : FVec Ideal S1x512x512 .f32) (p : Fin 256) (q : Fin 512) : View.ld (Val := Elt Ideal) (e' := .f32) x r0_2 (ix3 0 p q) = x (ix3 0 ⟨0 + p.val, by omega⟩ q) := by
  rw [View.ld_apply]; refine congrArg x (funext fun a => Fin.ext ?_)
  match a with
  | ⟨0, _⟩ => rfl
  | ⟨1, _⟩ => show 0 + 1 * p.val = 0 + p.val; omega
  | ⟨2, _⟩ => show 0 + 1 * q.val = q.val; omega
/-- A load of the last 256 tokens of a block with tokens as columns. -/
theorem ld3 (x : FVec Ideal S1x512x512 .f32) (p : Fin 512) (q : Fin 256) : View.ld (Val := Elt Ideal) (e' := .f32) x r0_3 (ix3 0 p q) = x (ix3 0 p ⟨256 + q.val, by omega⟩) := by
  rw [View.ld_apply]; refine congrArg x (funext fun a => Fin.ext ?_)
  match a with
  | ⟨0, _⟩ => rfl
  | ⟨1, _⟩ => show 0 + 1 * p.val = p.val; omega
  | ⟨2, _⟩ => show 256 + 1 * q.val = 256 + q.val; omega
/-- A load of the last 256 tokens of a block with tokens as rows. -/
theorem ld4 (x : FVec Ideal S1x512x512 .f32) (p : Fin 256) (q : Fin 512) : View.ld (Val := Elt Ideal) (e' := .f32) x r0_4 (ix3 0 p q) = x (ix3 0 ⟨256 + p.val, by omega⟩ q) := by
  rw [View.ld_apply]; refine congrArg x (funext fun a => Fin.ext ?_)
  match a with
  | ⟨0, _⟩ => rfl
  | ⟨1, _⟩ => show 256 + 1 * p.val = 256 + p.val; omega
  | ⟨2, _⟩ => show 0 + 1 * q.val = q.val; omega
/-- A load of the first 256 residual rows. -/
theorem ld5 (x : FVec Ideal S1x512x1024 .f32) (p : Fin 256) (q : Fin 1024) : View.ld (Val := Elt Ideal) (e' := .f32) x r0_5 (ix3 0 p q) = x (ix3 0 ⟨0 + p.val, by omega⟩ q) := by
  rw [View.ld_apply]; refine congrArg x (funext fun a => Fin.ext ?_)
  match a with
  | ⟨0, _⟩ => rfl
  | ⟨1, _⟩ => show 0 + 1 * p.val = 0 + p.val; omega
  | ⟨2, _⟩ => show 0 + 1 * q.val = q.val; omega
/-- A load of the last 256 residual rows. -/
theorem ld7 (x : FVec Ideal S1x512x1024 .f32) (p : Fin 256) (q : Fin 1024) : View.ld (Val := Elt Ideal) (e' := .f32) x r0_7 (ix3 0 p q) = x (ix3 0 ⟨256 + p.val, by omega⟩ q) := by
  rw [View.ld_apply]; refine congrArg x (funext fun a => Fin.ext ?_)
  match a with
  | ⟨0, _⟩ => rfl
  | ⟨1, _⟩ => show 256 + 1 * p.val = 256 + p.val; omega
  | ⟨2, _⟩ => show 0 + 1 * q.val = q.val; omega

/-! ## One half -/

/-- 256 tokens after the two branches are added. -/
def X1 (x : FVec Ideal S1x256x1024 .f32) (hf hb : FVec Ideal S1x512x256 .f32) (om ya : FVec Ideal S1x256x512 .f32) (g : FVec Ideal S1x512 .f32)
    (w : FVec Ideal S1024x1024 .bf16) : FVec Ideal S256x1024 .f32 :=
  k0_pay19 (yy (k0_pay6 om) (k0_pay5 hf hb) (k0_pay4 g) ya) x w

/-- The queries of 256 tokens. -/
def QQ (x : FVec Ideal S256x1024 .f32) (g : FVec Ideal S1x1024 .f32) (wq : FVec Ideal S1024x1024 .bf16) : FVec Ideal S256x1024 .bf16 :=
  truncf .bf16 (mm (truncf .bf16 (nr x g) bitsLt_bf16_f32) wq) bitsLt_bf16_f32

/-- 256 tokens after the attention to the memory is added. -/
def X2 (x : FVec Ideal S256x1024 .f32) (km vm : FVec Ideal S1x256x1024 .bf16) (g : FVec Ideal S1x1024 .f32) (wq wo : FVec Ideal S1024x1024 .bf16) :
    FVec Ideal S256x1024 .f32 :=
  k0_pay45 x (oo (k0_pay25 vm) (wt (QQ x g wq) (k0_pay24 km) 0) (wt (QQ x g wq) (k0_pay24 km) 1) (wt (QQ x g wq) (k0_pay24 km) 2) (wt (QQ x g wq) (k0_pay24 km) 3)) wo

/-- The gate of a half. -/
theorem om_apply (om : FVec Ideal S1x256x512 .f32) (b : Fin 256) (j : Fin 512) : k0_pay6 (F := Ideal) om (ix2 b j) = lgs (om (ix3 0 b j)) := by
  pointwise [k0_pay6, lgs, zero_sub]

/-- The sum of the two directions of a half. -/
theorem hs_apply (hf hb : FVec Ideal S1x512x256 .f32) (b : Fin 256) (j : Fin 512) : k0_pay5 (F := Ideal) hf hb (ix2 b j) = hf (ix3 0 j b) + hb (ix3 0 j b) := by
  pointwise [k0_pay5]

/-- The head norm's gain as one row. -/
theorem g_apply (g : FVec Ideal S1x512 .f32) (j : Fin 512) : k0_pay4 g (ix2 0 j) = g (ix2 0 j) := by
  pointwise [k0_pay4]

/-- The memory's keys as a matrix. -/
theorem km_apply (k : FVec Ideal S1x256x1024 .bf16) (i : Fin 256) (j : Fin 1024) : k0_pay24 k (ix2 i j) = k (ix3 0 i j) := by
  pointwise [k0_pay24]

/-- The memory's values as a matrix. -/
theorem vm_apply (k : FVec Ideal S1x256x1024 .bf16) (i : Fin 256) (j : Fin 1024) : k0_pay25 k (ix2 i j) = k (ix3 0 i j) := by
  pointwise [k0_pay25]

/-- The rows after the two branches. -/
theorem p19_apply (y : FVec Ideal S256x1024 .bf16) (x : FVec Ideal S1x256x1024 .f32) (w : FVec Ideal S1024x1024 .bf16) (b : Fin 256) (i : Fin 1024) :
    k0_pay19 y x w (ix2 b i) = x (ix3 0 b i) + mv (fun i => y (ix2 b i)) (fun i j => w (ix2 i j)) i := by
  pointwise [k0_pay19, mv]

/-- The rows after the attention to the memory. -/
theorem p45_apply (x : FVec Ideal S256x1024 .f32) (y : FVec Ideal S256x1024 .bf16) (w : FVec Ideal S1024x1024 .bf16) (b : Fin 256) (i : Fin 1024) :
    k0_pay45 x y w (ix2 b i) = x (ix2 b i) + mv (fun i => y (ix2 b i)) (fun i j => w (ix2 i j)) i := by
  pointwise [k0_pay45, mv]

/-- A token's row after the two branches. -/
theorem X1_apply (x : FVec Ideal S1x256x1024 .f32) (hf hb : FVec Ideal S1x512x256 .f32) (om ya : FVec Ideal S1x256x512 .f32) (g : FVec Ideal S1x512 .f32)
    (w : FVec Ideal S1024x1024 .bf16) (b : Fin 256) (i : Fin 1024) :
    X1 x hf hb om ya g w (ix2 b i) = Rows.x1 (fun i => x (ix3 0 b i)) (fun j => om (ix3 0 b j)) (fun j => hf (ix3 0 j b) + hb (ix3 0 j b))
      (fun j => g (ix2 0 j)) (fun j => ya (ix3 0 b j)) (fun i j => w (ix2 i j)) i := by
  unfold X1
  rw [p19_apply]
  unfold Rows.x1
  refine congrArg (x (ix3 0 b i) + ·) (congrArg (fun t => mv t _ i) (funext fun j => ?_))
  rw [yy_apply _ _ _ _ (fun j => om (ix3 0 b j)) b (fun j => om_apply om b j)]
  simp only [hs_apply, g_apply]

/-- A token's queries. -/
theorem QQ_apply (x : FVec Ideal S256x1024 .f32) (g : FVec Ideal S1x1024 .f32) (wq : FVec Ideal S1024x1024 .bf16) (b : Fin 256) (j : Fin 1024) :
    QQ x g wq (ix2 b j) = mv (rms c1024 (fun i => x (ix2 b i)) (fun i => g (ix2 0 i))) (fun i j => wq (ix2 i j)) j := by
  refine (mm_apply _ _ b j).trans ?_
  exact congrArg (fun t => mv t _ j) (funext fun i => nr_apply x g b i)

/-- A token's row after the attention to the memory. -/
theorem X2_apply (x : FVec Ideal S256x1024 .f32) (km vm : FVec Ideal S1x256x1024 .bf16) (g : FVec Ideal S1x1024 .f32) (wq wo : FVec Ideal S1024x1024 .bf16)
    (b : Fin 256) (i : Fin 1024) :
    X2 x km vm g wq wo (ix2 b i) = Rows.x2 (fun i => x (ix2 b i)) (fun k j => km (ix3 0 k j)) (fun k j => vm (ix3 0 k j)) (fun i => g (ix2 0 i))
      (fun i j => wq (ix2 i j)) (fun i j => wo (ix2 i j)) i := by
  unfold X2
  rw [p45_apply]
  unfold Rows.x2
  refine congrArg (x (ix2 b i) + ·) (congrArg (fun t => mv t _ i) (funext fun j => ?_))
  rw [oo_apply]
  simp only [km_apply, vm_apply, QQ_apply]

/-! ## The block stored -/

/-- A token's row, from the blocks a point holds. -/
def row1 (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (R : Fin 512) : Fin 1024 → EReal :=
  Rows.x1 (fun i => a0 (ix3 0 R i)) (fun j => a3 (ix3 0 R j)) (fun j => a1 (ix3 0 j R) + a2 (ix3 0 j R)) (fun j => a7 (ix2 0 j)) (fun j => a4 (ix3 0 R j))
    (fun i j => a8 (ix2 i j))

/-- A row after the attention to the memory. -/
def row2 (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (R : Fin 512) : Fin 1024 → EReal :=
  Rows.x2 (row1 a0 a1 a2 a3 a4 a5 a6 a7 a8 a9 a10 a11 a12 a13 a14 R) (fun k j => a5 (ix3 0 k j)) (fun k j => a6 (ix3 0 k j)) (fun i => a9 (ix2 0 i)) (fun i j => a10 (ix2 i j)) (fun i j => a11 (ix2 i j))

/-- The second half. -/
theorem hi_eq (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) : k0_pay75 (F := Ideal) a0 a1 a2 a3 a4 a5 a6 a7 a8 a9 a10 a11 a12 a13 a14
    = X2 (X1 (View.ld (Val := Elt Ideal) (e' := .f32) a0 r0_7) (View.ld (Val := Elt Ideal) (e' := .f32) a1 r0_3) (View.ld (Val := Elt Ideal) (e' := .f32) a2 r0_3) (View.ld (Val := Elt Ideal) (e' := .f32) a3 r0_4) (View.ld (Val := Elt Ideal) (e' := .f32) a4 r0_4) (View.ld (Val := Elt Ideal) (e' := .f32) a7 r0_0) (View.ld (Val := Elt Ideal) (e' := .bf16) a8 r0_6))
        (View.ld (Val := Elt Ideal) (e' := .bf16) a5 r0_9) (View.ld (Val := Elt Ideal) (e' := .bf16) a6 r0_9) (View.ld (Val := Elt Ideal) (e' := .f32) a9 r0_8) (View.ld (Val := Elt Ideal) (e' := .bf16) a10 r0_6) (View.ld (Val := Elt Ideal) (e' := .bf16) a11 r0_6) := rfl

/-- The first half. -/
theorem lo_eq (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) : k0_pay45 (k0_pay69 (F := Ideal) a0 a1 a2 a3 a4 a5 a6 a7 a8 a9 a10 a11 a12 a13 a14) (k0_pay74 (F := Ideal) a0 a1 a2 a3 a4 a5 a6 a7 a8 a9 a10 a11 a12 a13 a14) (View.ld (Val := Elt Ideal) (e' := .bf16) a11 r0_6)
    = X2 (X1 (View.ld (Val := Elt Ideal) (e' := .f32) a0 r0_5) (View.ld (Val := Elt Ideal) (e' := .f32) a1 r0_1) (View.ld (Val := Elt Ideal) (e' := .f32) a2 r0_1) (View.ld (Val := Elt Ideal) (e' := .f32) a3 r0_2) (View.ld (Val := Elt Ideal) (e' := .f32) a4 r0_2) (View.ld (Val := Elt Ideal) (e' := .f32) a7 r0_0) (View.ld (Val := Elt Ideal) (e' := .bf16) a8 r0_6))
        (View.ld (Val := Elt Ideal) (e' := .bf16) a5 r0_9) (View.ld (Val := Elt Ideal) (e' := .bf16) a6 r0_9) (View.ld (Val := Elt Ideal) (e' := .f32) a9 r0_8) (View.ld (Val := Elt Ideal) (e' := .bf16) a10 r0_6) (View.ld (Val := Elt Ideal) (e' := .bf16) a11 r0_6) := rfl

/-- A half at an index, from what its loads read. -/
theorem half_apply (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (o : ℕ) (ho : o + 256 ≤ 512)
    (x : FVec Ideal S1x256x1024 .f32) (hf hb : FVec Ideal S1x512x256 .f32) (om ya : FVec Ideal S1x256x512 .f32)
    (km vm : FVec Ideal S1x256x1024 .bf16) (gh : FVec Ideal S1x512 .f32) (wt : FVec Ideal S1024x1024 .bf16) (g : FVec Ideal S1x1024 .f32) (wq wo : FVec Ideal S1024x1024 .bf16)
    (h0 : ∀ (b : Fin 256) (i : Fin 1024), x (ix3 0 b i) = a0 (ix3 0 ⟨o + b.val, by omega⟩ i))
    (h1 : ∀ (j : Fin 512) (b : Fin 256), hf (ix3 0 j b) = a1 (ix3 0 j ⟨o + b.val, by omega⟩))
    (h2 : ∀ (j : Fin 512) (b : Fin 256), hb (ix3 0 j b) = a2 (ix3 0 j ⟨o + b.val, by omega⟩))
    (h3 : ∀ (b : Fin 256) (j : Fin 512), om (ix3 0 b j) = a3 (ix3 0 ⟨o + b.val, by omega⟩ j))
    (h4 : ∀ (b : Fin 256) (j : Fin 512), ya (ix3 0 b j) = a4 (ix3 0 ⟨o + b.val, by omega⟩ j))
    (h5 : km = a5) (h6 : vm = a6) (h7 : gh = a7) (h8 : wt = a8) (h9 : g = a9) (h10 : wq = a10) (h11 : wo = a11) (b : Fin 256) (i : Fin 1024) :
    X2 (X1 x hf hb om ya gh wt) km vm g wq wo (ix2 b i) = row2 a0 a1 a2 a3 a4 a5 a6 a7 a8 a9 a10 a11 a12 a13 a14 ⟨o + b.val, by omega⟩ i := by
  subst h5 h6 h7 h8 h9 h10 h11
  rw [X2_apply]
  simp only [X1_apply, h0, h1, h2, h3, h4]
  rfl

/-- The second half at an index. -/
theorem hi_apply (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (b : Fin 256) (i : Fin 1024) :
    k0_pay75 (F := Ideal) a0 a1 a2 a3 a4 a5 a6 a7 a8 a9 a10 a11 a12 a13 a14 (ix2 b i) = row2 a0 a1 a2 a3 a4 a5 a6 a7 a8 a9 a10 a11 a12 a13 a14 ⟨256 + b.val, by omega⟩ i := by
  rw [hi_eq]
  exact half_apply a0 a1 a2 a3 a4 a5 a6 a7 a8 a9 a10 a11 a12 a13 a14 256 (by omega) _ _ _ _ _ _ _ _ _ _ _ _ (ld7 a0) (ld3 a1) (ld3 a2) (ld4 a3) (ld4 a4)
    (ld9 a5) (ld9 a6) (ld0 a7) (ld6 a8) (ld8 a9) (ld6 a10) (ld6 a11) b i

/-- The first half at an index. -/
theorem lo_half_apply (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (b : Fin 256) (i : Fin 1024) :
    k0_pay45 (k0_pay69 (F := Ideal) a0 a1 a2 a3 a4 a5 a6 a7 a8 a9 a10 a11 a12 a13 a14) (k0_pay74 (F := Ideal) a0 a1 a2 a3 a4 a5 a6 a7 a8 a9 a10 a11 a12 a13 a14) (View.ld (Val := Elt Ideal) (e' := .bf16) a11 r0_6) (ix2 b i) = row2 a0 a1 a2 a3 a4 a5 a6 a7 a8 a9 a10 a11 a12 a13 a14 ⟨0 + b.val, by omega⟩ i := by
  rw [lo_eq]
  exact half_apply a0 a1 a2 a3 a4 a5 a6 a7 a8 a9 a10 a11 a12 a13 a14 0 (by omega) _ _ _ _ _ _ _ _ _ _ _ _ (ld5 a0) (ld1 a1) (ld1 a2) (ld2 a3) (ld2 a4)
    (ld9 a5) (ld9 a6) (ld0 a7) (ld6 a8) (ld8 a9) (ld6 a10) (ld6 a11) b i

/-- The rows as stored. -/
theorem p52_apply (x : FVec Ideal S256x1024 .f32) (b : Fin 256) (i : Fin 1024) : k0_pay52 x (ix3 0 b i) = x (ix2 b i) := by
  pointwise [k0_pay52]

/-- The normalised rows as stored, 8 by 128. -/
theorem p54_apply (x : FVec Ideal S256x1024 .f32) (g : FVec Ideal S1x1024 .f32) (b : Fin 256) (e : Fin 8) (l : Fin 128) :
    k0_pay54 x g (ix4 0 b e l) = nr x g (ix2 b ⟨e.val * 128 + l.val, by omega⟩) := by
  unfold k0_pay54
  generalize h : k0_pay53 x g = z
  rw [show nr x g = z from h]
  pointwise

/-- The first result's block at an index. -/
def F15 (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (y : S1x512x1024.Idx) : Elt Ideal .f32 := row2 a0 a1 a2 a3 a4 a5 a6 a7 a8 a9 a10 a11 a12 a13 a14 (y 1) (y 2)

/-- The second result's block at an index. -/
def F16 (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (y : S1x512x8x128.Idx) : Elt Ideal .f32 :=
  rms c1024 (row2 a0 a1 a2 a3 a4 a5 a6 a7 a8 a9 a10 a11 a12 a13 a14 (y 1)) (fun i => a12 (ix2 0 i)) ⟨(y 2).val * 128 + (y 3).val, by have h2 : (y 2).val < 8 := (y 2).isLt; have h3 : (y 3).val < 128 := (y 3).isLt; omega⟩

/-- The first result's block. -/
theorem out15 (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (y : S1x512x1024.Idx) : out0_15 (F := Ideal) a0 a1 a2 a3 a4 a5 a6 a7 a8 a9 a10 a11 a12 a13 a14 y = F15 a0 a1 a2 a3 a4 a5 a6 a7 a8 a9 a10 a11 a12 a13 a14 y := by
  unfold out0_15
  refine (View.canon_append_of_piecesOf (Val := Elt Ideal) (s := S1x512x1024) (e := .f32) (F15 a0 a1 a2 a3 a4 a5 a6 a7 a8 a9 a10 a11 a12 a13 a14) [] [_, _]
    ⟨fun x => ?_, fun x => ?_, trivial⟩ y (cover0_15 _ _ y))
  · idx_vars x
    obtain rfl : x0 = 0 := Subsingleton.elim _ _
    refine (p52_apply _ _ _).trans ((hi_apply a0 a1 a2 a3 a4 a5 a6 a7 a8 a9 a10 a11 a12 a13 a14 _ _).trans ?_)
    exact congrArg₂ (row2 a0 a1 a2 a3 a4 a5 a6 a7 a8 a9 a10 a11 a12 a13 a14) (Fin.ext (by show 256 + x1.val = 256 + 1 * x1.val; omega)) (Fin.ext (by show x2.val = 0 + 1 * x2.val; omega))
  · idx_vars x
    obtain rfl : x0 = 0 := Subsingleton.elim _ _
    refine (p52_apply _ _ _).trans ((lo_half_apply a0 a1 a2 a3 a4 a5 a6 a7 a8 a9 a10 a11 a12 a13 a14 _ _).trans ?_)
    exact congrArg₂ (row2 a0 a1 a2 a3 a4 a5 a6 a7 a8 a9 a10 a11 a12 a13 a14) (Fin.ext (by show 0 + x1.val = 0 + 1 * x1.val; omega)) (Fin.ext (by show x2.val = 0 + 1 * x2.val; omega))

/-- The normalised rows of a half, as stored. -/
theorem hn_apply (x : FVec Ideal S256x1024 .f32) (g : FVec Ideal S1x1024 .f32) (G : FVec Ideal S1x1024 .f32) (hg : G = g) (t : Fin 1024 → EReal) (b : Fin 256)
    (hx : ∀ i, x (ix2 b i) = t i) (e : Fin 8) (l : Fin 128) :
    k0_pay54 x G (ix4 0 b e l) = rms c1024 t (fun i => g (ix2 0 i)) ⟨e.val * 128 + l.val, by omega⟩ := by
  subst hg
  rw [p54_apply, nr_apply, show (fun i => x (ix2 b i)) = t from funext hx]

/-- The second result's block. -/
theorem out16 (a0 : FVec Ideal S1x512x1024 .f32) (a1 : FVec Ideal S1x512x512 .f32) (a2 : FVec Ideal S1x512x512 .f32) (a3 : FVec Ideal S1x512x512 .f32) (a4 : FVec Ideal S1x512x512 .f32) (a5 : FVec Ideal S1x256x1024 .bf16) (a6 : FVec Ideal S1x256x1024 .bf16) (a7 : FVec Ideal S1x512 .f32) (a8 : FVec Ideal S1024x1024 .bf16) (a9 : FVec Ideal S1x1024 .f32) (a10 : FVec Ideal S1024x1024 .bf16) (a11 : FVec Ideal S1024x1024 .bf16) (a12 : FVec Ideal S1x1024 .f32) (a13 : FVec Ideal S1024x128 .bf16) (a14 : FVec Ideal S1024x128 .bf16) (y : S1x512x8x128.Idx) : out0_16 (F := Ideal) a0 a1 a2 a3 a4 a5 a6 a7 a8 a9 a10 a11 a12 a13 a14 y = F16 a0 a1 a2 a3 a4 a5 a6 a7 a8 a9 a10 a11 a12 a13 a14 y := by
  unfold out0_16
  refine (View.canon_append_of_piecesOf (Val := Elt Ideal) (s := S1x512x8x128) (e := .f32) (F16 a0 a1 a2 a3 a4 a5 a6 a7 a8 a9 a10 a11 a12 a13 a14) [] [_, _]
    ⟨fun x => ?_, fun x => ?_, trivial⟩ y (cover0_16 _ _ y))
  · idx_vars x
    obtain rfl : x0 = 0 := Subsingleton.elim _ _
    refine (hn_apply _ a12 _ (ld8 a12) _ x1 (fun q => hi_apply a0 a1 a2 a3 a4 a5 a6 a7 a8 a9 a10 a11 a12 a13 a14 x1 q) x2 x3).trans ?_
    exact congrArg₂ (fun R i => rms c1024 (row2 a0 a1 a2 a3 a4 a5 a6 a7 a8 a9 a10 a11 a12 a13 a14 R) (fun i => a12 (ix2 0 i)) i) (Fin.ext (by show 256 + x1.val = 256 + 1 * x1.val; omega))
      (Fin.ext (by show x2.val * 128 + x3.val = (0 + 1 * x2.val) * 128 + (0 + 1 * x3.val); omega))
  · idx_vars x
    obtain rfl : x0 = 0 := Subsingleton.elim _ _
    refine (hn_apply _ a12 _ (ld8 a12) _ x1 (fun q => lo_half_apply a0 a1 a2 a3 a4 a5 a6 a7 a8 a9 a10 a11 a12 a13 a14 x1 q) x2 x3).trans ?_
    exact congrArg₂ (fun R i => rms c1024 (row2 a0 a1 a2 a3 a4 a5 a6 a7 a8 a9 a10 a11 a12 a13 a14 R) (fun i => a12 (ix2 0 i)) i) (Fin.ext (by show 0 + x1.val = 0 + 1 * x1.val; omega))
      (Fin.ext (by show x2.val * 128 + x3.val = (0 + 1 * x2.val) * 128 + (0 + 1 * x3.val); omega))

end Cert.Kernel4Ideal.Post
-- ==== Proof.Post.RefVal.lean ====
module

public import proofs.«01_k».proof.Proof.Gen.Reference4Ideal
public import Idealize.ShloMosaic.PureOps.Ideal.Laws

@[expose] public section

noncomputable section

/-! # The reference program, one operation at a time -/

namespace Cert.Reference4Ideal.Post

open Cert.Reference4Ideal Cert.Reference4Ideal.Gen Idealize.ShloMosaic Idealize.ShloMosaic.TcCoe Idealize.SL.Sem Idealize.ShloMosaic.StableHlo

variable {F : FTy → Type} [FloatOps F]

/-- `%0 = stablehlo.add %arg1, %arg2` -/
def val_main_v0 (x1 x2 : (⟨S4x512x4096, .f32⟩ : BufTy).Contents (Elt F)) : (⟨S4x512x4096, .f32⟩ : BufTy).Contents (Elt F) :=
  addf (x1) (x2)
/-- `%1 = stablehlo.reshape %0` -/
def val_main_v1 (x1 x2 : (⟨S4x512x4096, .f32⟩ : BufTy).Contents (Elt F)) : (⟨S4x4x128x4096, .f32⟩ : BufTy).Contents (Elt F) :=
  shapeCast _ (val_main_v0 (F := F) x1 x2) shapeCasts_S4x512x4096_S4x4x128x4096
/-- `%2 = stablehlo.transpose %1, dims = [0, 3, 1, 2]` -/
def val_main_v2 (x1 x2 : (⟨S4x512x4096, .f32⟩ : BufTy).Contents (Elt F)) : (⟨S4x4096x4x128, .f32⟩ : BufTy).Contents (Elt F) :=
  transpose S4x4096x4x128 [0, 3, 1, 2] (val_main_v1 (F := F) x1 x2) transposes_S4x4x128x4096_S4x4096x4x128_0_3_1_2
/-- `%3 = stablehlo.multiply %2, %2` -/
def val_main_v3 (x1 x2 : (⟨S4x512x4096, .f32⟩ : BufTy).Contents (Elt F)) : (⟨S4x4096x4x128, .f32⟩ : BufTy).Contents (Elt F) :=
  mulf (val_main_v2 (F := F) x1 x2) (val_main_v2 (F := F) x1 x2)
/-- `%cst = stablehlo.constant dense<0.000000e+00>` -/
def val_main_cst : (⟨S_, .f32⟩ : BufTy).Contents (Elt F) :=
  constant S_ .f32 0x00000000#32
/-- `%4 = stablehlo.reduce(%3 init: %cst) applies stablehlo.add across dimensions = [3]` -/
def val_main_v4 (x1 x2 : (⟨S4x512x4096, .f32⟩ : BufTy).Contents (Elt F)) : (⟨S4x4096x4, .f32⟩ : BufTy).Contents (Elt F) :=
  Host.reduceAdd (val_main_v3 (F := F) x1 x2) (val_main_cst (F := F)) reducesTo_S4x4096x4x128_S4x4096x4_d3 h_S_
/-- `%5 = stablehlo.broadcast_in_dim %4, dims = [0, 1, 2]` -/
def val_main_v5 (x1 x2 : (⟨S4x512x4096, .f32⟩ : BufTy).Contents (Elt F)) : (⟨S4x4096x4x1, .f32⟩ : BufTy).Contents (Elt F) :=
  broadcastInDim S4x4096x4x1 ![0, 1, 2] bcast_S4x4096x4_S4x4096x4x1_0_1_2 (val_main_v4 (F := F) x1 x2)
/-- `%cst_0 = stablehlo.constant dense<1.280000e+02>` -/
def val_main_cst_0 : (⟨S_, .f32⟩ : BufTy).Contents (Elt F) :=
  constant S_ .f32 0x43000000#32
/-- `%6 = stablehlo.broadcast_in_dim %cst_0, dims = []` -/
def val_main_v6 : (⟨S4x4096x4x1, .f32⟩ : BufTy).Contents (Elt F) :=
  broadcastInDim S4x4096x4x1 ![] bcast_S_S4x4096x4x1 (val_main_cst_0 (F := F))
/-- `%7 = stablehlo.divide %5, %6` -/
def val_main_v7 (x1 x2 : (⟨S4x512x4096, .f32⟩ : BufTy).Contents (Elt F)) : (⟨S4x4096x4x1, .f32⟩ : BufTy).Contents (Elt F) :=
  Host.divf (val_main_v5 (F := F) x1 x2) (val_main_v6 (F := F))
/-- `%cst_1 = stablehlo.constant dense<9.99999997E-7>` -/
def val_main_cst_1 : (⟨S_, .f32⟩ : BufTy).Contents (Elt F) :=
  constant S_ .f32 0x358637BD#32
/-- `%8 = stablehlo.broadcast_in_dim %cst_1, dims = []` -/
def val_main_v8 : (⟨S4x4096x4x1, .f32⟩ : BufTy).Contents (Elt F) :=
  broadcastInDim S4x4096x4x1 ![] bcast_S_S4x4096x4x1 (val_main_cst_1 (F := F))
/-- `%9 = stablehlo.add %7, %8` -/
def val_main_v9 (x1 x2 : (⟨S4x512x4096, .f32⟩ : BufTy).Contents (Elt F)) : (⟨S4x4096x4x1, .f32⟩ : BufTy).Contents (Elt F) :=
  addf (val_main_v7 (F := F) x1 x2) (val_main_v8 (F := F))
/-- `%10 = stablehlo.rsqrt %9` -/
def val_main_v10 (x1 x2 : (⟨S4x512x4096, .f32⟩ : BufTy).Contents (Elt F)) : (⟨S4x4096x4x1, .f32⟩ : BufTy).Contents (Elt F) :=
  Host.rsqrt (val_main_v9 (F := F) x1 x2)
/-- `%11 = stablehlo.broadcast_in_dim %10, dims = [0, 1, 2, 3]` -/
def val_main_v11 (x1 x2 : (⟨S4x512x4096, .f32⟩ : BufTy).Contents (Elt F)) : (⟨S4x4096x4x128, .f32⟩ : BufTy).Contents (Elt F) :=
  broadcastInDim S4x4096x4x128 ![0, 1, 2, 3] bcast_S4x4096x4x1_S4x4096x4x128_0_1_2_3 (val_main_v10 (F := F) x1 x2)
/-- `%12 = stablehlo.multiply %2, %11` -/
def val_main_v12 (x1 x2 : (⟨S4x512x4096, .f32⟩ : BufTy).Contents (Elt F)) : (⟨S4x4096x4x128, .f32⟩ : BufTy).Contents (Elt F) :=
  mulf (val_main_v2 (F := F) x1 x2) (val_main_v11 (F := F) x1 x2)
/-- `%13 = stablehlo.negate %arg3` -/
def val_main_v13 (x3 : (⟨S4x4096x512, .f32⟩ : BufTy).Contents (Elt F)) : (⟨S4x4096x512, .f32⟩ : BufTy).Contents (Elt F) :=
  Host.negf (x3)
/-- `%14 = stablehlo.exponential %13` -/
def val_main_v14 (x3 : (⟨S4x4096x512, .f32⟩ : BufTy).Contents (Elt F)) : (⟨S4x4096x512, .f32⟩ : BufTy).Contents (Elt F) :=
  Host.exp (val_main_v13 (F := F) x3)
/-- `%cst_2 = stablehlo.constant dense<1.000000e+00>` -/
def val_main_cst_2 : (⟨S_, .f32⟩ : BufTy).Contents (Elt F) :=
  constant S_ .f32 0x3F800000#32
/-- `%15 = stablehlo.broadcast_in_dim %cst_2, dims = []` -/
def val_main_v15 : (⟨S4x4096x512, .f32⟩ : BufTy).Contents (Elt F) :=
  broadcastInDim S4x4096x512 ![] bcast_S_S4x4096x512 (val_main_cst_2 (F := F))
/-- `%16 = stablehlo.add %15, %14` -/
def val_main_v16 (x3 : (⟨S4x4096x512, .f32⟩ : BufTy).Contents (Elt F)) : (⟨S4x4096x512, .f32⟩ : BufTy).Contents (Elt F) :=
  addf (val_main_v15 (F := F)) (val_main_v14 (F := F) x3)
/-- `%cst_3 = stablehlo.constant dense<1.000000e+00>` -/
def val_main_cst_3 : (⟨S_, .f32⟩ : BufTy).Contents (Elt F) :=
  constant S_ .f32 0x3F800000#32
/-- `%17 = stablehlo.broadcast_in_dim %cst_3, dims = []` -/
def val_main_v17 : (⟨S4x4096x512, .f32⟩ : BufTy).Contents (Elt F) :=
  broadcastInDim S4x4096x512 ![] bcast_S_S4x4096x512 (val_main_cst_3 (F := F))
/-- `%18 = stablehlo.divide %17, %16` -/
def val_main_v18 (x3 : (⟨S4x4096x512, .f32⟩ : BufTy).Contents (Elt F)) : (⟨S4x4096x512, .f32⟩ : BufTy).Contents (Elt F) :=
  Host.divf (val_main_v17 (F := F)) (val_main_v16 (F := F) x3)
/-- `%19 = stablehlo.reshape %12` -/
def val_main_v19 (x1 x2 : (⟨S4x512x4096, .f32⟩ : BufTy).Contents (Elt F)) : (⟨S4x4096x512, .f32⟩ : BufTy).Contents (Elt F) :=
  shapeCast _ (val_main_v12 (F := F) x1 x2) shapeCasts_S4x4096x4x128_S4x4096x512
/-- `%20 = stablehlo.broadcast_in_dim %arg7, dims = [2]` -/
def val_main_v20 (x7 : (⟨S512, .f32⟩ : BufTy).Contents (Elt F)) : (⟨S1x1x512, .f32⟩ : BufTy).Contents (Elt F) :=
  broadcastInDim S1x1x512 ![2] bcast_S512_S1x1x512_2 (x7)
/-- `%21 = stablehlo.broadcast_in_dim %20, dims = [0, 1, 2]` -/
def val_main_v21 (x7 : (⟨S512, .f32⟩ : BufTy).Contents (Elt F)) : (⟨S4x4096x512, .f32⟩ : BufTy).Contents (Elt F) :=
  broadcastInDim S4x4096x512 ![0, 1, 2] bcast_S1x1x512_S4x4096x512_0_1_2 (val_main_v20 (F := F) x7)
/-- `%22 = stablehlo.multiply %19, %21` -/
def val_main_v22 (x1 x2 : (⟨S4x512x4096, .f32⟩ : BufTy).Contents (Elt F)) (x7 : (⟨S512, .f32⟩ : BufTy).Contents (Elt F)) : (⟨S4x4096x512, .f32⟩ : BufTy).Contents (Elt F) :=
  mulf (val_main_v19 (F := F) x1 x2) (val_main_v21 (F := F) x7)
/-- `%23 = stablehlo.multiply %18, %22` -/
def val_main_v23 (x1 x2 : (⟨S4x512x4096, .f32⟩ : BufTy).Contents (Elt F)) (x3 : (⟨S4x4096x512, .f32⟩ : BufTy).Contents (Elt F)) (x7 : (⟨S512, .f32⟩ : BufTy).Contents (Elt F)) : (⟨S4x4096x512, .f32⟩ : BufTy).Contents (Elt F) :=
  mulf (val_main_v18 (F := F) x3) (val_main_v22 (F := F) x1 x2 x7)
/-- `%24 = stablehlo.concatenate %23, %arg4, dim = 2` -/
def val_main_v24 (x1 x2 : (⟨S4x512x4096, .f32⟩ : BufTy).Contents (Elt F)) (x3 x4 : (⟨S4x4096x512, .f32⟩ : BufTy).Contents (Elt F)) (x7 : (⟨S512, .f32⟩ : BufTy).Contents (Elt F)) : (⟨S4x4096x1024, .f32⟩ : BufTy).Contents (Elt F) :=
  concatenate S4x4096x1024 2 [⟨S4x4096x512, (val_main_v23 (F := F) x1 x2 x3 x7)⟩, ⟨S4x4096x512, (x4)⟩] concatenates_S4x4096x512_S4x4096x512_S4x4096x1024_d2
/-- `%25 = stablehlo.dot_general %24, %arg8, contracting_dims = [2] x [0], precision = [DEFAULT, DEFAULT]` -/
def val_main_v25 (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1024, .f32⟩ : BufTy).Contents (Elt F) :=
  Host.dotGeneral dot_S4x4096x1024_S1024x1024_S4x4096x1024_2_0_01_1_n_n none (val_main_v24 (F := F) x1 x2 x3 x4 x7) (x8)
/-- `%26 = stablehlo.add %arg0, %25` -/
def val_main_v26 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1024, .f32⟩ : BufTy).Contents (Elt F) :=
  addf (x0) (val_main_v25 (F := F) x1 x2 x3 x4 x7 x8)
/-- `%27 = stablehlo.multiply %26, %26` -/
def val_main_v27 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1024, .f32⟩ : BufTy).Contents (Elt F) :=
  mulf (val_main_v26 (F := F) x0 x1 x2 x3 x4 x7 x8) (val_main_v26 (F := F) x0 x1 x2 x3 x4 x7 x8)
/-- `%cst_4 = stablehlo.constant dense<0.000000e+00>` -/
def val_main_cst_4 : (⟨S_, .f32⟩ : BufTy).Contents (Elt F) :=
  constant S_ .f32 0x00000000#32
/-- `%28 = stablehlo.reduce(%27 init: %cst_4) applies stablehlo.add across dimensions = [2]` -/
def val_main_v28 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096, .f32⟩ : BufTy).Contents (Elt F) :=
  Host.reduceAdd (val_main_v27 (F := F) x0 x1 x2 x3 x4 x7 x8) (val_main_cst_4 (F := F)) reducesTo_S4x4096x1024_S4x4096_d2 h_S_
/-- `%29 = stablehlo.broadcast_in_dim %28, dims = [0, 1]` -/
def val_main_v29 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1, .f32⟩ : BufTy).Contents (Elt F) :=
  broadcastInDim S4x4096x1 ![0, 1] bcast_S4x4096_S4x4096x1_0_1 (val_main_v28 (F := F) x0 x1 x2 x3 x4 x7 x8)
/-- `%cst_5 = stablehlo.constant dense<1.024000e+03>` -/
def val_main_cst_5 : (⟨S_, .f32⟩ : BufTy).Contents (Elt F) :=
  constant S_ .f32 0x44800000#32
/-- `%30 = stablehlo.broadcast_in_dim %cst_5, dims = []` -/
def val_main_v30 : (⟨S4x4096x1, .f32⟩ : BufTy).Contents (Elt F) :=
  broadcastInDim S4x4096x1 ![] bcast_S_S4x4096x1 (val_main_cst_5 (F := F))
/-- `%31 = stablehlo.divide %29, %30` -/
def val_main_v31 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1, .f32⟩ : BufTy).Contents (Elt F) :=
  Host.divf (val_main_v29 (F := F) x0 x1 x2 x3 x4 x7 x8) (val_main_v30 (F := F))
/-- `%cst_6 = stablehlo.constant dense<9.99999997E-7>` -/
def val_main_cst_6 : (⟨S_, .f32⟩ : BufTy).Contents (Elt F) :=
  constant S_ .f32 0x358637BD#32
/-- `%32 = stablehlo.broadcast_in_dim %cst_6, dims = []` -/
def val_main_v32 : (⟨S4x4096x1, .f32⟩ : BufTy).Contents (Elt F) :=
  broadcastInDim S4x4096x1 ![] bcast_S_S4x4096x1 (val_main_cst_6 (F := F))
/-- `%33 = stablehlo.add %31, %32` -/
def val_main_v33 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1, .f32⟩ : BufTy).Contents (Elt F) :=
  addf (val_main_v31 (F := F) x0 x1 x2 x3 x4 x7 x8) (val_main_v32 (F := F))
/-- `%34 = stablehlo.rsqrt %33` -/
def val_main_v34 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1, .f32⟩ : BufTy).Contents (Elt F) :=
  Host.rsqrt (val_main_v33 (F := F) x0 x1 x2 x3 x4 x7 x8)
/-- `%35 = stablehlo.broadcast_in_dim %34, dims = [0, 1, 2]` -/
def val_main_v35 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1024, .f32⟩ : BufTy).Contents (Elt F) :=
  broadcastInDim S4x4096x1024 ![0, 1, 2] bcast_S4x4096x1_S4x4096x1024_0_1_2 (val_main_v34 (F := F) x0 x1 x2 x3 x4 x7 x8)
/-- `%36 = stablehlo.multiply %26, %35` -/
def val_main_v36 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) : (⟨S4x4096x1024, .f32⟩ : BufTy).Contents (Elt F) :=
  mulf (val_main_v26 (F := F) x0 x1 x2 x3 x4 x7 x8) (val_main_v35 (F := F) x0 x1 x2 x3 x4 x7 x8)
/-- `%37 = stablehlo.broadcast_in_dim %arg9, dims = [2]` -/
def val_main_v37 (x9 : (⟨S1024, .f32⟩ : BufTy).Contents (Elt F)) : (⟨S1x1x1024, .f32⟩ : BufTy).Contents (Elt F) :=
  broadcastInDim S1x1x1024 ![2] bcast_S1024_S1x1x1024_2 (x9)
/-- `%38 = stablehlo.broadcast_in_dim %37, dims = [0, 1, 2]` -/
def val_main_v38 (x9 : (⟨S1024, .f32⟩ : BufTy).Contents (Elt F)) : (⟨S4x4096x1024, .f32⟩ : BufTy).Contents (Elt F) :=
  broadcastInDim S4x4096x1024 ![0, 1, 2] bcast_S1x1x1024_S4x4096x1024_0_1_2 (val_main_v37 (F := F) x9)
/-- `%39 = stablehlo.multiply %36, %38` -/
def val_main_v39 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) : (⟨S4x4096x1024, .f32⟩ : BufTy).Contents (Elt F) :=
  mulf (val_main_v36 (F := F) x0 x1 x2 x3 x4 x7 x8) (val_main_v38 (F := F) x9)
/-- `%40 = stablehlo.dot_general %39, %arg10, contracting_dims = [2] x [0], precision = [DEFAULT, DEFAULT]` -/
def val_main_v40 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4096x1024, .f32⟩ : BufTy).Contents (Elt F) :=
  Host.dotGeneral dot_S4x4096x1024_S1024x1024_S4x4096x1024_2_0_01_1_n_n none (val_main_v39 (F := F) x0 x1 x2 x3 x4 x7 x8 x9) (x10)
/-- `%41 = stablehlo.reshape %40` -/
def val_main_v41 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4096x4x256, .f32⟩ : BufTy).Contents (Elt F) :=
  shapeCast _ (val_main_v40 (F := F) x0 x1 x2 x3 x4 x7 x8 x9 x10) shapeCasts_S4x4096x1024_S4x4096x4x256
/-- `%42 = stablehlo.convert %arg5` -/
def val_main_v42 (x5 : (⟨S4x256x1024, .bf16⟩ : BufTy).Contents (Elt F)) : (⟨S4x256x1024, .f32⟩ : BufTy).Contents (Elt F) :=
  extf .f32 (x5) bitsLt_bf16_f32
/-- `%43 = stablehlo.reshape %42` -/
def val_main_v43 (x5 : (⟨S4x256x1024, .bf16⟩ : BufTy).Contents (Elt F)) : (⟨S4x256x4x256, .f32⟩ : BufTy).Contents (Elt F) :=
  shapeCast _ (val_main_v42 (F := F) x5) shapeCasts_S4x256x1024_S4x256x4x256
/-- `%44 = stablehlo.convert %arg6` -/
def val_main_v44 (x6 : (⟨S4x256x1024, .bf16⟩ : BufTy).Contents (Elt F)) : (⟨S4x256x1024, .f32⟩ : BufTy).Contents (Elt F) :=
  extf .f32 (x6) bitsLt_bf16_f32
/-- `%45 = stablehlo.reshape %44` -/
def val_main_v45 (x6 : (⟨S4x256x1024, .bf16⟩ : BufTy).Contents (Elt F)) : (⟨S4x256x4x256, .f32⟩ : BufTy).Contents (Elt F) :=
  shapeCast _ (val_main_v44 (F := F) x6) shapeCasts_S4x256x1024_S4x256x4x256
/-- `%46 = stablehlo.dot_general %41, %43, batching_dims = [0, 2] x [0, 2], contracting_dims = [3] x [3], precision = [DEFAULT, DEFAULT]` -/
def val_main_v46 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x256, .f32⟩ : BufTy).Contents (Elt F) :=
  Host.dotGeneral dot_S4x4096x4x256_S4x256x4x256_S4x4x4096x256_3_3_1_1_02_02 none (val_main_v41 (F := F) x0 x1 x2 x3 x4 x7 x8 x9 x10) (val_main_v43 (F := F) x5)
/-- `%cst_7 = stablehlo.constant dense<6.250000e-02>` -/
def val_main_cst_7 : (⟨S_, .f32⟩ : BufTy).Contents (Elt F) :=
  constant S_ .f32 0x3D800000#32
/-- `%47 = stablehlo.broadcast_in_dim %cst_7, dims = []` -/
def val_main_v47 : (⟨S4x4x4096x256, .f32⟩ : BufTy).Contents (Elt F) :=
  broadcastInDim S4x4x4096x256 ![] bcast_S_S4x4x4096x256 (val_main_cst_7 (F := F))
/-- `%48 = stablehlo.multiply %46, %47` -/
def val_main_v48 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x256, .f32⟩ : BufTy).Contents (Elt F) :=
  mulf (val_main_v46 (F := F) x0 x1 x2 x3 x4 x5 x7 x8 x9 x10) (val_main_v47 (F := F))
/-- `%cst_8 = stablehlo.constant dense<0xFF800000>` -/
def val_main_cst_8 : (⟨S_, .f32⟩ : BufTy).Contents (Elt F) :=
  constant S_ .f32 0xFF800000#32
/-- `%49 = stablehlo.reduce(%48 init: %cst_8) applies stablehlo.maximum across dimensions = [3]` -/
def val_main_v49 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096, .f32⟩ : BufTy).Contents (Elt F) :=
  Host.reduce FloatOps.maximumf (val_main_v48 (F := F) x0 x1 x2 x3 x4 x5 x7 x8 x9 x10) (val_main_cst_8 (F := F)) reducesTo_S4x4x4096x256_S4x4x4096_d3 h_S_
/-- `%cst_9 = stablehlo.constant dense<0xFF800000>` -/
def val_main_cst_9 : (⟨S_, .f32⟩ : BufTy).Contents (Elt F) :=
  constant S_ .f32 0xFF800000#32
/-- `%50 = stablehlo.broadcast_in_dim %cst_9, dims = []` -/
def val_main_v50 : (⟨S4x4x4096, .f32⟩ : BufTy).Contents (Elt F) :=
  broadcastInDim S4x4x4096 ![] bcast_S_S4x4x4096 (val_main_cst_9 (F := F))
/-- `%51 = stablehlo.maximum %50, %49` -/
def val_main_v51 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096, .f32⟩ : BufTy).Contents (Elt F) :=
  maximumf (val_main_v50 (F := F)) (val_main_v49 (F := F) x0 x1 x2 x3 x4 x5 x7 x8 x9 x10)
/-- `%52 = stablehlo.broadcast_in_dim %51, dims = [0, 1, 2]` -/
def val_main_v52 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x1, .f32⟩ : BufTy).Contents (Elt F) :=
  broadcastInDim S4x4x4096x1 ![0, 1, 2] bcast_S4x4x4096_S4x4x4096x1_0_1_2 (val_main_v51 (F := F) x0 x1 x2 x3 x4 x5 x7 x8 x9 x10)
/-- `%53 = stablehlo.broadcast_in_dim %52, dims = [0, 1, 2, 3]` -/
def val_main_v53 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x256, .f32⟩ : BufTy).Contents (Elt F) :=
  broadcastInDim S4x4x4096x256 ![0, 1, 2, 3] bcast_S4x4x4096x1_S4x4x4096x256_0_1_2_3 (val_main_v52 (F := F) x0 x1 x2 x3 x4 x5 x7 x8 x9 x10)
/-- `%54 = stablehlo.subtract %48, %53` -/
def val_main_v54 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x256, .f32⟩ : BufTy).Contents (Elt F) :=
  subf (val_main_v48 (F := F) x0 x1 x2 x3 x4 x5 x7 x8 x9 x10) (val_main_v53 (F := F) x0 x1 x2 x3 x4 x5 x7 x8 x9 x10)
/-- `%55 = stablehlo.exponential %54` -/
def val_main_v55 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x256, .f32⟩ : BufTy).Contents (Elt F) :=
  Host.exp (val_main_v54 (F := F) x0 x1 x2 x3 x4 x5 x7 x8 x9 x10)
/-- `%cst_10 = stablehlo.constant dense<0.000000e+00>` -/
def val_main_cst_10 : (⟨S_, .f32⟩ : BufTy).Contents (Elt F) :=
  constant S_ .f32 0x00000000#32
/-- `%56 = stablehlo.reduce(%55 init: %cst_10) applies stablehlo.add across dimensions = [3]` -/
def val_main_v56 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096, .f32⟩ : BufTy).Contents (Elt F) :=
  Host.reduceAdd (val_main_v55 (F := F) x0 x1 x2 x3 x4 x5 x7 x8 x9 x10) (val_main_cst_10 (F := F)) reducesTo_S4x4x4096x256_S4x4x4096_d3 h_S_
/-- `%57 = stablehlo.broadcast_in_dim %56, dims = [0, 1, 2]` -/
def val_main_v57 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x1, .f32⟩ : BufTy).Contents (Elt F) :=
  broadcastInDim S4x4x4096x1 ![0, 1, 2] bcast_S4x4x4096_S4x4x4096x1_0_1_2 (val_main_v56 (F := F) x0 x1 x2 x3 x4 x5 x7 x8 x9 x10)
/-- `%58 = stablehlo.broadcast_in_dim %57, dims = [0, 1, 2, 3]` -/
def val_main_v58 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x256, .f32⟩ : BufTy).Contents (Elt F) :=
  broadcastInDim S4x4x4096x256 ![0, 1, 2, 3] bcast_S4x4x4096x1_S4x4x4096x256_0_1_2_3 (val_main_v57 (F := F) x0 x1 x2 x3 x4 x5 x7 x8 x9 x10)
/-- `%59 = stablehlo.divide %55, %58` -/
def val_main_v59 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x4096x256, .f32⟩ : BufTy).Contents (Elt F) :=
  Host.divf (val_main_v55 (F := F) x0 x1 x2 x3 x4 x5 x7 x8 x9 x10) (val_main_v58 (F := F) x0 x1 x2 x3 x4 x5 x7 x8 x9 x10)
/-- `%60 = stablehlo.dot_general %45, %59, batching_dims = [0, 2] x [0, 1], contracting_dims = [1] x [3], precision = [DEFAULT, DEFAULT]` -/
def val_main_v60 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4x256x4096, .f32⟩ : BufTy).Contents (Elt F) :=
  Host.dotGeneral dot_S4x256x4x256_S4x4x4096x256_S4x4x256x4096_1_3_3_2_02_01 none (val_main_v45 (F := F) x6) (val_main_v59 (F := F) x0 x1 x2 x3 x4 x5 x7 x8 x9 x10)
/-- `%61 = stablehlo.transpose %60, dims = [0, 3, 1, 2]` -/
def val_main_v61 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4096x4x256, .f32⟩ : BufTy).Contents (Elt F) :=
  transpose S4x4096x4x256 [0, 3, 1, 2] (val_main_v60 (F := F) x0 x1 x2 x3 x4 x5 x6 x7 x8 x9 x10) transposes_S4x4x256x4096_S4x4096x4x256_0_3_1_2
/-- `%62 = stablehlo.reshape %61` -/
def val_main_v62 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 : (⟨S1024x1024, .f32⟩ : BufTy).Contents (Elt F)) : (⟨S4x4096x1024, .f32⟩ : BufTy).Contents (Elt F) :=
  shapeCast _ (val_main_v61 (F := F) x0 x1 x2 x3 x4 x5 x6 x7 x8 x9 x10) shapeCasts_S4x4096x4x256_S4x4096x1024
/-- `%63 = stablehlo.dot_general %62, %arg11, contracting_dims = [2] x [0], precision = [DEFAULT, DEFAULT]` -/
def val_main_v63 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1024, .f32⟩ : BufTy).Contents (Elt F) :=
  Host.dotGeneral dot_S4x4096x1024_S1024x1024_S4x4096x1024_2_0_01_1_n_n none (val_main_v62 (F := F) x0 x1 x2 x3 x4 x5 x6 x7 x8 x9 x10) (x11)
/-- `%64 = stablehlo.add %26, %63` -/
def val_main_v64 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1024, .f32⟩ : BufTy).Contents (Elt F) :=
  addf (val_main_v26 (F := F) x0 x1 x2 x3 x4 x7 x8) (val_main_v63 (F := F) x0 x1 x2 x3 x4 x5 x6 x7 x8 x9 x10 x11)
/-- `%65 = stablehlo.multiply %64, %64` -/
def val_main_v65 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1024, .f32⟩ : BufTy).Contents (Elt F) :=
  mulf (val_main_v64 (F := F) x0 x1 x2 x3 x4 x5 x6 x7 x8 x9 x10 x11) (val_main_v64 (F := F) x0 x1 x2 x3 x4 x5 x6 x7 x8 x9 x10 x11)
/-- `%cst_11 = stablehlo.constant dense<0.000000e+00>` -/
def val_main_cst_11 : (⟨S_, .f32⟩ : BufTy).Contents (Elt F) :=
  constant S_ .f32 0x00000000#32
/-- `%66 = stablehlo.reduce(%65 init: %cst_11) applies stablehlo.add across dimensions = [2]` -/
def val_main_v66 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096, .f32⟩ : BufTy).Contents (Elt F) :=
  Host.reduceAdd (val_main_v65 (F := F) x0 x1 x2 x3 x4 x5 x6 x7 x8 x9 x10 x11) (val_main_cst_11 (F := F)) reducesTo_S4x4096x1024_S4x4096_d2 h_S_
/-- `%67 = stablehlo.broadcast_in_dim %66, dims = [0, 1]` -/
def val_main_v67 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1, .f32⟩ : BufTy).Contents (Elt F) :=
  broadcastInDim S4x4096x1 ![0, 1] bcast_S4x4096_S4x4096x1_0_1 (val_main_v66 (F := F) x0 x1 x2 x3 x4 x5 x6 x7 x8 x9 x10 x11)
/-- `%cst_12 = stablehlo.constant dense<1.024000e+03>` -/
def val_main_cst_12 : (⟨S_, .f32⟩ : BufTy).Contents (Elt F) :=
  constant S_ .f32 0x44800000#32
/-- `%68 = stablehlo.broadcast_in_dim %cst_12, dims = []` -/
def val_main_v68 : (⟨S4x4096x1, .f32⟩ : BufTy).Contents (Elt F) :=
  broadcastInDim S4x4096x1 ![] bcast_S_S4x4096x1 (val_main_cst_12 (F := F))
/-- `%69 = stablehlo.divide %67, %68` -/
def val_main_v69 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1, .f32⟩ : BufTy).Contents (Elt F) :=
  Host.divf (val_main_v67 (F := F) x0 x1 x2 x3 x4 x5 x6 x7 x8 x9 x10 x11) (val_main_v68 (F := F))
/-- `%cst_13 = stablehlo.constant dense<9.99999997E-7>` -/
def val_main_cst_13 : (⟨S_, .f32⟩ : BufTy).Contents (Elt F) :=
  constant S_ .f32 0x358637BD#32
/-- `%70 = stablehlo.broadcast_in_dim %cst_13, dims = []` -/
def val_main_v70 : (⟨S4x4096x1, .f32⟩ : BufTy).Contents (Elt F) :=
  broadcastInDim S4x4096x1 ![] bcast_S_S4x4096x1 (val_main_cst_13 (F := F))
/-- `%71 = stablehlo.add %69, %70` -/
def val_main_v71 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1, .f32⟩ : BufTy).Contents (Elt F) :=
  addf (val_main_v69 (F := F) x0 x1 x2 x3 x4 x5 x6 x7 x8 x9 x10 x11) (val_main_v70 (F := F))
/-- `%72 = stablehlo.rsqrt %71` -/
def val_main_v72 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1, .f32⟩ : BufTy).Contents (Elt F) :=
  Host.rsqrt (val_main_v71 (F := F) x0 x1 x2 x3 x4 x5 x6 x7 x8 x9 x10 x11)
/-- `%73 = stablehlo.broadcast_in_dim %72, dims = [0, 1, 2]` -/
def val_main_v73 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1024, .f32⟩ : BufTy).Contents (Elt F) :=
  broadcastInDim S4x4096x1024 ![0, 1, 2] bcast_S4x4096x1_S4x4096x1024_0_1_2 (val_main_v72 (F := F) x0 x1 x2 x3 x4 x5 x6 x7 x8 x9 x10 x11)
/-- `%74 = stablehlo.multiply %64, %73` -/
def val_main_v74 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) : (⟨S4x4096x1024, .f32⟩ : BufTy).Contents (Elt F) :=
  mulf (val_main_v64 (F := F) x0 x1 x2 x3 x4 x5 x6 x7 x8 x9 x10 x11) (val_main_v73 (F := F) x0 x1 x2 x3 x4 x5 x6 x7 x8 x9 x10 x11)
/-- `%75 = stablehlo.broadcast_in_dim %arg12, dims = [2]` -/
def val_main_v75 (x12 : (⟨S1024, .f32⟩ : BufTy).Contents (Elt F)) : (⟨S1x1x1024, .f32⟩ : BufTy).Contents (Elt F) :=
  broadcastInDim S1x1x1024 ![2] bcast_S1024_S1x1x1024_2 (x12)
/-- `%76 = stablehlo.broadcast_in_dim %75, dims = [0, 1, 2]` -/
def val_main_v76 (x12 : (⟨S1024, .f32⟩ : BufTy).Contents (Elt F)) : (⟨S4x4096x1024, .f32⟩ : BufTy).Contents (Elt F) :=
  broadcastInDim S4x4096x1024 ![0, 1, 2] bcast_S1x1x1024_S4x4096x1024_0_1_2 (val_main_v75 (F := F) x12)
/-- `%77 = stablehlo.multiply %74, %76` -/
def val_main_v77 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) (x12 : (⟨S1024, .f32⟩ : BufTy).Contents (Elt F)) : (⟨S4x4096x1024, .f32⟩ : BufTy).Contents (Elt F) :=
  mulf (val_main_v74 (F := F) x0 x1 x2 x3 x4 x5 x6 x7 x8 x9 x10 x11) (val_main_v76 (F := F) x12)
/-- `%78 = stablehlo.reshape %77` -/
def val_main_v78 (x0 : (⟨S4x4096x1024, .f32⟩ : BufTy).Contents (Elt F)) (x1 x2 : (⟨S4x512x4096, .f32⟩ : BufTy).Contents (Elt F)) (x3 x4 : (⟨S4x4096x512, .f32⟩ : BufTy).Contents (Elt F)) (x5 x6 : (⟨S4x256x1024, .bf16⟩ : BufTy).Contents (Elt F)) (x7 : (⟨S512, .f32⟩ : BufTy).Contents (Elt F)) (x8 : (⟨S1024x1024, .f32⟩ : BufTy).Contents (Elt F)) (x9 : (⟨S1024, .f32⟩ : BufTy).Contents (Elt F)) (x10 x11 : (⟨S1024x1024, .f32⟩ : BufTy).Contents (Elt F)) (x12 : (⟨S1024, .f32⟩ : BufTy).Contents (Elt F)) : (⟨S4x4096x8x128, .f32⟩ : BufTy).Contents (Elt F) :=
  shapeCast _ (val_main_v77 (F := F) x0 x1 x2 x3 x4 x5 x6 x7 x8 x9 x10 x11 x12) shapeCasts_S4x4096x1024_S4x4096x8x128

end Cert.Reference4Ideal.Post
-- ==== Proof.Post.Ref.lean ====
module

public import proofs.«01_k».proof.Proof.Post.RefVal
public import proofs.«01_k».proof.Proof.Post.Rows

@[expose] public section

set_option maxRecDepth 16384

noncomputable section

open Idealize.ShloMosaic

/-! # The reference's values on a token's row -/

namespace Cert.Reference4Ideal.Post

open Cert.Reference4Ideal Cert.Rows

/-- A token's row after the two branches. -/
def R1 (a0 : FVec Ideal S4x4096x1024 .f32) (a1 : FVec Ideal S4x512x4096 .f32) (a2 : FVec Ideal S4x512x4096 .f32) (a3 : FVec Ideal S4x4096x512 .f32) (a4 : FVec Ideal S4x4096x512 .f32) (a7 : FVec Ideal S512 .f32) (a8 : FVec Ideal S1024x1024 .f32) (b : Fin 4) (s : Fin 4096) : Fin 1024 → EReal :=
  Rows.x1 (fun i => a0 (ix3 b s i)) (fun j => a3 (ix3 b s j)) (fun j => a1 (ix3 b j s) + a2 (ix3 b j s)) (fun j => a7 (ix1 j)) (fun j => a4 (ix3 b s j))
    (fun i j => a8 (ix2 i j))

/-- A token's queries to the memory. -/
def RQ (a0 : FVec Ideal S4x4096x1024 .f32) (a1 : FVec Ideal S4x512x4096 .f32) (a2 : FVec Ideal S4x512x4096 .f32) (a3 : FVec Ideal S4x4096x512 .f32) (a4 : FVec Ideal S4x4096x512 .f32) (a7 : FVec Ideal S512 .f32) (a8 : FVec Ideal S1024x1024 .f32) (a9 : FVec Ideal S1024 .f32) (a10 : FVec Ideal S1024x1024 .f32) (b : Fin 4) (s : Fin 4096) : Fin 1024 → EReal :=
  mv (rms c1024 (R1 a0 a1 a2 a3 a4 a7 a8 b s) (fun i => a9 (ix1 i))) (fun i j => a10 (ix2 i j))

/-- A token's row after the attention to the memory. -/
def R2 (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a6 : FVec Ideal S4x256x1024 .bf16) (a7 : FVec Ideal S512 .f32) (a8 : FVec Ideal S1024x1024 .f32) (a9 : FVec Ideal S1024 .f32) (a10 : FVec Ideal S1024x1024 .f32) (a11 : FVec Ideal S1024x1024 .f32) (b : Fin 4) (s : Fin 4096) : Fin 1024 → EReal :=
  Rows.x2 (R1 a0 a1 a2 a3 a4 a7 a8 b s) (fun k j => a5 (ix3 b k j)) (fun k j => a6 (ix3 b k j)) (fun i => a9 (ix1 i)) (fun i j => a10 (ix2 i j)) (fun i j => a11 (ix2 i j))

/-- A token's normalised row. -/
def R3 (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a6 : FVec Ideal S4x256x1024 .bf16) (a7 : FVec Ideal S512 .f32) (a8 : FVec Ideal S1024x1024 .f32) (a9 : FVec Ideal S1024 .f32) (a10 : FVec Ideal S1024x1024 .f32) (a11 : FVec Ideal S1024x1024 .f32) (a12 : FVec Ideal S1024 .f32) (b : Fin 4) (s : Fin 4096) : Fin 1024 → EReal :=
  rms c1024 (R2 a0 a1 a2 a3 a4 a5 a6 a7 a8 a9 a10 a11 b s) (fun i => a12 (ix1 i))

/-- The recurrent branch's heads. -/
theorem v2_eq (a1 : FVec Ideal S4x512x4096 .f32) (a2 : FVec Ideal S4x512x4096 .f32) (b : Fin 4) (s : Fin 4096) (h : Fin 4) (l : Fin 128) :
    val_main_v2 (F := Ideal) a1 a2 (ix4 b s h l) = a1 (ix3 b ⟨h.val * 128 + l.val, by omega⟩ s) + a2 (ix3 b ⟨h.val * 128 + l.val, by omega⟩ s) := by
  pointwise [val_main_v2, val_main_v1, val_main_v0]

/-- A head over its root mean square. -/
theorem v12_eq (a1 : FVec Ideal S4x512x4096 .f32) (a2 : FVec Ideal S4x512x4096 .f32) (b : Fin 4) (s : Fin 4096) (h : Fin 4) (l : Fin 128) :
    val_main_v12 (F := Ideal) a1 a2 (ix4 b s h l) = val_main_v2 (F := Ideal) a1 a2 (ix4 b s h l)
      * Ideal.rsqrt (Ideal.div (∑ l : Fin 128, val_main_v2 (F := Ideal) a1 a2 (ix4 b s h l) * val_main_v2 (F := Ideal) a1 a2 (ix4 b s h l)) c128 + eps) := by
  pointwise [val_main_v12, val_main_v11, val_main_v10, val_main_v9, val_main_v8, val_main_v7, val_main_v6, val_main_v5, val_main_v4, val_main_v3, val_main_cst, val_main_cst_0, val_main_cst_1, c128, eps]

/-- The gate. -/
theorem v18_eq (a3 : FVec Ideal S4x4096x512 .f32) (b : Fin 4) (s : Fin 4096) (j : Fin 512) : val_main_v18 (F := Ideal) a3 (ix3 b s j) = lgs (a3 (ix3 b s j)) := by
  pointwise [val_main_v18, val_main_v17, val_main_v16, val_main_v15, val_main_v14, val_main_v13, val_main_cst_2, val_main_cst_3, lgs]

/-- The gated heads, from the normalised ones. -/
theorem v23_eq (a1 : FVec Ideal S4x512x4096 .f32) (a2 : FVec Ideal S4x512x4096 .f32) (a3 : FVec Ideal S4x4096x512 .f32) (a7 : FVec Ideal S512 .f32) (b : Fin 4) (s : Fin 4096) (j : Fin 512) :
    val_main_v23 (F := Ideal) a1 a2 a3 a7 (ix3 b s j) = val_main_v18 (F := Ideal) a3 (ix3 b s j)
      * (val_main_v12 (F := Ideal) a1 a2 (ix4 b s ⟨j.val / 128, by omega⟩ ⟨j.val % 128, Nat.mod_lt _ (by decide)⟩) * a7 (ix1 j)) := by
  pointwise [val_main_v23, val_main_v22, val_main_v21, val_main_v20, val_main_v19]

/-- The gated heads beside the attention. -/
theorem v24_eq (a1 : FVec Ideal S4x512x4096 .f32) (a2 : FVec Ideal S4x512x4096 .f32) (a3 : FVec Ideal S4x4096x512 .f32) (a4 : FVec Ideal S4x4096x512 .f32) (a7 : FVec Ideal S512 .f32) (b : Fin 4) (s : Fin 4096) (j : Fin 1024) :
    val_main_v24 (F := Ideal) a1 a2 a3 a4 a7 (ix3 b s j) = if h : j.val < 512 then val_main_v23 (F := Ideal) a1 a2 a3 a7 (ix3 b s ⟨j.val, h⟩) else a4 (ix3 b s ⟨j.val - 512, by omega⟩) := by
  pointwise [val_main_v24]

/-- The product with the output weights, added. -/
theorem v26_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a7 : FVec Ideal S512 .f32) (a8 : FVec Ideal S1024x1024 .f32) (b : Fin 4) (s : Fin 4096) (i : Fin 1024) :
    val_main_v26 (F := Ideal) a0 a1 a2 a3 a4 a7 a8 (ix3 b s i) = a0 (ix3 b s i) + mv (fun j => val_main_v24 (F := Ideal) a1 a2 a3 a4 a7 (ix3 b s j)) (fun i j => a8 (ix2 i j)) i := by
  pointwise [val_main_v26, val_main_v25, mv]

/-- The queries, from the row. -/
theorem v40_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a7 : FVec Ideal S512 .f32) (a8 : FVec Ideal S1024x1024 .f32) (a9 : FVec Ideal S1024 .f32) (a10 : FVec Ideal S1024x1024 .f32) (b : Fin 4) (s : Fin 4096) (i : Fin 1024) :
    val_main_v40 (F := Ideal) a0 a1 a2 a3 a4 a7 a8 a9 a10 (ix3 b s i) = mv (rms c1024 (fun j => val_main_v26 (F := Ideal) a0 a1 a2 a3 a4 a7 a8 (ix3 b s j)) (fun j => a9 (ix1 j))) (fun i j => a10 (ix2 i j)) i := by
  pointwise [val_main_v40, val_main_v39, val_main_v38, val_main_v37, val_main_v36, val_main_v35, val_main_v34, val_main_v33, val_main_v32, val_main_v31, val_main_v30, val_main_v29, val_main_v28, val_main_v27, val_main_cst_4, val_main_cst_5, val_main_cst_6, mv, rms, c1024, eps]

/-- A logit. -/
theorem v48_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a7 : FVec Ideal S512 .f32) (a8 : FVec Ideal S1024x1024 .f32) (a9 : FVec Ideal S1024 .f32) (a10 : FVec Ideal S1024x1024 .f32) (b h : Fin 4) (s : Fin 4096) (k : Fin 256) :
    val_main_v48 (F := Ideal) a0 a1 a2 a3 a4 a5 a7 a8 a9 a10 (ix4 b h s k) = sc (fun j => val_main_v40 (F := Ideal) a0 a1 a2 a3 a4 a7 a8 a9 a10 (ix3 b s j)) (fun k j => a5 (ix3 b k j)) h k := by
  pointwise [val_main_v48, val_main_v47, val_main_v46, val_main_v43, val_main_v42, val_main_v41, val_main_cst_7, sc, c16]
  refine congrArg (· * _) (Finset.sum_congr rfl fun x _ => ?_)
  rw [show (⟨h.val * 256 + x.val, by omega⟩ : Fin 1024) = ⟨256 * h.val + x.val, by omega⟩ from Fin.ext (by show h.val * 256 + x.val = 256 * h.val + x.val; omega)]

/-- The larger of two arrays at an index. -/
theorem max_apply (x y : FVec Ideal S4x4x4096 .f32) (i : S4x4x4096.Idx) : maximumf x y i = max (x i) (y i) := rfl

/-- The reduction to the largest over the memory's rows. -/
theorem red_max (y : FVec Ideal S4x4x4096x256 .f32) (b h : Fin 4) (s : Fin 4096) :
    Host.reduce FloatOps.maximumf y (val_main_cst_8 (F := Ideal)) Gen.reducesTo_S4x4x4096x256_S4x4x4096_d3 Gen.h_S_ (ix3 b h s) = mx (fun k => y (ix4 b h s k)) := by
  pointwise [val_main_cst_8, mx]

/-- Where the second maximum begins. -/
theorem v50_eq (i : S4x4x4096.Idx) : val_main_v50 (F := Ideal) i = Ideal.ofBits .f32 0xFF800000#32 := rfl

/-- A maximum found from a value is at least that value. -/
theorem max_mx (s : Fin 256 → EReal) : max (Ideal.ofBits .f32 0xFF800000#32) (mx s) = mx s :=
  max_eq_right ((Finset.le_fold_max _).2 (Or.inl le_rfl))

/-- The largest logit. -/
theorem v51_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a7 : FVec Ideal S512 .f32) (a8 : FVec Ideal S1024x1024 .f32) (a9 : FVec Ideal S1024 .f32) (a10 : FVec Ideal S1024x1024 .f32) (b h : Fin 4) (s : Fin 4096) :
    val_main_v51 (F := Ideal) a0 a1 a2 a3 a4 a5 a7 a8 a9 a10 (ix3 b h s) = mx (fun k => val_main_v48 (F := Ideal) a0 a1 a2 a3 a4 a5 a7 a8 a9 a10 (ix4 b h s k)) := by
  unfold val_main_v51 val_main_v49
  rw [max_apply, v50_eq, red_max, max_mx]

/-- A weight. -/
theorem v59_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a7 : FVec Ideal S512 .f32) (a8 : FVec Ideal S1024x1024 .f32) (a9 : FVec Ideal S1024 .f32) (a10 : FVec Ideal S1024x1024 .f32) (b h : Fin 4) (s : Fin 4096) (k : Fin 256) :
    val_main_v59 (F := Ideal) a0 a1 a2 a3 a4 a5 a7 a8 a9 a10 (ix4 b h s k) = Ideal.div (Ideal.exp (val_main_v48 (F := Ideal) a0 a1 a2 a3 a4 a5 a7 a8 a9 a10 (ix4 b h s k) - val_main_v51 (F := Ideal) a0 a1 a2 a3 a4 a5 a7 a8 a9 a10 (ix3 b h s)))
      (∑ k, Ideal.exp (val_main_v48 (F := Ideal) a0 a1 a2 a3 a4 a5 a7 a8 a9 a10 (ix4 b h s k) - val_main_v51 (F := Ideal) a0 a1 a2 a3 a4 a5 a7 a8 a9 a10 (ix3 b h s))) := by
  pointwise [val_main_v59, val_main_v58, val_main_v57, val_main_v56, val_main_v55, val_main_v54, val_main_v53, val_main_v52, val_main_cst_10]

/-- The weighted values. -/
theorem v62_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a6 : FVec Ideal S4x256x1024 .bf16) (a7 : FVec Ideal S512 .f32) (a8 : FVec Ideal S1024x1024 .f32) (a9 : FVec Ideal S1024 .f32) (a10 : FVec Ideal S1024x1024 .f32) (b : Fin 4) (s : Fin 4096) (j : Fin 1024) :
    val_main_v62 (F := Ideal) a0 a1 a2 a3 a4 a5 a6 a7 a8 a9 a10 (ix3 b s j) = ∑ k : Fin 256, a6 (ix3 b k j) * val_main_v59 (F := Ideal) a0 a1 a2 a3 a4 a5 a7 a8 a9 a10 (ix4 b ⟨j.val / 256, by omega⟩ s k) := by
  pointwise [val_main_v62, val_main_v61, val_main_v60, val_main_v45, val_main_v44]

/-- The product with the memory's output weights, added. -/
theorem v64_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a6 : FVec Ideal S4x256x1024 .bf16) (a7 : FVec Ideal S512 .f32) (a8 : FVec Ideal S1024x1024 .f32) (a9 : FVec Ideal S1024 .f32) (a10 : FVec Ideal S1024x1024 .f32) (a11 : FVec Ideal S1024x1024 .f32) (b : Fin 4) (s : Fin 4096) (i : Fin 1024) :
    val_main_v64 (F := Ideal) a0 a1 a2 a3 a4 a5 a6 a7 a8 a9 a10 a11 (ix3 b s i) = val_main_v26 (F := Ideal) a0 a1 a2 a3 a4 a7 a8 (ix3 b s i) + mv (fun j => val_main_v62 (F := Ideal) a0 a1 a2 a3 a4 a5 a6 a7 a8 a9 a10 (ix3 b s j)) (fun i j => a11 (ix2 i j)) i := by
  pointwise [val_main_v64, val_main_v63, mv]

/-- The last normalisation. -/
theorem v78_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a6 : FVec Ideal S4x256x1024 .bf16) (a7 : FVec Ideal S512 .f32) (a8 : FVec Ideal S1024x1024 .f32) (a9 : FVec Ideal S1024 .f32) (a10 : FVec Ideal S1024x1024 .f32) (a11 : FVec Ideal S1024x1024 .f32) (a12 : FVec Ideal S1024 .f32) (b : Fin 4) (s : Fin 4096) (e : Fin 8) (l : Fin 128) :
    val_main_v78 (F := Ideal) a0 a1 a2 a3 a4 a5 a6 a7 a8 a9 a10 a11 a12 (ix4 b s e l) = rms c1024 (fun j => val_main_v64 (F := Ideal) a0 a1 a2 a3 a4 a5 a6 a7 a8 a9 a10 a11 (ix3 b s j)) (fun j => a12 (ix1 j)) ⟨e.val * 128 + l.val, by omega⟩ := by
  pointwise [val_main_v78, val_main_v77, val_main_v76, val_main_v75, val_main_v74, val_main_v73, val_main_v72, val_main_v71, val_main_v70, val_main_v69, val_main_v68, val_main_v67, val_main_v66, val_main_v65, val_main_cst_11, val_main_cst_12, val_main_cst_13, rms, c1024, eps]

/-- The gated heads beside the attention's output. -/
theorem yc_eq (a1 : FVec Ideal S4x512x4096 .f32) (a2 : FVec Ideal S4x512x4096 .f32) (a3 : FVec Ideal S4x4096x512 .f32) (a4 : FVec Ideal S4x4096x512 .f32) (a7 : FVec Ideal S512 .f32) (b : Fin 4) (s : Fin 4096) (j : Fin 1024) :
    val_main_v24 (F := Ideal) a1 a2 a3 a4 a7 (ix3 b s j)
      = yc (fun j => a3 (ix3 b s j)) (fun j => a1 (ix3 b j s) + a2 (ix3 b j s)) (fun j => a7 (ix1 j)) (fun j => a4 (ix3 b s j)) j := by
  rw [v24_eq]
  unfold yc rms
  by_cases hj : j.val < 512
  · rw [dif_pos hj, dif_pos hj, v23_eq, v18_eq, v12_eq]
    simp only [v2_eq]
    have e' : ∀ p, (⟨128 * (j.val / 128) + j.val % 128, p⟩ : Fin 512) = ⟨j.val, hj⟩ :=
      fun p => Fin.ext (by show 128 * (j.val / 128) + j.val % 128 = j.val; omega)
    simp only [Nat.mul_comm (j.val / 128) 128, e']
  · rw [dif_neg hj, dif_neg hj]

/-- The row after the two branches is the reference's. -/
theorem R1_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a7 : FVec Ideal S512 .f32) (a8 : FVec Ideal S1024x1024 .f32) (b : Fin 4) (s : Fin 4096) (i : Fin 1024) :
    val_main_v26 (F := Ideal) a0 a1 a2 a3 a4 a7 a8 (ix3 b s i) = R1 a0 a1 a2 a3 a4 a7 a8 b s i := by
  rw [v26_eq]
  simp only [yc_eq]
  rfl

/-- The softmax over the memory's rows. -/
theorem sm_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a7 : FVec Ideal S512 .f32) (a8 : FVec Ideal S1024x1024 .f32) (a9 : FVec Ideal S1024 .f32) (a10 : FVec Ideal S1024x1024 .f32) (b h : Fin 4) (s : Fin 4096) (k : Fin 256) :
    val_main_v59 (F := Ideal) a0 a1 a2 a3 a4 a5 a7 a8 a9 a10 (ix4 b h s k)
      = sm (sc (fun j => val_main_v40 (F := Ideal) a0 a1 a2 a3 a4 a7 a8 a9 a10 (ix3 b s j)) (fun k j => a5 (ix3 b k j)) h) k := by
  rw [v59_eq]
  simp only [v51_eq, v48_eq]
  rfl

/-- The row after the attention to the memory is the reference's. -/
theorem R2_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a6 : FVec Ideal S4x256x1024 .bf16) (a7 : FVec Ideal S512 .f32) (a8 : FVec Ideal S1024x1024 .f32) (a9 : FVec Ideal S1024 .f32) (a10 : FVec Ideal S1024x1024 .f32) (a11 : FVec Ideal S1024x1024 .f32) (b : Fin 4) (s : Fin 4096) (i : Fin 1024) :
    val_main_v64 (F := Ideal) a0 a1 a2 a3 a4 a5 a6 a7 a8 a9 a10 a11 (ix3 b s i) = R2 a0 a1 a2 a3 a4 a5 a6 a7 a8 a9 a10 a11 b s i := by
  rw [v64_eq]
  simp only [v62_eq, sm_eq, v40_eq, R1_eq]
  unfold R2 x2
  refine congrArg (fun z => _ + mv z _ i) (funext fun j => ?_)
  unfold ov
  exact Finset.sum_congr rfl fun k _ => mul_comm _ _

/-- The normalised row is the reference's. -/
theorem R3_eq (a0 : FVec Ideal S4x4096x1024 .f32) (a1 : FVec Ideal S4x512x4096 .f32) (a2 : FVec Ideal S4x512x4096 .f32) (a3 : FVec Ideal S4x4096x512 .f32) (a4 : FVec Ideal S4x4096x512 .f32) (a5 : FVec Ideal S4x256x1024 .bf16) (a6 : FVec Ideal S4x256x1024 .bf16) (a7 : FVec Ideal S512 .f32) (a8 : FVec Ideal S1024x1024 .f32) (a9 : FVec Ideal S1024 .f32) (a10 : FVec Ideal S1024x1024 .f32) (a11 : FVec Ideal S1024x1024 .f32) (a12 : FVec Ideal S1024 .f32) (b : Fin 4) (s : Fin 4096) (e : Fin 8) (l : Fin 128) :
    val_main_v78 (F := Ideal) a0 a1 a2 a3 a4 a5 a6 a7 a8 a9 a10 a11 a12 (ix4 b s e l)
      = R3 a0 a1 a2 a3 a4 a5 a6 a7 a8 a9 a10 a11 a12 b s ⟨e.val * 128 + l.val, by omega⟩ := by
  rw [v78_eq]
  simp only [R2_eq]
  rfl

end Cert.Reference4Ideal.Post
-- ==== Proof.Post.Final.lean ====
module

public import proofs.«01_k».proof.Proof.Post.Step
public import proofs.«01_k».proof.Proof.Post.Ref
public import proofs.«01_k».proof.Proof.Gen.Kernel4Ideal.Value
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # The call's two result arrays are the reference's -/

namespace Cert.Kernel4Ideal.Post

open Cert.Kernel4Ideal Cert.Kernel4Ideal.Gen Cert.Rows

variable (m : (ℓ : Loc nD τ sig) → Buf (Elt Ideal) ℓ)

/-- The blocks of tokens a point holds and stores: sequence `t / 8`, tile `t % 8`. -/
theorem idxA : ∀ t : Fin cfg0.N, win0_0.index t = ![t.val / 8, t.val % 8, 0] ∧ win0_1.index t = ![t.val / 8, 0, t.val % 8]
    ∧ win0_2.index t = ![t.val / 8, 0, t.val % 8] ∧ win0_3.index t = ![t.val / 8, t.val % 8, 0] ∧ win0_4.index t = ![t.val / 8, t.val % 8, 0]
    ∧ win0_5.index t = ![t.val / 8, 0, 0] ∧ win0_6.index t = ![t.val / 8, 0, 0]
    ∧ win0_15.index t = ![t.val / 8, t.val % 8, 0] ∧ win0_16.index t = ![t.val / 8, t.val % 8, 0, 0] :=
  (by decide +kernel : ∀ t : Fin grid0.N, _)

/-- The gains and the weights are held whole. -/
theorem idxW : ∀ t : Fin cfg0.N, win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

/-- The grid has 32 points. -/
theorem lt_N (t : Fin cfg0.N) : t.val < 32 := t.isLt

/-- The sequence of a point. -/
def sq (t : Fin cfg0.N) : Fin 4 := ⟨t.val / 8, by have := lt_N t; omega⟩

/-- The token of a point's row. -/
def tk (t : Fin cfg0.N) (r : Fin 512) : Fin 4096 := ⟨512 * (t.val % 8) + r.val, by omega⟩

/-! ## The arrays the call is handed -/

/-- What the call finds as the head norm's gain. -/
theorem entry7 (c : Dev nD) : V m c main_v7 = shapeCast S1x512 (m ((c : Thread nD τ).loc main_arg7) : FVec Ideal S512 .f32) shapeCasts_S512_S1x512 := by
  unfold V
  after_reads_simp <;> rfl

/-- What the call finds as the output weights. -/
theorem entry8 (c : Dev nD) : V m c main_v8 = truncf (F := Ideal) .bf16 (m ((c : Thread nD τ).loc main_arg8) : FVec Ideal S1024x1024 .f32) bitsLt_bf16_f32 := by
  unfold V
  after_reads_simp <;> rfl

/-- What the call finds as the memory norm's gain. -/
theorem entry9 (c : Dev nD) : V m c main_v9 = shapeCast S1x1024 (m ((c : Thread nD τ).loc main_arg9) : FVec Ideal S1024 .f32) shapeCasts_S1024_S1x1024 := by
  unfold V
  after_reads_simp <;> rfl

/-- What the call finds as the memory's query weights. -/
theorem entry10 (c : Dev nD) : V m c main_v10 = truncf (F := Ideal) .bf16 (m ((c : Thread nD τ).loc main_arg10) : FVec Ideal S1024x1024 .f32) bitsLt_bf16_f32 := by
  unfold V
  after_reads_simp <;> rfl

/-- What the call finds as the memory's output weights. -/
theorem entry11 (c : Dev nD) : V m c main_v11 = truncf (F := Ideal) .bf16 (m ((c : Thread nD τ).loc main_arg11) : FVec Ideal S1024x1024 .f32) bitsLt_bf16_f32 := by
  unfold V
  after_reads_simp <;> rfl

/-- What the call finds as the last norm's gain. -/
theorem entry12 (c : Dev nD) : V m c main_v12 = shapeCast S1x1024 (m ((c : Thread nD τ).loc main_arg12) : FVec Ideal S1024 .f32) shapeCasts_S1024_S1x1024 := by
  unfold V
  after_reads_simp <;> rfl

/-- A gain laid out as one row. -/
theorem row512 (g : FVec Ideal S512 .f32) (j : Fin 512) : shapeCast S1x512 g shapeCasts_S512_S1x512 (ix2 0 j) = g (ix1 j) := by
  pointwise []

/-- A gain laid out as one row. -/
theorem row1024 (g : FVec Ideal S1024 .f32) (j : Fin 1024) : shapeCast S1x1024 g shapeCasts_S1024_S1x1024 (ix2 0 j) = g (ix1 j) := by
  pointwise []

/-! ## The blocks, read off the arrays -/

/-- A block of residual rows, read from any array in its place. -/
theorem read0 (X : FVec Ideal S4x4096x1024 .f32) (t : Fin cfg0.N) (r : Fin 512) (i : Fin 1024) :
    ((cfg0.win 0).blk t).view.read (Elt Ideal) X (ix3 0 r i) = X (ix3 (sq t) (tk t r) i) := by
  refine congrArg X ?_
  unfold sq tk
  blk_ext [idxA t]

/-- The block of residual rows that a point holds. -/
theorem block0 (c : Dev nD) (t : Fin cfg0.N) (r : Fin 512) (i : Fin 1024) :
    (iblk m c 0 t : FVec Ideal S1x512x1024 .f32) (ix3 0 r i) = (m ((c : Thread nD τ).loc main_arg0) : FVec Ideal S4x4096x1024 .f32) (ix3 (sq t) (tk t r) i) := by
  rw [← V_main_arg0 m c]
  unfold iblk
  generalize V m c = W
  exact read0 (W main_arg0) t r i

/-- A block of the forward recurrence, read from any array in its place. -/
theorem read1 (X : FVec Ideal S4x512x4096 .f32) (t : Fin cfg0.N) (j : Fin 512) (r : Fin 512) :
    ((cfg0.win 1).blk t).view.read (Elt Ideal) X (ix3 0 j r) = X (ix3 (sq t) j (tk t r)) := by
  refine congrArg X ?_
  unfold sq tk
  blk_ext [idxA t]

/-- The block of the forward recurrence that a point holds. -/
theorem block1 (c : Dev nD) (t : Fin cfg0.N) (j : Fin 512) (r : Fin 512) :
    (iblk m c 1 t : FVec Ideal S1x512x512 .f32) (ix3 0 j r) = (m ((c : Thread nD τ).loc main_arg1) : FVec Ideal S4x512x4096 .f32) (ix3 (sq t) j (tk t r)) := by
  rw [← V_main_arg1 m c]
  unfold iblk
  generalize V m c = W
  exact read1 (W main_arg1) t j r

/-- A block of the backward recurrence, read from any array in its place. -/
theorem read2 (X : FVec Ideal S4x512x4096 .f32) (t : Fin cfg0.N) (j : Fin 512) (r : Fin 512) :
    ((cfg0.win 2).blk t).view.read (Elt Ideal) X (ix3 0 j r) = X (ix3 (sq t) j (tk t r)) := by
  refine congrArg X ?_
  unfold sq tk
  blk_ext [idxA t]

/-- The block of the backward recurrence that a point holds. -/
theorem block2 (c : Dev nD) (t : Fin cfg0.N) (j : Fin 512) (r : Fin 512) :
    (iblk m c 2 t : FVec Ideal S1x512x512 .f32) (ix3 0 j r) = (m ((c : Thread nD τ).loc main_arg2) : FVec Ideal S4x512x4096 .f32) (ix3 (sq t) j (tk t r)) := by
  rw [← V_main_arg2 m c]
  unfold iblk
  generalize V m c = W
  exact read2 (W main_arg2) t j r

/-- A block of the gate, read from any array in its place. -/
theorem read3 (X : FVec Ideal S4x4096x512 .f32) (t : Fin cfg0.N) (r : Fin 512) (j : Fin 512) :
    ((cfg0.win 3).blk t).view.read (Elt Ideal) X (ix3 0 r j) = X (ix3 (sq t) (tk t r) j) := by
  refine congrArg X ?_
  unfold sq tk
  blk_ext [idxA t]

/-- The block of the gate that a point holds. -/
theorem block3 (c : Dev nD) (t : Fin cfg0.N) (r : Fin 512) (j : Fin 512) :
    (iblk m c 3 t : FVec Ideal S1x512x512 .f32) (ix3 0 r j) = (m ((c : Thread nD τ).loc main_arg3) : FVec Ideal S4x4096x512 .f32) (ix3 (sq t) (tk t r) j) := by
  rw [← V_main_arg3 m c]
  unfold iblk
  generalize V m c = W
  exact read3 (W main_arg3) t r j

/-- A block of the attention's output, read from any array in its place. -/
theorem read4 (X : FVec Ideal S4x4096x512 .f32) (t : Fin cfg0.N) (r : Fin 512) (j : Fin 512) :
    ((cfg0.win 4).blk t).view.read (Elt Ideal) X (ix3 0 r j) = X (ix3 (sq t) (tk t r) j) := by
  refine congrArg X ?_
  unfold sq tk
  blk_ext [idxA t]

/-- The block of the attention's output that a point holds. -/
theorem block4 (c : Dev nD) (t : Fin cfg0.N) (r : Fin 512) (j : Fin 512) :
    (iblk m c 4 t : FVec Ideal S1x512x512 .f32) (ix3 0 r j) = (m ((c : Thread nD τ).loc main_arg4) : FVec Ideal S4x4096x512 .f32) (ix3 (sq t) (tk t r) j) := by
  rw [← V_main_arg4 m c]
  unfold iblk
  generalize V m c = W
  exact read4 (W main_arg4) t r j

/-- A block of the memory's keys, read from any array in its place. -/
theorem read5 (X : FVec Ideal S4x256x1024 .bf16) (t : Fin cfg0.N) (k : Fin 256) (j : Fin 1024) :
    ((cfg0.win 5).blk t).view.read (Elt Ideal) X (ix3 0 k j) = X (ix3 (sq t) k j) := by
  refine congrArg X ?_
  unfold sq
  blk_ext [idxA t]

/-- The block of the memory's keys that a point holds. -/
theorem block5 (c : Dev nD) (t : Fin cfg0.N) (k : Fin 256) (j : Fin 1024) :
    (iblk m c 5 t : FVec Ideal S1x256x1024 .bf16) (ix3 0 k j) = (m ((c : Thread nD τ).loc main_arg5) : FVec Ideal S4x256x1024 .bf16) (ix3 (sq t) k j) := by
  rw [← V_main_arg5 m c]
  unfold iblk
  generalize V m c = W
  exact read5 (W main_arg5) t k j

/-- A block of the memory's values, read from any array in its place. -/
theorem read6 (X : FVec Ideal S4x256x1024 .bf16) (t : Fin cfg0.N) (k : Fin 256) (j : Fin 1024) :
    ((cfg0.win 6).blk t).view.read (Elt Ideal) X (ix3 0 k j) = X (ix3 (sq t) k j) := by
  refine congrArg X ?_
  unfold sq
  blk_ext [idxA t]

/-- The block of the memory's values that a point holds. -/
theorem block6 (c : Dev nD) (t : Fin cfg0.N) (k : Fin 256) (j : Fin 1024) :
    (iblk m c 6 t : FVec Ideal S1x256x1024 .bf16) (ix3 0 k j) = (m ((c : Thread nD τ).loc main_arg6) : FVec Ideal S4x256x1024 .bf16) (ix3 (sq t) k j) := by
  rw [← V_main_arg6 m c]
  unfold iblk
  generalize V m c = W
  exact read6 (W main_arg6) t k j

/-- A block of the head norm's gain, read from any array in its place. -/
theorem read7 (X : FVec Ideal S1x512 .f32) (t : Fin cfg0.N) (j : Fin 512) :
    ((cfg0.win 7).blk t).view.read (Elt Ideal) X (ix2 0 j) = X (ix2 0 j) := by
  refine congrArg X ?_
  blk_ext [idxW t]

/-- The block of the head norm's gain that a point holds. -/
theorem block7 (c : Dev nD) (t : Fin cfg0.N) (j : Fin 512) :
    (iblk m c 7 t : FVec Ideal S1x512 .f32) (ix2 0 j) = (m ((c : Thread nD τ).loc main_arg7) : FVec Ideal S512 .f32) (ix1 j) := by
  refine Eq.trans (b := (V m c main_v7 : FVec Ideal S1x512 .f32) (ix2 0 j)) ?_ ((congrFun (entry7 m c) (ix2 0 j)).trans (row512 _ _))
  unfold iblk
  generalize V m c = W
  exact read7 (W main_v7) t j

/-- A block of the output weights, read from any array in its place. -/
theorem read8 (X : FVec Ideal S1024x1024 .bf16) (t : Fin cfg0.N) (i j : Fin 1024) :
    ((cfg0.win 8).blk t).view.read (Elt Ideal) X (ix2 i j) = X (ix2 i j) := by
  refine congrArg X ?_
  blk_ext [idxW t]

/-- The block of the output weights that a point holds. -/
theorem block8 (c : Dev nD) (t : Fin cfg0.N) (i j : Fin 1024) :
    (iblk m c 8 t : FVec Ideal S1024x1024 .bf16) (ix2 i j) = (m ((c : Thread nD τ).loc main_arg8) : FVec Ideal S1024x1024 .f32) (ix2 i j) := by
  refine Eq.trans (b := (V m c main_v8 : FVec Ideal S1024x1024 .bf16) (ix2 i j)) ?_ ((congrFun (entry8 m c) (ix2 i j)).trans (rfl))
  unfold iblk
  generalize V m c = W
  exact read8 (W main_v8) t i j

/-- A block of the memory norm's gain, read from any array in its place. -/
theorem read9 (X : FVec Ideal S1x1024 .f32) (t : Fin cfg0.N) (j : Fin 1024) :
    ((cfg0.win 9).blk t).view.read (Elt Ideal) X (ix2 0 j) = X (ix2 0 j) := by
  refine congrArg X ?_
  blk_ext [idxW t]

/-- The block of the memory norm's gain that a point holds. -/
theorem block9 (c : Dev nD) (t : Fin cfg0.N) (j : Fin 1024) :
    (iblk m c 9 t : FVec Ideal S1x1024 .f32) (ix2 0 j) = (m ((c : Thread nD τ).loc main_arg9) : FVec Ideal S1024 .f32) (ix1 j) := by
  refine Eq.trans (b := (V m c main_v9 : FVec Ideal S1x1024 .f32) (ix2 0 j)) ?_ ((congrFun (entry9 m c) (ix2 0 j)).trans (row1024 _ _))
  unfold iblk
  generalize V m c = W
  exact read9 (W main_v9) t j

/-- A block of the memory's query weights, read from any array in its place. -/
theorem read10 (X : FVec Ideal S1024x1024 .bf16) (t : Fin cfg0.N) (i j : Fin 1024) :
    ((cfg0.win 10).blk t).view.read (Elt Ideal) X (ix2 i j) = X (ix2 i j) := by
  refine congrArg X ?_
  blk_ext [idxW t]

/-- The block of the memory's query weights that a point holds. -/
theorem block10 (c : Dev nD) (t : Fin cfg0.N) (i j : Fin 1024) :
    (iblk m c 10 t : FVec Ideal S1024x1024 .bf16) (ix2 i j) = (m ((c : Thread nD τ).loc main_arg10) : FVec Ideal S1024x1024 .f32) (ix2 i j) := by
  refine Eq.trans (b := (V m c main_v10 : FVec Ideal S1024x1024 .bf16) (ix2 i j)) ?_ ((congrFun (entry10 m c) (ix2 i j)).trans (rfl))
  unfold iblk
  generalize V m c = W
  exact read10 (W main_v10) t i j

/-- A block of the memory's output weights, read from any array in its place. -/
theorem read11 (X : FVec Ideal S1024x1024 .bf16) (t : Fin cfg0.N) (i j : Fin 1024) :
    ((cfg0.win 11).blk t).view.read (Elt Ideal) X (ix2 i j) = X (ix2 i j) := by
  refine congrArg X ?_
  blk_ext [idxW t]

/-- The block of the memory's output weights that a point holds. -/
theorem block11 (c : Dev nD) (t : Fin cfg0.N) (i j : Fin 1024) :
    (iblk m c 11 t : FVec Ideal S1024x1024 .bf16) (ix2 i j) = (m ((c : Thread nD τ).loc main_arg11) : FVec Ideal S1024x1024 .f32) (ix2 i j) := by
  refine Eq.trans (b := (V m c main_v11 : FVec Ideal S1024x1024 .bf16) (ix2 i j)) ?_ ((congrFun (entry11 m c) (ix2 i j)).trans (rfl))
  unfold iblk
  generalize V m c = W
  exact read11 (W main_v11) t i j

/-- A block of the last norm's gain, read from any array in its place. -/
theorem read12 (X : FVec Ideal S1x1024 .f32) (t : Fin cfg0.N) (j : Fin 1024) :
    ((cfg0.win 12).blk t).view.read (Elt Ideal) X (ix2 0 j) = X (ix2 0 j) := by
  refine congrArg X ?_
  blk_ext [idxW t]

/-- The block of the last norm's gain that a point holds. -/
theorem block12 (c : Dev nD) (t : Fin cfg0.N) (j : Fin 1024) :
    (iblk m c 12 t : FVec Ideal S1x1024 .f32) (ix2 0 j) = (m ((c : Thread nD τ).loc main_arg12) : FVec Ideal S1024 .f32) (ix1 j) := by
  refine Eq.trans (b := (V m c main_v12 : FVec Ideal S1x1024 .f32) (ix2 0 j)) ?_ ((congrFun (entry12 m c) (ix2 0 j)).trans (row1024 _ _))
  unfold iblk
  generalize V m c = W
  exact read12 (W main_v12) t j

/-! ## One point -/

/-- A row a point computes after the two branches is the reference's. -/
theorem point1 (c : Dev nD) (t : Fin cfg0.N) (r : Fin 512) :
    row1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r
      = Cert.Reference4Ideal.Post.R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (sq t) (tk t r) := by
  unfold row1 Cert.Reference4Ideal.Post.R1
  simp only [block0, block1, block2, block3, block4, block7, block8]

/-- A row a point computes is the reference's. -/
theorem point2 (c : Dev nD) (t : Fin cfg0.N) (r : Fin 512) :
    row2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r
      = Cert.Reference4Ideal.Post.R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (tk t r) := by
  unfold row2 Cert.Reference4Ideal.Post.R2
  rw [point1]
  simp only [block5, block6, block9, block10, block11]

/-- The first result's array. -/
theorem final15 (c : Dev nD) : (dats m 0 c).arrAt 15 (cfgs 0).N
    = Cert.Reference4Ideal.Post.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t hf y => ?_
  have hN := lt_N t
  have hy0 : (y 0).val < 1 := (y 0).isLt
  have hy1 : (y 1).val < 512 := (y 1).isLt
  have hy2 : (y 2).val < 1024 := (y 2).isLt
  have hpt := (out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y).trans ((congrFun (point2 m c t ⟨(y 1).val, hy1⟩) ⟨(y 2).val, hy2⟩).trans
    (Cert.Reference4Ideal.Post.R2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (tk t ⟨(y 1).val, hy1⟩) ⟨(y 2).val, hy2⟩).symm)
  generalize Cert.Reference4Ideal.Post.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = R at hpt ⊢
  blk_simp
  rw [after0_15]
  have he : (win0_15.blk t).view.emb y = (ix3 (sq t) (tk t ⟨(y 1).val, hy1⟩) ⟨(y 2).val, hy2⟩ : S4x4096x1024.Idx) := by
    unfold sq tk
    blk_ext [idxA t]
  rw [he]
  exact hpt

/-- The second result's array. -/
theorem final16 (c : Dev nD) : (dats m 0 c).arrAt 16 (cfgs 0).N
    = Cert.Reference4Ideal.Post.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 16 _ (by decide +kernel) fun t hf y => ?_
  have hN := lt_N t
  have hy0 : (y 0).val < 1 := (y 0).isLt
  have hy1 : (y 1).val < 512 := (y 1).isLt
  have hy2 : (y 2).val < 8 := (y 2).isLt
  have hy3 : (y 3).val < 128 := (y 3).isLt
  have hrow : F16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = Cert.Reference4Ideal.Post.R3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (sq t) (tk t ⟨(y 1).val, hy1⟩) ⟨(y 2).val * 128 + (y 3).val, by omega⟩ := by
    unfold F16 Cert.Reference4Ideal.Post.R3
    exact congrArg₂ (fun a g => rms c1024 a g ⟨(y 2).val * 128 + (y 3).val, by omega⟩) (point2 m c t ⟨(y 1).val, hy1⟩) (funext fun i => block12 m c t i)
  have hpt := (out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y).trans (hrow.trans
    (Cert.Reference4Ideal.Post.R3_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (sq t) (tk t ⟨(y 1).val, hy1⟩) ⟨(y 2).val, hy2⟩ ⟨(y 3).val, hy3⟩).symm)
  generalize Cert.Reference4Ideal.Post.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = R at hpt ⊢
  blk_simp
  rw [after0_16]
  have he : (win0_16.blk t).view.emb y = (ix4 (sq t) (tk t ⟨(y 1).val, hy1⟩) ⟨(y 2).val, hy2⟩ ⟨(y 3).val, hy3⟩ : S4x4096x8x128.Idx) := by
    unfold sq tk
    blk_ext [idxA t]
  rw [he]
  exact hpt

end Cert.Kernel4Ideal.Post
-- ==== Proof.Post.RefRun.lean ====
module

public import proofs.«01_k».proof.Proof.Gen.Reference4Ideal
public import proofs.«01_k».proof.Proof.Post.RefVal
public import Idealize.ShloMosaic.Lib.StableHlo.Run

@[expose] public section

noncomputable section

namespace Cert.Reference4Ideal.Post

open Cert.Reference4Ideal Cert.Reference4Ideal.Gen Idealize.ShloMosaic Idealize.ShloMosaic.TcCoe Idealize.SL.Sem Idealize.ShloMosaic.StableHlo

variable {F : FTy → Type} [FloatOps F]

/-- The function of the operation that writes `main_v24`, named. It packs its operands into a list of dependent pairs
    whose shapes a later argument's type mentions, so `simp` cannot rewrite an operand where it stands; applied by
    name, the operands are plain arguments, which `run`'s simp pass rewrites before the name unfolds. -/
def fn_main_v24 : (⟨S4x4096x512, .f32⟩ : BufTy).Contents (Elt F) → (⟨S4x4096x512, .f32⟩ : BufTy).Contents (Elt F) → (⟨S4x4096x1024, .f32⟩ : BufTy).Contents (Elt F) :=
  (fun a b => concatenate S4x4096x1024 2 [⟨S4x4096x512, a⟩, ⟨S4x4096x512, b⟩] concatenates_S4x4096x512_S4x4096x512_S4x4096x1024_d2)

/-- @main's 94 operations, in order. -/
abbrev ops : List (HloOp τ sig (Elt F)) :=
  [ binary main_arg1 main_arg2 main_v0 (addf : (⟨S4x512x4096, .f32⟩ : BufTy).Contents (Elt F) → (⟨S4x512x4096, .f32⟩ : BufTy).Contents (Elt F) → (⟨S4x512x4096, .f32⟩ : BufTy).Contents (Elt F)),
    reshape main_v0 main_v1 (rfl : (.f32 : EltTy) = .f32) shapeCasts_S4x512x4096_S4x4x128x4096,
    unary main_v1 main_v2 ((transpose S4x4096x4x128 [0, 3, 1, 2] · transposes_S4x4x128x4096_S4x4096x4x128_0_3_1_2) : (⟨S4x4x128x4096, .f32⟩ : BufTy).Contents (Elt F) → (⟨S4x4096x4x128, .f32⟩ : BufTy).Contents (Elt F)),
    binary main_v2 main_v2 main_v3 (mulf : (⟨S4x4096x4x128, .f32⟩ : BufTy).Contents (Elt F) → (⟨S4x4096x4x128, .f32⟩ : BufTy).Contents (Elt F) → (⟨S4x4096x4x128, .f32⟩ : BufTy).Contents (Elt F)),
    nullary main_cst (constant S_ .f32 0x00000000#32),
    binary main_v3 main_cst main_v4 ((fun x v => Host.reduceAdd x v reducesTo_S4x4096x4x128_S4x4096x4_d3 h_S_) : (⟨S4x4096x4x128, .f32⟩ : BufTy).Contents (Elt F) → (⟨S_, .f32⟩ : BufTy).Contents (Elt F) → (⟨S4x4096x4, .f32⟩ : BufTy).Contents (Elt F)),
    unary main_v4 main_v5 (broadcastInDim S4x4096x4x1 ![0, 1, 2] bcast_S4x4096x4_S4x4096x4x1_0_1_2 : (⟨S4x4096x4, .f32⟩ : BufTy).Contents (Elt F) → (⟨S4x4096x4x1, .f32⟩ : BufTy).Contents (Elt F)),
    nullary main_cst_0 (constant S_ .f32 0x43000000#32),
    unary main_cst_0 main_v6 (broadcastInDim S4x4096x4x1 ![] bcast_S_S4x4096x4x1 : (⟨S_, .f32⟩ : BufTy).Contents (Elt F) → (⟨S4x4096x4x1, .f32⟩ : BufTy).Contents (Elt F)),
    binary main_v5 main_v6 main_v7 (Host.divf : (⟨S4x4096x4x1, .f32⟩ : BufTy).Contents (Elt F) → (⟨S4x4096x4x1, .f32⟩ : BufTy).Contents (Elt F) → (⟨S4x4096x4x1, .f32⟩ : BufTy).Contents (Elt F)),
    nullary main_cst_1 (constant S_ .f32 0x358637BD#32),
    unary main_cst_1 main_v8 (broadcastInDim S4x4096x4x1 ![] bcast_S_S4x4096x4x1 : (⟨S_, .f32⟩ : BufTy).Contents (Elt F) → (⟨S4x4096x4x1, .f32⟩ : BufTy).Contents (Elt F)),
    binary main_v7 main_v8 main_v9 (addf : (⟨S4x4096x4x1, .f32⟩ : BufTy).Contents (Elt F) → (⟨S4x4096x4x1, .f32⟩ : BufTy).Contents (Elt F) → (⟨S4x4096x4x1, .f32⟩ : BufTy).Contents (Elt F)),
    unary main_v9 main_v10 (Host.rsqrt : (⟨S4x4096x4x1, .f32⟩ : BufTy).Contents (Elt F) → (⟨S4x4096x4x1, .f32⟩ : BufTy).Contents (Elt F)),
    unary main_v10 main_v11 (broadcastInDim S4x4096x4x128 ![0, 1, 2, 3] bcast_S4x4096x4x1_S4x4096x4x128_0_1_2_3 : (⟨S4x4096x4x1, .f32⟩ : BufTy).Contents (Elt F) → (⟨S4x4096x4x128, .f32⟩ : BufTy).Contents (Elt F)),
    binary main_v2 main_v11 main_v12 (mulf : (⟨S4x4096x4x128, .f32⟩ : BufTy).Contents (Elt F) → (⟨S4x4096x4x128, .f32⟩ : BufTy).Contents (Elt F) → (⟨S4x4096x4x128, .f32⟩ : BufTy).Contents (Elt F)),
    unary main_arg3 main_v13 (Host.negf : (⟨S4x4096x512, .f32⟩ : BufTy).Contents (Elt F) → (⟨S4x4096x512, .f32⟩ : BufTy).Contents (Elt F)),
    unary main_v13 main_v14 (Host.exp : (⟨S4x4096x512, .f32⟩ : BufTy).Contents (Elt F) → (⟨S4x4096x512, .f32⟩ : BufTy).Contents (Elt F)),
    nullary main_cst_2 (constant S_ .f32 0x3F800000#32),
    unary main_cst_2 main_v15 (broadcastInDim S4x4096x512 ![] bcast_S_S4x4096x512 : (⟨S_, .f32⟩ : BufTy).Contents (Elt F) → (⟨S4x4096x512, .f32⟩ : BufTy).Contents (Elt F)),
    binary main_v15 main_v14 main_v16 (addf : (⟨S4x4096x512, .f32⟩ : BufTy).Contents (Elt F) → (⟨S4x4096x512, .f32⟩ : BufTy).Contents (Elt F) → (⟨S4x4096x512, .f32⟩ : BufTy).Contents (Elt F)),
    nullary main_cst_3 (constant S_ .f32 0x3F800000#32),
    unary main_cst_3 main_v17 (broadcastInDim S4x4096x512 ![] bcast_S_S4x4096x512 : (⟨S_, .f32⟩ : BufTy).Contents (Elt F) → (⟨S4x4096x512, .f32⟩ : BufTy).Contents (Elt F)),
    binary main_v17 main_v16 main_v18 (Host.divf : (⟨S4x4096x512, .f32⟩ : BufTy).Contents (Elt F) → (⟨S4x4096x512, .f32⟩ : BufTy).Contents (Elt F) → (⟨S4x4096x512, .f32⟩ : BufTy).Contents (Elt F)),
    reshape main_v12 main_v19 (rfl : (.f32 : EltTy) = .f32) shapeCasts_S4x4096x4x128_S4x4096x512,
    unary main_arg7 main_v20 (broadcastInDim S1x1x512 ![2] bcast_S512_S1x1x512_2 : (⟨S512, .f32⟩ : BufTy).Contents (Elt F) → (⟨S1x1x512, .f32⟩ : BufTy).Contents (Elt F)),
    unary main_v20 main_v21 (broadcastInDim S4x4096x512 ![0, 1, 2] bcast_S1x1x512_S4x4096x512_0_1_2 : (⟨S1x1x512, .f32⟩ : BufTy).Contents (Elt F) → (⟨S4x4096x512, .f32⟩ : BufTy).Contents (Elt F)),
    binary main_v19 main_v21 main_v22 (mulf : (⟨S4x4096x512, .f32⟩ : BufTy).Contents (Elt F) → (⟨S4x4096x512, .f32⟩ : BufTy).Contents (Elt F) → (⟨S4x4096x512, .f32⟩ : BufTy).Contents (Elt F)),
    binary main_v18 main_v22 main_v23 (mulf : (⟨S4x4096x512, .f32⟩ : BufTy).Contents (Elt F) → (⟨S4x4096x512, .f32⟩ : BufTy).Contents (Elt F) → (⟨S4x4096x512, .f32⟩ : BufTy).Contents (Elt F)),
    binary main_v23 main_arg4 main_v24 (fn_main_v24 (F := F)),
    binary main_v24 main_arg8 main_v25 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    binary main_arg0 main_v25 main_v26 (addf : (⟨S4x4096x1024, .f32⟩ : BufTy).Contents (Elt F) → (⟨S4x4096x1024, .f32⟩ : BufTy).Contents (Elt F) → (⟨S4x4096x1024, .f32⟩ : BufTy).Contents (Elt F)),
    binary main_v26 main_v26 main_v27 (mulf : (⟨S4x4096x1024, .f32⟩ : BufTy).Contents (Elt F) → (⟨S4x4096x1024, .f32⟩ : BufTy).Contents (Elt F) → (⟨S4x4096x1024, .f32⟩ : BufTy).Contents (Elt F)),
    nullary main_cst_4 (constant S_ .f32 0x00000000#32),
    binary main_v27 main_cst_4 main_v28 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v28 main_v29 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_5 (constant S_ .f32 0x44800000#32),
    unary main_cst_5 main_v30 (broadcastInDim S4x4096x1 ![] bcast_S_S4x4096x1 : (⟨S_, .f32⟩ : BufTy).Contents (Elt F) → (⟨S4x4096x1, .f32⟩ : BufTy).Contents (Elt F)),
    binary main_v29 main_v30 main_v31 (Host.divf : (⟨S4x4096x1, .f32⟩ : BufTy).Contents (Elt F) → (⟨S4x4096x1, .f32⟩ : BufTy).Contents (Elt F) → (⟨S4x4096x1, .f32⟩ : BufTy).Contents (Elt F)),
    nullary main_cst_6 (constant S_ .f32 0x358637BD#32),
    unary main_cst_6 main_v32 (broadcastInDim S4x4096x1 ![] bcast_S_S4x4096x1 : (⟨S_, .f32⟩ : BufTy).Contents (Elt F) → (⟨S4x4096x1, .f32⟩ : BufTy).Contents (Elt F)),
    binary main_v31 main_v32 main_v33 (addf : (⟨S4x4096x1, .f32⟩ : BufTy).Contents (Elt F) → (⟨S4x4096x1, .f32⟩ : BufTy).Contents (Elt F) → (⟨S4x4096x1, .f32⟩ : BufTy).Contents (Elt F)),
    unary main_v33 main_v34 (Host.rsqrt : (⟨S4x4096x1, .f32⟩ : BufTy).Contents (Elt F) → (⟨S4x4096x1, .f32⟩ : BufTy).Contents (Elt F)),
    unary main_v34 main_v35 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v26 main_v35 main_v36 (mulf : (⟨S4x4096x1024, .f32⟩ : BufTy).Contents (Elt F) → (⟨S4x4096x1024, .f32⟩ : BufTy).Contents (Elt F) → (⟨S4x4096x1024, .f32⟩ : BufTy).Contents (Elt F)),
    unary main_arg9 main_v37 (broadcastInDim S1x1x1024 ![2] bcast_S1024_S1x1x1024_2 : (⟨S1024, .f32⟩ : BufTy).Contents (Elt F) → (⟨S1x1x1024, .f32⟩ : BufTy).Contents (Elt F)),
    unary main_v37 main_v38 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v36 main_v38 main_v39 (mulf : (⟨S4x4096x1024, .f32⟩ : BufTy).Contents (Elt F) → (⟨S4x4096x1024, .f32⟩ : BufTy).Contents (Elt F) → (⟨S4x4096x1024, .f32⟩ : BufTy).Contents (Elt F)),
    binary main_v39 main_arg10 main_v40 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    reshape main_v40 main_v41 (rfl : (.f32 : EltTy) = .f32) shapeCasts_S4x4096x1024_S4x4096x4x256,
    unary main_arg5 main_v42 ((extf .f32 · bitsLt_bf16_f32) : (⟨S4x256x1024, .bf16⟩ : BufTy).Contents (Elt F) → (⟨S4x256x1024, .f32⟩ : BufTy).Contents (Elt F)),
    reshape main_v42 main_v43 (rfl : (.f32 : EltTy) = .f32) shapeCasts_S4x256x1024_S4x256x4x256,
    unary main_arg6 main_v44 ((extf .f32 · bitsLt_bf16_f32) : (⟨S4x256x1024, .bf16⟩ : BufTy).Contents (Elt F) → (⟨S4x256x1024, .f32⟩ : BufTy).Contents (Elt F)),
    reshape main_v44 main_v45 (rfl : (.f32 : EltTy) = .f32) shapeCasts_S4x256x1024_S4x256x4x256,
    binary main_v41 main_v43 main_v46 ((fun l r => Host.dotGeneral dot_S4x4096x4x256_S4x256x4x256_S4x4x4096x256_3_3_1_1_02_02 none l r) : (⟨S4x4096x4x256, .f32⟩ : BufTy).Contents (Elt F) → (⟨S4x256x4x256, .f32⟩ : BufTy).Contents (Elt F) → (⟨S4x4x4096x256, .f32⟩ : BufTy).Contents (Elt F)),
    nullary main_cst_7 (constant S_ .f32 0x3D800000#32),
    unary main_cst_7 main_v47 (broadcastInDim S4x4x4096x256 ![] bcast_S_S4x4x4096x256 : (⟨S_, .f32⟩ : BufTy).Contents (Elt F) → (⟨S4x4x4096x256, .f32⟩ : BufTy).Contents (Elt F)),
    binary main_v46 main_v47 main_v48 (mulf : (⟨S4x4x4096x256, .f32⟩ : BufTy).Contents (Elt F) → (⟨S4x4x4096x256, .f32⟩ : BufTy).Contents (Elt F) → (⟨S4x4x4096x256, .f32⟩ : BufTy).Contents (Elt F)),
    nullary main_cst_8 (constant S_ .f32 0xFF800000#32),
    binary main_v48 main_cst_8 main_v49 ((fun x v => Host.reduce FloatOps.maximumf x v reducesTo_S4x4x4096x256_S4x4x4096_d3 h_S_) : (⟨S4x4x4096x256, .f32⟩ : BufTy).Contents (Elt F) → (⟨S_, .f32⟩ : BufTy).Contents (Elt F) → (⟨S4x4x4096, .f32⟩ : BufTy).Contents (Elt F)),
    nullary main_cst_9 (constant S_ .f32 0xFF800000#32),
    unary main_cst_9 main_v50 (broadcastInDim S4x4x4096 ![] bcast_S_S4x4x4096 : (⟨S_, .f32⟩ : BufTy).Contents (Elt F) → (⟨S4x4x4096, .f32⟩ : BufTy).Contents (Elt F)),
    binary main_v50 main_v49 main_v51 (maximumf : (⟨S4x4x4096, .f32⟩ : BufTy).Contents (Elt F) → (⟨S4x4x4096, .f32⟩ : BufTy).Contents (Elt F) → (⟨S4x4x4096, .f32⟩ : BufTy).Contents (Elt F)),
    unary main_v51 main_v52 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    unary main_v52 main_v53 (broadcastInDim S4x4x4096x256 ![0, 1, 2, 3] bcast_S4x4x4096x1_S4x4x4096x256_0_1_2_3 : (⟨S4x4x4096x1, .f32⟩ : BufTy).Contents (Elt F) → (⟨S4x4x4096x256, .f32⟩ : BufTy).Contents (Elt F)),
    binary main_v48 main_v53 main_v54 (subf : (⟨S4x4x4096x256, .f32⟩ : BufTy).Contents (Elt F) → (⟨S4x4x4096x256, .f32⟩ : BufTy).Contents (Elt F) → (⟨S4x4x4096x256, .f32⟩ : BufTy).Contents (Elt F)),
    unary main_v54 main_v55 (Host.exp : (⟨S4x4x4096x256, .f32⟩ : BufTy).Contents (Elt F) → (⟨S4x4x4096x256, .f32⟩ : BufTy).Contents (Elt F)),
    nullary main_cst_10 (constant S_ .f32 0x00000000#32),
    binary main_v55 main_cst_10 main_v56 ((fun x v => Host.reduceAdd x v reducesTo_S4x4x4096x256_S4x4x4096_d3 h_S_) : (⟨S4x4x4096x256, .f32⟩ : BufTy).Contents (Elt F) → (⟨S_, .f32⟩ : BufTy).Contents (Elt F) → (⟨S4x4x4096, .f32⟩ : BufTy).Contents (Elt F)),
    unary main_v56 main_v57 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    unary main_v57 main_v58 (broadcastInDim S4x4x4096x256 ![0, 1, 2, 3] bcast_S4x4x4096x1_S4x4x4096x256_0_1_2_3 : (⟨S4x4x4096x1, .f32⟩ : BufTy).Contents (Elt F) → (⟨S4x4x4096x256, .f32⟩ : BufTy).Contents (Elt F)),
    binary main_v55 main_v58 main_v59 (Host.divf : (⟨S4x4x4096x256, .f32⟩ : BufTy).Contents (Elt F) → (⟨S4x4x4096x256, .f32⟩ : BufTy).Contents (Elt F) → (⟨S4x4x4096x256, .f32⟩ : BufTy).Contents (Elt F)),
    binary main_v45 main_v59 main_v60 ((fun l r => Host.dotGeneral dot_S4x256x4x256_S4x4x4096x256_S4x4x256x4096_1_3_3_2_02_01 none l r) : (⟨S4x256x4x256, .f32⟩ : BufTy).Contents (Elt F) → (⟨S4x4x4096x256, .f32⟩ : BufTy).Contents (Elt F) → (⟨S4x4x256x4096, .f32⟩ : BufTy).Contents (Elt F)),
    unary main_v60 main_v61 ((transpose S4x4096x4x256 [0, 3, 1, 2] · transposes_S4x4x256x4096_S4x4096x4x256_0_3_1_2) : (⟨S4x4x256x4096, .f32⟩ : BufTy).Contents (Elt F) → (⟨S4x4096x4x256, .f32⟩ : BufTy).Contents (Elt F)),
    reshape main_v61 main_v62 (rfl : (.f32 : EltTy) = .f32) shapeCasts_S4x4096x4x256_S4x4096x1024,
    binary main_v62 main_arg11 main_v63 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    binary main_v26 main_v63 main_v64 (addf : (⟨S4x4096x1024, .f32⟩ : BufTy).Contents (Elt F) → (⟨S4x4096x1024, .f32⟩ : BufTy).Contents (Elt F) → (⟨S4x4096x1024, .f32⟩ : BufTy).Contents (Elt F)),
    binary main_v64 main_v64 main_v65 (mulf : (⟨S4x4096x1024, .f32⟩ : BufTy).Contents (Elt F) → (⟨S4x4096x1024, .f32⟩ : BufTy).Contents (Elt F) → (⟨S4x4096x1024, .f32⟩ : BufTy).Contents (Elt F)),
    nullary main_cst_11 (constant S_ .f32 0x00000000#32),
    binary main_v65 main_cst_11 main_v66 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v66 main_v67 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_12 (constant S_ .f32 0x44800000#32),
    unary main_cst_12 main_v68 (broadcastInDim S4x4096x1 ![] bcast_S_S4x4096x1 : (⟨S_, .f32⟩ : BufTy).Contents (Elt F) → (⟨S4x4096x1, .f32⟩ : BufTy).Contents (Elt F)),
    binary main_v67 main_v68 main_v69 (Host.divf : (⟨S4x4096x1, .f32⟩ : BufTy).Contents (Elt F) → (⟨S4x4096x1, .f32⟩ : BufTy).Contents (Elt F) → (⟨S4x4096x1, .f32⟩ : BufTy).Contents (Elt F)),
    nullary main_cst_13 (constant S_ .f32 0x358637BD#32),
    unary main_cst_13 main_v70 (broadcastInDim S4x4096x1 ![] bcast_S_S4x4096x1 : (⟨S_, .f32⟩ : BufTy).Contents (Elt F) → (⟨S4x4096x1, .f32⟩ : BufTy).Contents (Elt F)),
    binary main_v69 main_v70 main_v71 (addf : (⟨S4x4096x1, .f32⟩ : BufTy).Contents (Elt F) → (⟨S4x4096x1, .f32⟩ : BufTy).Contents (Elt F) → (⟨S4x4096x1, .f32⟩ : BufTy).Contents (Elt F)),
    unary main_v71 main_v72 (Host.rsqrt : (⟨S4x4096x1, .f32⟩ : BufTy).Contents (Elt F) → (⟨S4x4096x1, .f32⟩ : BufTy).Contents (Elt F)),
    unary main_v72 main_v73 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v64 main_v73 main_v74 (mulf : (⟨S4x4096x1024, .f32⟩ : BufTy).Contents (Elt F) → (⟨S4x4096x1024, .f32⟩ : BufTy).Contents (Elt F) → (⟨S4x4096x1024, .f32⟩ : BufTy).Contents (Elt F)),
    unary main_arg12 main_v75 (broadcastInDim S1x1x1024 ![2] bcast_S1024_S1x1x1024_2 : (⟨S1024, .f32⟩ : BufTy).Contents (Elt F) → (⟨S1x1x1024, .f32⟩ : BufTy).Contents (Elt F)),
    unary main_v75 main_v76 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v74 main_v76 main_v77 (mulf : (⟨S4x4096x1024, .f32⟩ : BufTy).Contents (Elt F) → (⟨S4x4096x1024, .f32⟩ : BufTy).Contents (Elt F) → (⟨S4x4096x1024, .f32⟩ : BufTy).Contents (Elt F)),
    reshape main_v77 main_v78 (rfl : (.f32 : EltTy) = .f32) shapeCasts_S4x4096x1024_S4x4096x8x128 ]

set_option maxRecDepth 8192 in
set_option maxHeartbeats 4000000 in
/-- The program is the list of its operations. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation's buffers are the program's. -/
theorem ops_sub : (ops : List (HloOp τ sig (Elt F))).Forall fun op => op.bufs ⊆ tcRefs τ sig :=
  ⟨binary_bufs_sub .., reshape_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩

set_option maxRecDepth 8192 in
/-- `main_v78`'s composed term of the arguments (named: it is long). -/
def res_main_v78 (m : (ℓ : Loc nD τ sig) → Buf (Elt F) ℓ) (c : Dev nD) : Buf (Elt F) ((c.tc : Thread nD τ).loc main_v78) :=
  val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

set_option maxRecDepth 8192 in
/-- `main_v64`'s composed term of the arguments (named: it is long). -/
def res_main_v64 (m : (ℓ : Loc nD τ sig) → Buf (Elt F) ℓ) (c : Dev nD) : Buf (Elt F) ((c.tc : Thread nD τ).loc main_v64) :=
  val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

set_option maxRecDepth 8192 in
set_option maxHeartbeats 37600000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = res_main_v64 m c
      ∧ r.2.mem ((c.tc : Thread nD τ).loc main_v78) = res_main_v78 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v64).trans (by after_results_simp <;> rfl <;> (unfold res_main_v64; rfl)),
      (h c main_v78).trans (by after_results_simp <;> rfl <;> (unfold res_main_v78; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.Reference4Ideal.Post

end
-- ==== Proof.Inproj.Vals.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 11).trans (((dats 0 c).arrAt_in 11 rfl _).trans ((hA c 11).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S1x1024 := Rect.unit (s := S1x1024) ![0, 0] S1x1024.size inb_S1x1024_S1x1024_0_0
abbrev r0_1 : Rect S1x512x1024 := Rect.unit (s := S1x512x1024) ![0, 0, 0] S1x512x1024.size inb_S1x512x1024_S1x512x1024_0_0_0
abbrev r0_2 : Rect S1x8x1024 := Rect.unit (s := S1x8x1024) ![0, 0, 0] S1x8x1024.size inb_S1x8x1024_S1x8x1024_0_0_0
abbrev r0_3 : Rect S3x1024 := Rect.unit (s := S3x1024) ![0, 0] S3x1024.size inb_S3x1024_S3x1024_0_0
abbrev r0_4 : Rect S1024x1024 := Rect.unit (s := S1024x1024) ![0, 0] S1024x1024.size inb_S1024x1024_S1024x1024_0_0
abbrev r0_5 : Rect S1024x512 := Rect.unit (s := S1024x512) ![0, 0] S1024x512.size inb_S1024x512_S1024x512_0_0
abbrev r0_6 : Rect S512x1024 := Rect.unit (s := S512x1024) ![0, 0] S512x1024.size inb_S512x1024_S512x1024_0_0
abbrev r0_7 : Rect S1x512x512 := Rect.unit (s := S1x512x512) ![0, 0, 0] S1x256x512.size inb_S1x512x512_S1x256x512_0_0_0
abbrev r0_8 : Rect S128x1024 := Rect.unit (s := S128x1024) ![0, 0] S128x1024.size inb_S128x1024_S128x1024_0_0
abbrev r0_9 : Rect S1x128 := Rect.unit (s := S1x128) ![0, 0] S1x128.size inb_S1x128_S1x128_0_0
abbrev r0_10 : Rect S1x256 := Rect.unit (s := S1x256) ![0, 0] S1x256.size inb_S1x256_S1x256_0_0
abbrev r0_11 : Rect S1024x256 := Rect.unit (s := S1024x256) ![0, 0] S1024x256.size inb_S1024x256_S1024x256_0_0
abbrev r0_12 : Rect S640x128 := Rect.unit (s := S640x128) ![0, 0] S640x128.size inb_S640x128_S640x128_0_0
abbrev r0_13 : Rect S1x512x512 := Rect.unit (s := S1x512x512) ![0, 256, 0] S1x256x512.size inb_S1x512x512_S1x256x512_0_256_0
abbrev r0_14 : Rect S1x512x512 := Rect.unit (s := S1x512x512) ![0, 0, 0] S1x512x256.size inb_S1x512x512_S1x512x256_0_0_0
abbrev r0_15 : Rect S1x512x128 := Rect.unit (s := S1x512x128) ![0, 0, 0] S1x256x128.size inb_S1x512x128_S1x256x128_0_0_0
abbrev r0_16 : Rect S1x32x512 := Rect.unit (s := S1x32x512) ![0, 0, 0] S1x32x256.size inb_S1x32x512_S1x32x256_0_0_0
abbrev r0_17 : Rect S16x1 := Rect.unit (s := S16x1) ![0, 0] S16x1.size inb_S16x1_S16x1_0_0
abbrev r0_18 : Rect S1x1x512 := Rect.unit (s := S1x1x512) ![0, 0, 0] S1x1x256.size inb_S1x1x512_S1x1x256_0_0_0
abbrev r0_19 : Rect S1x512x1024 := Rect.unit (s := S1x512x1024) ![0, 0, 0] S1x256x128.size inb_S1x512x1024_S1x256x128_0_0_0
abbrev r0_20 : Rect S1x1024x512 := Rect.unit (s := S1x1024x512) ![0, 0, 0] S1x128x256.size inb_S1x1024x512_S1x128x256_0_0_0
abbrev r0_21 : Rect S1x512x1024 := Rect.unit (s := S1x512x1024) ![0, 0, 128] S1x256x128.size inb_S1x512x1024_S1x256x128_0_0_128
abbrev r0_22 : Rect S1x1024x512 := Rect.unit (s := S1x1024x512) ![0, 128, 0] S1x128x256.size inb_S1x1024x512_S1x128x256_0_128_0
abbrev r0_23 : Rect S1x512x1024 := Rect.unit (s := S1x512x1024) ![0, 0, 256] S1x256x128.size inb_S1x512x1024_S1x256x128_0_0_256
abbrev r0_24 : Rect S1x1024x512 := Rect.unit (s := S1x1024x512) ![0, 256, 0] S1x128x256.size inb_S1x1024x512_S1x128x256_0_256_0
abbrev r0_25 : Rect S1x512x1024 := Rect.unit (s := S1x512x1024) ![0, 0, 384] S1x256x128.size inb_S1x512x1024_S1x256x128_0_0_384
abbrev r0_26 : Rect S1x1024x512 := Rect.unit (s := S1x1024x512) ![0, 384, 0] S1x128x256.size inb_S1x1024x512_S1x128x256_0_384_0
abbrev r0_27 : Rect S1x512x1024 := Rect.unit (s := S1x512x1024) ![0, 0, 512] S1x256x128.size inb_S1x512x1024_S1x256x128_0_0_512
abbrev r0_28 : Rect S1x1024x512 := Rect.unit (s := S1x1024x512) ![0, 512, 0] S1x128x256.size inb_S1x1024x512_S1x128x256_0_512_0
abbrev r0_29 : Rect S1x512x1024 := Rect.unit (s := S1x512x1024) ![0, 0, 640] S1x256x128.size inb_S1x512x1024_S1x256x128_0_0_640
abbrev r0_30 : Rect S1x1024x512 := Rect.unit (s := S1x1024x512) ![0, 640, 0] S1x128x256.size inb_S1x1024x512_S1x128x256_0_640_0
abbrev r0_31 : Rect S1x512x1024 := Rect.unit (s := S1x512x1024) ![0, 0, 768] S1x256x128.size inb_S1x512x1024_S1x256x128_0_0_768
abbrev r0_32 : Rect S1x1024x512 := Rect.unit (s := S1x1024x512) ![0, 768, 0] S1x128x256.size inb_S1x1024x512_S1x128x256_0_768_0
abbrev r0_33 : Rect S1x512x1024 := Rect.unit (s := S1x512x1024) ![0, 0, 896] S1x256x128.size inb_S1x512x1024_S1x256x128_0_0_896
abbrev r0_34 : Rect S1x1024x512 := Rect.unit (s := S1x1024x512) ![0, 896, 0] S1x128x256.size inb_S1x1024x512_S1x128x256_0_896_0
abbrev r0_35 : Rect S640x256 := Rect.unit (s := S640x256) ![0, 0] S640x256.size inb_S640x256_S640x256_0_0
abbrev r0_36 : Rect S1x640x512 := Rect.unit (s := S1x640x512) ![0, 0, 0] S1x640x256.size inb_S1x640x512_S1x640x256_0_0_0
abbrev r0_37 : Rect S1x512x512 := Rect.unit (s := S1x512x512) ![0, 0, 256] S1x512x256.size inb_S1x512x512_S1x512x256_0_0_256
abbrev r0_38 : Rect S1x512x128 := Rect.unit (s := S1x512x128) ![0, 256, 0] S1x256x128.size inb_S1x512x128_S1x256x128_0_256_0
abbrev r0_39 : Rect S1x32x512 := Rect.unit (s := S1x32x512) ![0, 0, 256] S1x32x256.size inb_S1x32x512_S1x32x256_0_0_256
abbrev r0_40 : Rect S1x1x512 := Rect.unit (s := S1x1x512) ![0, 0, 256] S1x1x256.size inb_S1x1x512_S1x1x256_0_0_256
abbrev r0_41 : Rect S1x512x1024 := Rect.unit (s := S1x512x1024) ![0, 256, 0] S1x256x128.size inb_S1x512x1024_S1x256x128_0_256_0
abbrev r0_42 : Rect S1x1024x512 := Rect.unit (s := S1x1024x512) ![0, 0, 256] S1x128x256.size inb_S1x1024x512_S1x128x256_0_0_256
abbrev r0_43 : Rect S1x512x1024 := Rect.unit (s := S1x512x1024) ![0, 256, 128] S1x256x128.size inb_S1x512x1024_S1x256x128_0_256_128
abbrev r0_44 : Rect S1x1024x512 := Rect.unit (s := S1x1024x512) ![0, 128, 256] S1x128x256.size inb_S1x1024x512_S1x128x256_0_128_256
abbrev r0_45 : Rect S1x512x1024 := Rect.unit (s := S1x512x1024) ![0, 256, 256] S1x256x128.size inb_S1x512x1024_S1x256x128_0_256_256
abbrev r0_46 : Rect S1x1024x512 := Rect.unit (s := S1x1024x512) ![0, 256, 256] S1x128x256.size inb_S1x1024x512_S1x128x256_0_256_256
abbrev r0_47 : Rect S1x512x1024 := Rect.unit (s := S1x512x1024) ![0, 256, 384] S1x256x128.size inb_S1x512x1024_S1x256x128_0_256_384
abbrev r0_48 : Rect S1x1024x512 := Rect.unit (s := S1x1024x512) ![0, 384, 256] S1x128x256.size inb_S1x1024x512_S1x128x256_0_384_256
abbrev r0_49 : Rect S1x512x1024 := Rect.unit (s := S1x512x1024) ![0, 256, 512] S1x256x128.size inb_S1x512x1024_S1x256x128_0_256_512
abbrev r0_50 : Rect S1x1024x512 := Rect.unit (s := S1x1024x512) ![0, 512, 256] S1x128x256.size inb_S1x1024x512_S1x128x256_0_512_256
abbrev r0_51 : Rect S1x512x1024 := Rect.unit (s := S1x512x1024) ![0, 256, 640] S1x256x128.size inb_S1x512x1024_S1x256x128_0_256_640
abbrev r0_52 : Rect S1x1024x512 := Rect.unit (s := S1x1024x512) ![0, 640, 256] S1x128x256.size inb_S1x1024x512_S1x128x256_0_640_256
abbrev r0_53 : Rect S1x512x1024 := Rect.unit (s := S1x512x1024) ![0, 256, 768] S1x256x128.size inb_S1x512x1024_S1x256x128_0_256_768
abbrev r0_54 : Rect S1x1024x512 := Rect.unit (s := S1x1024x512) ![0, 768, 256] S1x128x256.size inb_S1x1024x512_S1x128x256_0_768_256
abbrev r0_55 : Rect S1x512x1024 := Rect.unit (s := S1x512x1024) ![0, 256, 896] S1x256x128.size inb_S1x512x1024_S1x256x128_0_256_896
abbrev r0_56 : Rect S1x1024x512 := Rect.unit (s := S1x1024x512) ![0, 896, 256] S1x128x256.size inb_S1x1024x512_S1x128x256_0_896_256
abbrev r0_57 : Rect S1x640x512 := Rect.unit (s := S1x640x512) ![0, 0, 256] S1x640x256.size inb_S1x640x512_S1x640x256_0_0_256

/-! ## What the body leaves in each output window's buffer -/

/-- The blocks of the inputs at one grid point. -/
structure Ins (F : FTy → Type) [FloatOps F] where
  x0 : Vec F S1x512x1024 .f32
  x1 : Vec F S1x8x1024 .f32
  x2 : Vec F S1x8x1024 .f32
  x3 : Vec F S1x1x512 .f32
  x4 : Vec F S1x1024 .f32
  x5 : Vec F S1024x1024 .bf16
  x6 : Vec F S512x1024 .bf16
  x7 : Vec F S1024x512 .bf16
  x8 : Vec F S1024x512 .bf16
  x9 : Vec F S128x1024 .bf16
  x10 : Vec F S1x128 .f32
  x11 : Vec F S3x1024 .f32
  x12 : Vec F S1x256 .f32
  x13 : Vec F S1024x256 .bf16
  x14 : Vec F S1x128 .f32
  x15 : Vec F S128x1024 .bf16
  x16 : Vec F S640x128 .bf16
  x17 : Vec F S640x256 .f32
  x18 : Vec F S16x1 .f32

/-- A value of the body. -/
def k0_pay153 (i : grid0.Coords) (x : Ins F) : FVec F S512x1024 .bf16 :=
  k0_pay4 (View.ld x.x4 r0_0) (View.ld x.x0 r0_1)
/-- A value of the body. -/
def k0_pay154 (i : grid0.Coords) (x : Ins F) : IVec S256x128 32 :=
  iota .tc S256x128 32 [1] iota_S256x128_d1_w32
/-- A value of the body. -/
def k0_pay155 (i : grid0.Coords) (x : Ins F) : IVec S256x128 32 :=
  iota .tc S256x128 32 [0] iota_S256x128_d0_w32
/-- A value of the body. -/
def k0_pay156 (i : grid0.Coords) (x : Ins F) : IVec S256x128 1 :=
  k0_pay9
/-- A value of the body. -/
def k0_pay157 (i : grid0.Coords) (x : Ins F) : FVec F S256x1024 .bf16 :=
  k0_pay10 (k0_pay153 i x)
/-- A value of the body. -/
def k0_pay158 (i : grid0.Coords) (x : Ins F) : FVec F S272x1024 .f32 :=
  k0_pay11 (k0_pay153 i x) (k0_pay5 i (View.ld x.x4 r0_0) (View.ld x.x1 r0_2)) (View.ld x.x5 r0_4)
/-- A value of the body. -/
def k0_pay159 (i : grid0.Coords) (x : Ins F) : FVec F S256x512 .f32 :=
  k0_pay12 (k0_pay153 i x) (View.ld x.x8 r0_5)
/-- A value of the body. -/
def k0_pay160 (i : grid0.Coords) (x : Ins F) : FVec F S128x256 .f32 :=
  k0_pay16 (k0_pay157 i x) (View.ld x.x9 r0_8)
/-- A value of the body. -/
def k0_pay161 (i : grid0.Coords) (x : Ins F) : FVec F S256x128 .bf16 :=
  k0_pay17 (k0_pay159 i x) (View.ld x.x14 r0_9)
/-- A value of the body. -/
def k0_pay162 (i : grid0.Coords) (x : Ins F) : FVec F S256x128 .f32 :=
  k0_pay20 (k0_pay159 i x) (View.ld x.x10 r0_9)
/-- A value of the body. -/
def k0_pay163 (i : grid0.Coords) (x : Ins F) : FVec F S256x1024 .f32 :=
  k0_pay21 (k0_pay161 i x) (View.ld x.x15 r0_8)
/-- A value of the body. -/
def k0_pay164 (i : grid0.Coords) (x : Ins F) : FVec F S1024x256 .f32 :=
  k0_pay22 (k0_pay18 (View.ld x.x12 r0_10)) (k0_pay19 (k0_pay159 i x)) (View.ld x.x13 r0_11)
/-- A value of the body. -/
def k0_pay165 (i : grid0.Coords) (x : Ins F) : FVec F S272x1024 .f32 :=
  k0_pay25 (k0_pay153 i x) (k0_pay8 (BitVec.ofNat 32 (i 1).val) (k0_pay3 (View.ld x.x4 r0_0)) (k0_pay6 (View.ld x.x2 r0_2)) (k0_pay7 (View.ld x.x2 r0_2))) (View.ld x.x5 r0_4)
/-- A value of the body. -/
def k0_pay166 (i : grid0.Coords) (x : Ins F) : FVec F S256x512 .f32 :=
  k0_pay26 (k0_pay153 i x) (View.ld x.x8 r0_5)
/-- A value of the body. -/
def k0_pay167 (i : grid0.Coords) (x : Ins F) : FVec F S128x256 .f32 :=
  k0_pay30 (k0_pay24 (k0_pay153 i x)) (View.ld x.x9 r0_8)
/-- A value of the body. -/
def k0_pay168 (i : grid0.Coords) (x : Ins F) : FVec F S256x128 .bf16 :=
  k0_pay31 (k0_pay166 i x) (View.ld x.x14 r0_9)
/-- A value of the body. -/
def k0_pay169 (i : grid0.Coords) (x : Ins F) : FVec F S256x128 .f32 :=
  k0_pay33 (k0_pay166 i x) (View.ld x.x10 r0_9)
/-- A value of the body. -/
def k0_pay170 (i : grid0.Coords) (x : Ins F) : FVec F S256x1024 .f32 :=
  k0_pay34 (k0_pay168 i x) (View.ld x.x15 r0_8)
/-- A value of the body. -/
def k0_pay171 (i : grid0.Coords) (x : Ins F) : FVec F S1024x256 .f32 :=
  k0_pay35 (k0_pay32 (k0_pay166 i x) (View.ld x.x12 r0_10)) (View.ld x.x13 r0_11)
/-- A value of the body. -/
def k0_pay172 (i : grid0.Coords) (x : Ins F) : FVec F S256x128 .f32 :=
  k0_pay42 (k0_pay156 i x) (k0_pay162 i x)
/-- A value of the body. -/
def k0_pay173 (i : grid0.Coords) (x : Ins F) : IVec S256x128 1 :=
  k0_pay43 (k0_pay154 i x)
/-- A value of the body. -/
def k0_pay174 (i : grid0.Coords) (x : Ins F) : FVec F S256x128 .f32 :=
  k0_pay45 (k0_pay44 (k0_pay156 i x) (k0_pay155 i x) (k0_pay162 i x))
/-- A value of the body. -/
def k0_pay175 (i : grid0.Coords) (x : Ins F) : FVec F S256x128 .f32 :=
  k0_pay46 (k0_pay155 i x) (k0_pay172 i x)
/-- A value of the body. -/
def k0_pay176 (i : grid0.Coords) (x : Ins F) : FVec F S256x128 .f32 :=
  k0_pay47 (k0_pay155 i x) (k0_pay172 i x)
/-- A value of the body. -/
def k0_pay177 (i : grid0.Coords) (x : Ins F) : FVec F S256x128 .f32 :=
  k0_pay48 (k0_pay156 i x) (k0_pay172 i x) (k0_pay173 i x) (k0_pay174 i x) (k0_pay175 i x) (k0_pay176 i x)
/-- A value of the body. -/
def k0_pay178 (i : grid0.Coords) (x : Ins F) : IVec S256x128 1 :=
  k0_pay49 (k0_pay154 i x)
/-- A value of the body. -/
def k0_pay179 (i : grid0.Coords) (x : Ins F) : FVec F S256x128 .f32 :=
  k0_pay52 (k0_pay50 (k0_pay156 i x) (k0_pay155 i x) (k0_pay172 i x) (k0_pay173 i x) (k0_pay174 i x) (k0_pay175 i x) (k0_pay176 i x)) (k0_pay51 (k0_pay156 i x) (k0_pay155 i x) (k0_pay172 i x) (k0_pay173 i x) (k0_pay174 i x) (k0_pay175 i x) (k0_pay176 i x))
/-- A value of the body. -/
def k0_pay180 (i : grid0.Coords) (x : Ins F) : FVec F S256x128 .f32 :=
  k0_pay53 (k0_pay155 i x) (k0_pay177 i x)
/-- A value of the body. -/
def k0_pay181 (i : grid0.Coords) (x : Ins F) : FVec F S8x128 .f32 :=
  k0_pay54 (F := F)
/-- A value of the body. -/
def k0_pay182 (i : grid0.Coords) (x : Ins F) : FVec F S248x128 .f32 :=
  k0_pay55 (k0_pay155 i x) (k0_pay177 i x)
/-- A value of the body. -/
def k0_pay183 (i : grid0.Coords) (x : Ins F) : FVec F S16x256 .f32 :=
  k0_pay60 (View.ld x.x18 r0_17) (View.ld x.x3 r0_18)
/-- A value of the body. -/
def k0_pay184 (i : grid0.Coords) (x : Ins F) : FVec F S16x256 .f32 :=
  k0_pay61 (View.ld x.x18 r0_17) (View.ld x.x3 r0_18)
/-- A value of the body. -/
def k0_pay185 (i : grid0.Coords) (x : Ins F) : FVec F S16x256 .f32 :=
  k0_pay62 (k0_pay160 i x)
/-- A value of the body. -/
def k0_pay186 (i : grid0.Coords) (x : Ins F) : FVec F S256x128 .f32 :=
  k0_pay63 (k0_pay160 i x) (k0_pay183 i x) (k0_pay184 i x) (k0_pay185 i x)
/-- A value of the body. -/
def k0_pay187 (i : grid0.Coords) (x : Ins F) : FVec F S256x1024 .f32 :=
  k0_pay110 (View.ld x.x11 r0_3) (k0_pay165 i x)
/-- A value of the body. -/
def k0_pay188 (i : grid0.Coords) (x : Ins F) : FVec F S256x1024 .f32 :=
  k0_pay111 (View.ld x.x11 r0_3) (k0_pay165 i x)
/-- A value of the body. -/
def k0_pay189 (i : grid0.Coords) (x : Ins F) : FVec F S256x128 .f32 :=
  k0_pay115 (k0_pay156 i x) (k0_pay169 i x)
/-- A value of the body. -/
def k0_pay190 (i : grid0.Coords) (x : Ins F) : IVec S256x128 1 :=
  k0_pay116 (k0_pay154 i x)
/-- A value of the body. -/
def k0_pay191 (i : grid0.Coords) (x : Ins F) : FVec F S256x128 .f32 :=
  k0_pay120 (k0_pay117 (k0_pay156 i x) (k0_pay155 i x) (k0_pay169 i x)) (k0_pay118 (k0_pay155 i x)) (k0_pay119 (k0_pay156 i x) (k0_pay155 i x) (k0_pay169 i x))
/-- A value of the body. -/
def k0_pay192 (i : grid0.Coords) (x : Ins F) : FVec F S256x128 .f32 :=
  k0_pay121 (k0_pay155 i x) (k0_pay189 i x)
/-- A value of the body. -/
def k0_pay193 (i : grid0.Coords) (x : Ins F) : IVec S256x128 1 :=
  k0_pay122 (k0_pay155 i x)
/-- A value of the body. -/
def k0_pay194 (i : grid0.Coords) (x : Ins F) : FVec F S256x128 .f32 :=
  k0_pay123 (k0_pay156 i x) (k0_pay189 i x) (k0_pay190 i x) (k0_pay191 i x) (k0_pay192 i x) (k0_pay193 i x) 252#32
/-- A value of the body. -/
def k0_pay195 (i : grid0.Coords) (x : Ins F) : IVec S256x128 1 :=
  k0_pay124 (k0_pay154 i x)
/-- A value of the body. -/
def k0_pay196 (i : grid0.Coords) (x : Ins F) : FVec F S256x128 .f32 :=
  k0_pay127 (k0_pay125 (k0_pay156 i x) (k0_pay155 i x) (k0_pay189 i x) (k0_pay190 i x) (k0_pay191 i x) (k0_pay192 i x) (k0_pay193 i x) 252#32) (k0_pay126 (k0_pay155 i x)) 4#32
/-- A value of the body. -/
def k0_pay197 (i : grid0.Coords) (x : Ins F) : FVec F S256x128 .f32 :=
  k0_pay128 (k0_pay155 i x) (k0_pay194 i x)
/-- A value of the body. -/
def k0_pay198 (i : grid0.Coords) (x : Ins F) : IVec S256x128 1 :=
  k0_pay129 (k0_pay155 i x)
/-- A value of the body. -/
def k0_pay199 (i : grid0.Coords) (x : Ins F) : FVec F S16x1 .f32 :=
  k0_pay133 (View.ld x.x18 r0_17)
/-- A value of the body. -/
def k0_pay200 (i : grid0.Coords) (x : Ins F) : FVec F S16x256 .f32 :=
  k0_pay135 (k0_pay199 i x) (View.ld x.x3 r0_40)
/-- A value of the body. -/
def k0_pay201 (i : grid0.Coords) (x : Ins F) : FVec F S16x256 .f32 :=
  k0_pay136 (k0_pay199 i x) (View.ld x.x3 r0_40)
/-- A value of the body. -/
def k0_pay202 (i : grid0.Coords) (x : Ins F) : FVec F S256x128 .f32 :=
  k0_pay137 (k0_pay167 i x) (k0_pay199 i x) (View.ld x.x3 r0_40)

/-- What the body leaves in output window 19. -/
def out0_19 (i : grid0.Coords) (x : Ins F) : Vec F S1x512x512 .bf16 :=
  View.canon [⟨r0_37, k0_pay113 (k0_pay187 i x) (k0_pay188 i x)⟩,
    ⟨r0_14, k0_pay40 (k0_pay39 (View.ld x.x11 r0_3) (k0_pay158 i x))⟩]

/-- Its stores cover it. -/
theorem cover0_19 (p0 : Vec F S1x512x256 .bf16) (p1 : Vec F S1x512x256 .bf16) (y : S1x512x512.Idx) :
    ∃ pc ∈ ([⟨r0_37, p0⟩, ⟨r0_14, p1⟩] : List (View.Piece (Elt F) S1x512x512 .bf16)), y ∈ pc.1.set :=
  View.cover_of_tiled [⟨r0_37, p0⟩, ⟨r0_14, p1⟩] S1x512x256.size (by rfl) y

/-- What the body leaves in output window 20. -/
def out0_20 (i : grid0.Coords) (x : Ins F) : Vec F S1x512x512 .bf16 :=
  View.canon [⟨r0_13, k0_pay114 (k0_pay187 i x) (k0_pay188 i x)⟩,
    ⟨r0_7, k0_pay41 (k0_pay38 (View.ld x.x11 r0_3) (k0_pay158 i x))⟩]

/-- Its stores cover it. -/
theorem cover0_20 (p0 : Vec F S1x256x512 .bf16) (p1 : Vec F S1x256x512 .bf16) (y : S1x512x512.Idx) :
    ∃ pc ∈ ([⟨r0_13, p0⟩, ⟨r0_7, p1⟩] : List (View.Piece (Elt F) S1x512x512 .bf16)), y ∈ pc.1.set :=
  View.cover_of_tiled [⟨r0_13, p0⟩, ⟨r0_7, p1⟩] S1x256x512.size (by rfl) y

/-- What the body leaves in output window 21. -/
def out0_21 (i : grid0.Coords) (x : Ins F) : Vec F S1x512x512 .bf16 :=
  View.canon [⟨r0_37, k0_pay109 (k0_pay27 (k0_pay153 i x) (View.ld x.x6 r0_6))⟩,
    ⟨r0_14, k0_pay37 (k0_pay14 (k0_pay157 i x) (k0_pay13 (View.ld x.x6 r0_6)))⟩]

/-- Its stores cover it. -/
theorem cover0_21 (p0 : Vec F S1x512x256 .bf16) (p1 : Vec F S1x512x256 .bf16) (y : S1x512x512.Idx) :
    ∃ pc ∈ ([⟨r0_37, p0⟩, ⟨r0_14, p1⟩] : List (View.Piece (Elt F) S1x512x512 .bf16)), y ∈ pc.1.set :=
  View.cover_of_tiled [⟨r0_37, p0⟩, ⟨r0_14, p1⟩] S1x512x256.size (by rfl) y

/-- What the body leaves in output window 22. -/
def out0_22 (i : grid0.Coords) (x : Ins F) : Vec F S1x512x512 .f32 :=
  View.canon [⟨r0_13, k0_pay29 (k0_pay28 (k0_pay153 i x) (View.ld x.x7 r0_5))⟩,
    ⟨r0_7, k0_pay15 (k0_pay157 i x) (View.ld x.x7 r0_5)⟩]

/-- Its stores cover it. -/
theorem cover0_22 (p0 : Vec F S1x256x512 .f32) (p1 : Vec F S1x256x512 .f32) (y : S1x512x512.Idx) :
    ∃ pc ∈ ([⟨r0_13, p0⟩, ⟨r0_7, p1⟩] : List (View.Piece (Elt F) S1x512x512 .f32)), y ∈ pc.1.set :=
  View.cover_of_tiled [⟨r0_13, p0⟩, ⟨r0_7, p1⟩] S1x256x512.size (by rfl) y

/-- What the body leaves in output window 23. -/
def out0_23 (i : grid0.Coords) (x : Ins F) : Vec F S1x512x128 .f32 :=
  View.canon [⟨r0_38, k0_pay131 (k0_pay154 i x) (k0_pay194 i x) (k0_pay195 i x) (k0_pay196 i x) (k0_pay197 i x) (k0_pay198 i x)⟩,
    ⟨r0_15, k0_pay57 (k0_pay154 i x) (k0_pay177 i x) (k0_pay178 i x) (k0_pay179 i x) (k0_pay180 i x) (k0_pay181 i x) (k0_pay182 i x)⟩]

/-- Its stores cover it. -/
theorem cover0_23 (p0 : Vec F S1x256x128 .f32) (p1 : Vec F S1x256x128 .f32) (y : S1x512x128.Idx) :
    ∃ pc ∈ ([⟨r0_38, p0⟩, ⟨r0_15, p1⟩] : List (View.Piece (Elt F) S1x512x128 .f32)), y ∈ pc.1.set :=
  View.cover_of_tiled [⟨r0_38, p0⟩, ⟨r0_15, p1⟩] S1x256x128.size (by rfl) y

/-- What the body leaves in output window 24. -/
def out0_24 (i : grid0.Coords) (x : Ins F) : Vec F S1x32x512 .f32 :=
  View.canon [⟨r0_39, k0_pay132 (k0_pay154 i x) (k0_pay194 i x) (k0_pay195 i x) (k0_pay196 i x) (k0_pay197 i x) (k0_pay198 i x)⟩,
    ⟨r0_16, k0_pay58 (k0_pay154 i x) (k0_pay177 i x) (k0_pay178 i x) (k0_pay179 i x) (k0_pay180 i x) (k0_pay181 i x) (k0_pay182 i x)⟩]

/-- Its stores cover it. -/
theorem cover0_24 (p0 : Vec F S1x32x256 .f32) (p1 : Vec F S1x32x256 .f32) (y : S1x32x512.Idx) :
    ∃ pc ∈ ([⟨r0_39, p0⟩, ⟨r0_16, p1⟩] : List (View.Piece (Elt F) S1x32x512 .f32)), y ∈ pc.1.set :=
  View.cover_of_tiled [⟨r0_39, p0⟩, ⟨r0_16, p1⟩] S1x32x256.size (by rfl) y

/-- What the body leaves in output window 25. -/
def out0_25 (i : grid0.Coords) (x : Ins F) : Vec F S1x1024x512 .bf16 :=
  View.canon [⟨r0_56, k0_pay1 (k0_pay171 i x) (k0_pay200 i x) (k0_pay201 i x)⟩,
    ⟨r0_54, k0_pay151 (k0_pay171 i x) (k0_pay200 i x) (k0_pay201 i x)⟩,
    ⟨r0_52, k0_pay149 (k0_pay171 i x) (k0_pay200 i x) (k0_pay201 i x)⟩,
    ⟨r0_50, k0_pay147 (k0_pay171 i x) (k0_pay200 i x) (k0_pay201 i x)⟩,
    ⟨r0_48, k0_pay145 (k0_pay171 i x) (k0_pay200 i x) (k0_pay201 i x)⟩,
    ⟨r0_46, k0_pay143 (k0_pay171 i x) (k0_pay200 i x) (k0_pay201 i x)⟩,
    ⟨r0_44, k0_pay141 (k0_pay171 i x) (k0_pay200 i x) (k0_pay201 i x)⟩,
    ⟨r0_42, k0_pay139 (k0_pay171 i x) (k0_pay199 i x) (View.ld x.x3 r0_40)⟩,
    ⟨r0_34, k0_pay107 (k0_pay100 (k0_pay164 i x)) (k0_pay103 (k0_pay164 i x)) (k0_pay104 (k0_pay164 i x) (k0_pay183 i x) (k0_pay184 i x)) (k0_pay105 (k0_pay164 i x) (k0_pay183 i x)) (k0_pay106 (k0_pay164 i x) (k0_pay184 i x))⟩,
    ⟨r0_32, k0_pay98 (k0_pay164 i x) (k0_pay183 i x) (k0_pay184 i x)⟩,
    ⟨r0_30, k0_pay96 (k0_pay89 (k0_pay164 i x)) (k0_pay92 (k0_pay164 i x)) (k0_pay93 (k0_pay164 i x) (k0_pay183 i x) (k0_pay184 i x)) (k0_pay94 (k0_pay164 i x) (k0_pay183 i x)) (k0_pay95 (k0_pay164 i x) (k0_pay184 i x))⟩,
    ⟨r0_28, k0_pay87 (k0_pay164 i x) (k0_pay183 i x) (k0_pay184 i x)⟩,
    ⟨r0_26, k0_pay85 (k0_pay78 (k0_pay164 i x)) (k0_pay81 (k0_pay164 i x)) (k0_pay82 (k0_pay164 i x) (k0_pay183 i x) (k0_pay184 i x)) (k0_pay83 (k0_pay164 i x) (k0_pay183 i x)) (k0_pay84 (k0_pay164 i x) (k0_pay184 i x))⟩,
    ⟨r0_24, k0_pay76 (k0_pay164 i x) (k0_pay183 i x) (k0_pay184 i x)⟩,
    ⟨r0_22, k0_pay74 (k0_pay67 (k0_pay164 i x)) (k0_pay70 (k0_pay164 i x)) (k0_pay71 (k0_pay164 i x) (k0_pay183 i x) (k0_pay184 i x)) (k0_pay72 (k0_pay164 i x) (k0_pay183 i x)) (k0_pay73 (k0_pay164 i x) (k0_pay184 i x))⟩,
    ⟨r0_20, k0_pay65 (k0_pay164 i x) (k0_pay183 i x) (k0_pay184 i x)⟩]

/-- Its stores cover it. -/
theorem cover0_25 (p0 : Vec F S1x128x256 .bf16) (p1 : Vec F S1x128x256 .bf16) (p2 : Vec F S1x128x256 .bf16) (p3 : Vec F S1x128x256 .bf16) (p4 : Vec F S1x128x256 .bf16) (p5 : Vec F S1x128x256 .bf16) (p6 : Vec F S1x128x256 .bf16) (p7 : Vec F S1x128x256 .bf16) (p8 : Vec F S1x128x256 .bf16) (p9 : Vec F S1x128x256 .bf16) (p10 : Vec F S1x128x256 .bf16) (p11 : Vec F S1x128x256 .bf16) (p12 : Vec F S1x128x256 .bf16) (p13 : Vec F S1x128x256 .bf16) (p14 : Vec F S1x128x256 .bf16) (p15 : Vec F S1x128x256 .bf16) (y : S1x1024x512.Idx) :
    ∃ pc ∈ ([⟨r0_56, p0⟩, ⟨r0_54, p1⟩, ⟨r0_52, p2⟩, ⟨r0_50, p3⟩, ⟨r0_48, p4⟩, ⟨r0_46, p5⟩, ⟨r0_44, p6⟩, ⟨r0_42, p7⟩, ⟨r0_34, p8⟩, ⟨r0_32, p9⟩, ⟨r0_30, p10⟩, ⟨r0_28, p11⟩, ⟨r0_26, p12⟩, ⟨r0_24, p13⟩, ⟨r0_22, p14⟩, ⟨r0_20, p15⟩] : List (View.Piece (Elt F) S1x1024x512 .bf16)), y ∈ pc.1.set :=
  View.cover_of_tiled [⟨r0_56, p0⟩, ⟨r0_54, p1⟩, ⟨r0_52, p2⟩, ⟨r0_50, p3⟩, ⟨r0_48, p4⟩, ⟨r0_46, p5⟩, ⟨r0_44, p6⟩, ⟨r0_42, p7⟩, ⟨r0_34, p8⟩, ⟨r0_32, p9⟩, ⟨r0_30, p10⟩, ⟨r0_28, p11⟩, ⟨r0_26, p12⟩, ⟨r0_24, p13⟩, ⟨r0_22, p14⟩, ⟨r0_20, p15⟩] S1x128x256.size (by rfl) y

/-- What the body leaves in output window 26. -/
def out0_26 (i : grid0.Coords) (x : Ins F) : Vec F S1x512x1024 .bf16 :=
  View.canon [⟨r0_55, k0_pay152 (k0_pay170 i x) (k0_pay202 i x)⟩,
    ⟨r0_53, k0_pay150 (k0_pay170 i x) (k0_pay202 i x)⟩,
    ⟨r0_51, k0_pay148 (k0_pay170 i x) (k0_pay202 i x)⟩,
    ⟨r0_49, k0_pay146 (k0_pay170 i x) (k0_pay202 i x)⟩,
    ⟨r0_47, k0_pay144 (k0_pay170 i x) (k0_pay202 i x)⟩,
    ⟨r0_45, k0_pay142 (k0_pay170 i x) (k0_pay202 i x)⟩,
    ⟨r0_43, k0_pay140 (k0_pay167 i x) (k0_pay170 i x) (k0_pay199 i x) (View.ld x.x3 r0_40)⟩,
    ⟨r0_41, k0_pay138 (k0_pay167 i x) (k0_pay170 i x) (k0_pay199 i x) (View.ld x.x3 r0_40)⟩,
    ⟨r0_33, k0_pay99 (k0_pay163 i x) (k0_pay186 i x)⟩,
    ⟨r0_31, k0_pay97 (k0_pay163 i x) (k0_pay186 i x)⟩,
    ⟨r0_29, k0_pay88 (k0_pay163 i x) (k0_pay186 i x)⟩,
    ⟨r0_27, k0_pay86 (k0_pay163 i x) (k0_pay186 i x)⟩,
    ⟨r0_25, k0_pay77 (k0_pay163 i x) (k0_pay186 i x)⟩,
    ⟨r0_23, k0_pay75 (k0_pay163 i x) (k0_pay186 i x)⟩,
    ⟨r0_21, k0_pay66 (k0_pay160 i x) (k0_pay163 i x) (k0_pay183 i x) (k0_pay184 i x) (k0_pay185 i x)⟩,
    ⟨r0_19, k0_pay64 (k0_pay160 i x) (k0_pay163 i x) (k0_pay183 i x) (k0_pay184 i x) (k0_pay185 i x)⟩]

/-- Its stores cover it. -/
theorem cover0_26 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (p8 : Vec F S1x256x128 .bf16) (p9 : Vec F S1x256x128 .bf16) (p10 : Vec F S1x256x128 .bf16) (p11 : Vec F S1x256x128 .bf16) (p12 : Vec F S1x256x128 .bf16) (p13 : Vec F S1x256x128 .bf16) (p14 : Vec F S1x256x128 .bf16) (p15 : Vec F S1x256x128 .bf16) (y : S1x512x1024.Idx) :
    ∃ pc ∈ ([⟨r0_55, p0⟩, ⟨r0_53, p1⟩, ⟨r0_51, p2⟩, ⟨r0_49, p3⟩, ⟨r0_47, p4⟩, ⟨r0_45, p5⟩, ⟨r0_43, p6⟩, ⟨r0_41, p7⟩, ⟨r0_33, p8⟩, ⟨r0_31, p9⟩, ⟨r0_29, p10⟩, ⟨r0_27, p11⟩, ⟨r0_25, p12⟩, ⟨r0_23, p13⟩, ⟨r0_21, p14⟩, ⟨r0_19, p15⟩] : List (View.Piece (Elt F) S1x512x1024 .bf16)), y ∈ pc.1.set :=
  View.cover_of_tiled [⟨r0_55, p0⟩, ⟨r0_53, p1⟩, ⟨r0_51, p2⟩, ⟨r0_49, p3⟩, ⟨r0_47, p4⟩, ⟨r0_45, p5⟩, ⟨r0_43, p6⟩, ⟨r0_41, p7⟩, ⟨r0_33, p8⟩, ⟨r0_31, p9⟩, ⟨r0_29, p10⟩, ⟨r0_27, p11⟩, ⟨r0_25, p12⟩, ⟨r0_23, p13⟩, ⟨r0_21, p14⟩, ⟨r0_19, p15⟩] S1x256x128.size (by rfl) y

/-- What the body leaves in output window 27. -/
def out0_27 (i : grid0.Coords) (x : Ins F) : Vec F S1x640x512 .bf16 :=
  View.canon [⟨r0_57, k0_pay2 (k0_pay36 (k0_pay168 i x) (View.ld x.x16 r0_12)) (View.ld x.x17 r0_35)⟩,
    ⟨r0_36, k0_pay108 (k0_pay23 (k0_pay161 i x) (View.ld x.x16 r0_12)) (View.ld x.x17 r0_35)⟩]

/-- Its stores cover it. -/
theorem cover0_27 (p0 : Vec F S1x640x256 .bf16) (p1 : Vec F S1x640x256 .bf16) (y : S1x640x512.Idx) :
    ∃ pc ∈ ([⟨r0_57, p0⟩, ⟨r0_36, p1⟩] : List (View.Piece (Elt F) S1x640x512 .bf16)), y ∈ pc.1.set :=
  View.cover_of_tiled [⟨r0_57, p0⟩, ⟨r0_36, p1⟩] S1x640x256.size (by rfl) y

/-! ## The pipeline's proof data -/

/-- The inputs' blocks at point `t`. -/
abbrev ins (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- What each window's buffer holds after the body, over the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (grid0.coords t) (ins m c t)
    | ⟨20, _⟩ => out0_20 (grid0.coords t) (ins m c t)
    | ⟨21, _⟩ => out0_21 (grid0.coords t) (ins m c t)
    | ⟨22, _⟩ => out0_22 (grid0.coords t) (ins m c t)
    | ⟨23, _⟩ => out0_23 (grid0.coords t) (ins m c t)
    | ⟨24, _⟩ => out0_24 (grid0.coords t) (ins m c t)
    | ⟨25, _⟩ => out0_25 (grid0.coords t) (ins m c t)
    | ⟨26, _⟩ => out0_26 (grid0.coords t) (ins m c t)
    | ⟨27, _⟩ => out0_27 (grid0.coords t) (ins m c t)
    | ⟨_ + 28, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What window 0 holds after the body. -/
theorem after0_0 (c : Dev nD) (t : Fin cfg0.N) : (dats m 0 c).after 0 t = iblk m c 0 t := by dsimp only [dats]
/-- What window 1 holds after the body. -/
theorem after0_1 (c : Dev nD) (t : Fin cfg0.N) : (dats m 0 c).after 1 t = iblk m c 1 t := by dsimp only [dats]
/-- What window 2 holds after the body. -/
theorem after0_2 (c : Dev nD) (t : Fin cfg0.N) : (dats m 0 c).after 2 t = iblk m c 2 t := by dsimp only [dats]
/-- What window 3 holds after the body. -/
theorem after0_3 (c : Dev nD) (t : Fin cfg0.N) : (dats m 0 c).after 3 t = iblk m c 3 t := by dsimp only [dats]
/-- What window 4 holds after the body. -/
theorem after0_4 (c : Dev nD) (t : Fin cfg0.N) : (dats m 0 c).after 4 t = iblk m c 4 t := by dsimp only [dats]
/-- What window 5 holds after the body. -/
theorem after0_5 (c : Dev nD) (t : Fin cfg0.N) : (dats m 0 c).after 5 t = iblk m c 5 t := by dsimp only [dats]
/-- What window 6 holds after the body. -/
theorem after0_6 (c : Dev nD) (t : Fin cfg0.N) : (dats m 0 c).after 6 t = iblk m c 6 t := by dsimp only [dats]
/-- What window 7 holds after the body. -/
theorem after0_7 (c : Dev nD) (t : Fin cfg0.N) : (dats m 0 c).after 7 t = iblk m c 7 t := by dsimp only [dats]
/-- What window 8 holds after the body. -/
theorem after0_8 (c : Dev nD) (t : Fin cfg0.N) : (dats m 0 c).after 8 t = iblk m c 8 t := by dsimp only [dats]
/-- What window 9 holds after the body. -/
theorem after0_9 (c : Dev nD) (t : Fin cfg0.N) : (dats m 0 c).after 9 t = iblk m c 9 t := by dsimp only [dats]
/-- What window 10 holds after the body. -/
theorem after0_10 (c : Dev nD) (t : Fin cfg0.N) : (dats m 0 c).after 10 t = iblk m c 10 t := by dsimp only [dats]
/-- What window 11 holds after the body. -/
theorem after0_11 (c : Dev nD) (t : Fin cfg0.N) : (dats m 0 c).after 11 t = iblk m c 11 t := by dsimp only [dats]
/-- What window 12 holds after the body. -/
theorem after0_12 (c : Dev nD) (t : Fin cfg0.N) : (dats m 0 c).after 12 t = iblk m c 12 t := by dsimp only [dats]
/-- What window 13 holds after the body. -/
theorem after0_13 (c : Dev nD) (t : Fin cfg0.N) : (dats m 0 c).after 13 t = iblk m c 13 t := by dsimp only [dats]
/-- What window 14 holds after the body. -/
theorem after0_14 (c : Dev nD) (t : Fin cfg0.N) : (dats m 0 c).after 14 t = iblk m c 14 t := by dsimp only [dats]
/-- What window 15 holds after the body. -/
theorem after0_15 (c : Dev nD) (t : Fin cfg0.N) : (dats m 0 c).after 15 t = iblk m c 15 t := by dsimp only [dats]
/-- What window 16 holds after the body. -/
theorem after0_16 (c : Dev nD) (t : Fin cfg0.N) : (dats m 0 c).after 16 t = iblk m c 16 t := by dsimp only [dats]
/-- What window 17 holds after the body. -/
theorem after0_17 (c : Dev nD) (t : Fin cfg0.N) : (dats m 0 c).after 17 t = iblk m c 17 t := by dsimp only [dats]
/-- What window 18 holds after the body. -/
theorem after0_18 (c : Dev nD) (t : Fin cfg0.N) : (dats m 0 c).after 18 t = iblk m c 18 t := by dsimp only [dats]
/-- What window 19 holds after the body. -/
theorem after0_19 (c : Dev nD) (t : Fin cfg0.N) : (dats m 0 c).after 19 t = out0_19 (grid0.coords t) (ins m c t) := by dsimp only [dats]
/-- What window 20 holds after the body. -/
theorem after0_20 (c : Dev nD) (t : Fin cfg0.N) : (dats m 0 c).after 20 t = out0_20 (grid0.coords t) (ins m c t) := by dsimp only [dats]
/-- What window 21 holds after the body. -/
theorem after0_21 (c : Dev nD) (t : Fin cfg0.N) : (dats m 0 c).after 21 t = out0_21 (grid0.coords t) (ins m c t) := by dsimp only [dats]
/-- What window 22 holds after the body. -/
theorem after0_22 (c : Dev nD) (t : Fin cfg0.N) : (dats m 0 c).after 22 t = out0_22 (grid0.coords t) (ins m c t) := by dsimp only [dats]
/-- What window 23 holds after the body. -/
theorem after0_23 (c : Dev nD) (t : Fin cfg0.N) : (dats m 0 c).after 23 t = out0_23 (grid0.coords t) (ins m c t) := by dsimp only [dats]
/-- What window 24 holds after the body. -/
theorem after0_24 (c : Dev nD) (t : Fin cfg0.N) : (dats m 0 c).after 24 t = out0_24 (grid0.coords t) (ins m c t) := by dsimp only [dats]
/-- What window 25 holds after the body. -/
theorem after0_25 (c : Dev nD) (t : Fin cfg0.N) : (dats m 0 c).after 25 t = out0_25 (grid0.coords t) (ins m c t) := by dsimp only [dats]
/-- What window 26 holds after the body. -/
theorem after0_26 (c : Dev nD) (t : Fin cfg0.N) : (dats m 0 c).after 26 t = out0_26 (grid0.coords t) (ins m c t) := by dsimp only [dats]
/-- What window 27 holds after the body. -/
theorem after0_27 (c : Dev nD) (t : Fin cfg0.N) : (dats m 0 c).after 27 t = out0_27 (grid0.coords t) (ins m c t) := by dsimp only [dats]

/-- Input window 0 holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1 holds its block. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2 holds its block. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3 holds its block. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Input window 4 holds its block. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Input window 5 holds its block. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Input window 6 holds its block. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- Input window 7 holds its block. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
/-- Input window 8 holds its block. -/
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
/-- Input window 9 holds its block. -/
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
/-- Input window 10 holds its block. -/
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
/-- Input window 11 holds its block. -/
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
/-- Input window 12 holds its block. -/
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
/-- Input window 13 holds its block. -/
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
/-- Input window 14 holds its block. -/
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
/-- Input window 15 holds its block. -/
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
/-- Input window 16 holds its block. -/
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
/-- Input window 17 holds its block. -/
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
/-- Input window 18 holds its block. -/
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

end Cert.Kernel5Ideal.Gen

end
-- ==== Proof.Inproj.Frame.lean ====
module

public import proofs.«01_k».proof.Proof.Inproj.Vals
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 8000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x512 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S512x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S128x1024 .bf16) (harg11 : arg11.IsWhole) (arg12 : Memref sig .tc .vmem S1x128 .f32) (harg12 : arg12.IsWhole) (arg13 : Memref sig .tc .vmem S3x1024 .f32) (harg13 : arg13.IsWhole) (arg14 : Memref sig .tc .vmem S1x256 .f32) (harg14 : arg14.IsWhole) (arg15 : Memref sig .tc .vmem S1024x256 .bf16) (harg15 : arg15.IsWhole) (arg16 : Memref sig .tc .vmem S1x128 .f32) (harg16 : arg16.IsWhole) (arg17 : Memref sig .tc .vmem S128x1024 .bf16) (harg17 : arg17.IsWhole) (arg18 : Memref sig .tc .vmem S640x128 .bf16) (harg18 : arg18.IsWhole) (arg19 : Memref sig .tc .vmem S640x256 .f32) (harg19 : arg19.IsWhole) (arg20 : Memref sig .tc .vmem S16x1 .f32) (harg20 : arg20.IsWhole) (arg21 : Memref sig .tc .vmem S1x512x512 .bf16) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x512 .f32) (harg24 : arg24.IsWhole) (arg25 : Memref sig .tc .vmem S1x512x128 .f32) (harg25 : arg25.IsWhole) (arg26 : Memref sig .tc .vmem S1x32x512 .f32) (harg26 : arg26.IsWhole) (arg27 : Memref sig .tc .vmem S1x1024x512 .bf16) (harg27 : arg27.IsWhole) (arg28 : Memref sig .tc .vmem S1x512x1024 .bf16) (harg28 : arg28.IsWhole) (arg29 : Memref sig .tc .vmem S1x640x512 .bf16) (harg29 : arg29.IsWhole)
    (x0 : Vec F S1x512x1024 .f32) (x1 : Vec F S1x8x1024 .f32) (x2 : Vec F S1x8x1024 .f32) (x3 : Vec F S1x1x512 .f32) (x4 : Vec F S1x1024 .f32) (x5 : Vec F S1024x1024 .bf16) (x6 : Vec F S512x1024 .bf16) (x7 : Vec F S1024x512 .bf16) (x8 : Vec F S1024x512 .bf16) (x9 : Vec F S128x1024 .bf16) (x10 : Vec F S1x128 .f32) (x11 : Vec F S3x1024 .f32) (x12 : Vec F S1x256 .f32) (x13 : Vec F S1024x256 .bf16) (x14 : Vec F S1x128 .f32) (x15 : Vec F S128x1024 .bf16) (x16 : Vec F S640x128 .bf16) (x17 : Vec F S640x256 .f32) (x18 : Vec F S16x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare (out0_19 i ⟨x0, x1, x2, x3, x4, x5, x6, x7, x8, x9, x10, x11, x12, x13, x14, x15, x16, x17, x18⟩) ∗ owns (c : Thread nD τ) arg22 fullShare (out0_20 i ⟨x0, x1, x2, x3, x4, x5, x6, x7, x8, x9, x10, x11, x12, x13, x14, x15, x16, x17, x18⟩) ∗ owns (c : Thread nD τ) arg23 fullShare (out0_21 i ⟨x0, x1, x2, x3, x4, x5, x6, x7, x8, x9, x10, x11, x12, x13, x14, x15, x16, x17, x18⟩) ∗ owns (c : Thread nD τ) arg24 fullShare (out0_22 i ⟨x0, x1, x2, x3, x4, x5, x6, x7, x8, x9, x10, x11, x12, x13, x14, x15, x16, x17, x18⟩) ∗ owns (c : Thread nD τ) arg25 fullShare (out0_23 i ⟨x0, x1, x2, x3, x4, x5, x6, x7, x8, x9, x10, x11, x12, x13, x14, x15, x16, x17, x18⟩) ∗ owns (c : Thread nD τ) arg26 fullShare (out0_24 i ⟨x0, x1, x2, x3, x4, x5, x6, x7, x8, x9, x10, x11, x12, x13, x14, x15, x16, x17, x18⟩) ∗ owns (c : Thread nD τ) arg27 fullShare (out0_25 i ⟨x0, x1, x2, x3, x4, x5, x6, x7, x8, x9, x10, x11, x12, x13, x14, x15, x16, x17, x18⟩) ∗ owns (c : Thread nD τ) arg28 fullShare (out0_26 i ⟨x0, x1, x2, x3, x4, x5, x6, x7, x8, x9, x10, x11, x12, x13, x14, x15, x16, x17, x18⟩) ∗ owns (c : Thread nD τ) arg29 fullShare (out0_27 i ⟨x0, x1, x2, x3, x4, x5, x6, x7, x8, x9, x10, x11, x12, x13, x14, x15, x16, x17, x18⟩)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _ _)).trans ?_
    rfl
  isplitl [H23]
  · iexists _; isplitr
    swap; · iexact H23
    ipureintro
    refine (View.read_writes_eq_canon _ _ _ (cover0_23 _ _)).trans ?_
    rfl
  isplitl [H24]
  · iexists _; isplitr
    swap; · iexact H24
    ipureintro
    refine (View.read_writes_eq_canon _ _ _ (cover0_24 _ _)).trans ?_
    rfl
  isplitl [H25]
  · iexists _; isplitr
    swap; · iexact H25
    ipureintro
    refine (View.read_writes_eq_canon _ _ _ (cover0_25 _ _ _ _ _ _ _ _ _ _ _ _ _ _ _ _)).trans ?_
    rfl
  isplitl [H26]
  · iexists _; isplitr
    swap; · iexact H26
    ipureintro
    refine (View.read_writes_eq_canon _ _ _ (cover0_26 _ _ _ _ _ _ _ _ _ _ _ _ _ _ _ _)).trans ?_
    rfl
  iexists _; isplitr
  swap; · iexact H27
  ipureintro
  refine (View.read_writes_eq_canon _ _ _ (cover0_27 _ _)).trans ?_
  rfl

set_option maxHeartbeats 8000000 in
/-- The body at any point: the inputs hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The run ends with every counter at zero and every argument array unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Kernel5Ideal.Gen

end
-- ==== Proof.Inproj.Printed.lean ====
module

public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Defs
public import proofs.«01_k».proof.Proof.Inproj.Frame

@[expose] public section

set_option maxRecDepth 16384
set_option maxHeartbeats 2000000

noncomputable section

open Idealize.ShloMosaic Idealize.ShloMosaic.TcCoe Idealize.SL.Sem

/-! # The kernel's own frame

No operation of the fifth program is replaced, so the kernel and its idealization are one text. The frame, proved of the
text at any instance, is the kernel's at the machine's. -/

namespace Cert.Kernel5.Inproj

/-- The two programs' body tables are one. -/
theorem bodies : (Kernel5Ideal.defs₀ (F := Bits) : Defs Kernel5.nD Kernel5.τ Kernel5.sig (Elt Bits) Kernel5.Λ₀) = Kernel5.defs₀ (F := Bits) := by
  unfold Kernel5Ideal.defs₀ Kernel5.defs₀
  refine congrArg (Defs.onTc (nD := Kernel5.nD) (τ := Kernel5.τ) (sig := Kernel5.sig) (Λ := Kernel5.Λ₀)) ?_
  funext l x
  match l, x with
  | 0, (t, s) => rfl

/-- The same with the pipelines' bodies. -/
theorem tables : (Kernel5Ideal.defs (F := Bits) : Defs Kernel5.nD Kernel5.τ Kernel5.sig (Elt Bits) (Pipeline.Sig Kernel5.Λ₀ (Fin 1) fun p => (Kernel5.pcfgs (F := Bits) p).Adm))
    = Kernel5.defs (F := Bits) :=
  congrArg (Pipeline.defs (Kernel5.pcfgs (F := Bits))) bodies

/-- A run's statement with an equal body table. -/
theorem run_of_eq {nD : Nat} {τ : Topo} {sig : RefSig} {Val : EltTy → Type} {Λ : Labels} {D D' : Defs nD τ sig Val Λ} (h : D = D') {p s Q} (hr : θ_run D p s Q) : θ_run D' p s Q := h ▸ hr

/-- The kernel ends with every argument kept and every counter at zero. -/
theorem frame : Cert.quiescent_Kernel5 := fun m ρ _ => run_of_eq tables (Cert.Kernel5Ideal.Gen.frame (F := Bits) m ρ)

end Cert.Kernel5.Inproj

end
-- ==== Proof.Inproj.Parts.lean ====
module

public import proofs.«01_k».proof.Proof.Post.Rows
public import proofs.«01_k».proof.Proof.Gen.Kernel5Ideal.Skeleton

@[expose] public section

set_option maxRecDepth 16384

noncomputable section

open Idealize.ShloMosaic

/-! # The pieces of one tile's arithmetic, at an index -/

namespace Cert.Rows

/-- A number times its logistic. -/
def sil (x : EReal) : EReal := x * lgs x

/-- The factor of the keys. -/
def ck : EReal := Ideal.ofBits .f32 0x3DB504F3#32

/-- The convolution of three neighbouring tokens' values at one channel. -/
def cv (p q n a b c : EReal) : EReal := p * a + q * b + n * c

end Cert.Rows

namespace Cert.Kernel5Ideal.Inproj

open Cert.Kernel5Ideal Cert.Kernel5Ideal.Gen Cert.Rows

/-- A token's row over its root mean square, times the gain. -/
theorem pay4_apply (g : FVec Ideal S1x1024 .f32) (x : FVec Ideal S1x512x1024 .f32) (r : Fin 512) (k : Fin 1024) :
    k0_pay4 (F := Ideal) g x (ix2 r k) = rms c1024 (fun k => x (ix3 0 r k)) (fun k => g (ix2 0 k)) k := by
  pointwise [k0_pay4, k0_pay3, rms, c1024, eps]

/-- Whether a condition holds, as a number. -/
def flag (b : BitVec 1) : EReal := Scalar.sitofp (F := Ideal) .f32 (Scalar.extui b : BitVec 32)

/-- A signed word's value, as a number. -/
theorem sitofp_eq (b : BitVec 32) : FloatOps.sitofp (F := Ideal) .f32 b = ((b.toInt : ℝ) : EReal) := rfl

/-- The word zero as a number. -/
theorem sitofp_0 : FloatOps.sitofp (F := Ideal) .f32 (0#32 : BitVec 32) = (0 : EReal) := by
  rw [sitofp_eq]
  simp

/-- A condition that fails counts as 0. -/
theorem flag_0 : flag 0#1 = 0 := by
  refine (sitofp_eq (Scalar.extui 0#1 : BitVec 32)).trans ?_
  rw [show (Scalar.extui 0#1 : BitVec 32).toInt = 0 by decide +kernel]
  simp

/-- A condition that holds counts as 1. -/
theorem flag_1 : flag 1#1 = 1 := by
  refine (sitofp_eq (Scalar.extui 1#1 : BitVec 32)).trans ?_
  rw [show (Scalar.extui 1#1 : BitVec 32).toInt = 1 by decide +kernel]
  simp

/-- A row of the tokens before the tile, normalised, or nothing. -/
theorem pay5_apply (i : grid0.Coords) (g : FVec Ideal S1x1024 .f32) (x : FVec Ideal S1x8x1024 .f32) (r : Fin 8) (k : Fin 1024) :
    k0_pay5 (F := Ideal) i g x (ix2 r k) = rms c1024 (fun k => x (ix3 0 r k)) (fun k => g (ix2 0 k)) k
      * flag (Scalar.cmpi .sgt (BitVec.ofNat 32 (i 1).val) 0#32) := by
  unfold k0_pay5 flag
  generalize Scalar.sitofp (F := Ideal) .f32 (Scalar.extui (Scalar.cmpi .sgt (BitVec.ofNat 32 (i 1).val) 0#32) : BitVec 32) = b
  pointwise [k0_pay3, rms, c1024, eps]

/-- A row of the tokens after the tile, normalised, or nothing. -/
theorem pay8_apply (a : BitVec 32) (g : FVec Ideal S1x1024 .f32) (x : FVec Ideal S1x8x1024 .f32) (r : Fin 8) (k : Fin 1024) :
    k0_pay8 (F := Ideal) a (k0_pay3 g) (k0_pay6 x) (k0_pay7 x) (ix2 r k) = rms c1024 (fun k => x (ix3 0 r k)) (fun k => g (ix2 0 k)) k
      * flag (Scalar.cmpi .slt a 7#32) := by
  unfold k0_pay8 flag
  generalize Scalar.sitofp (F := Ideal) .f32 (Scalar.extui (Scalar.cmpi .slt a 7#32) : BitVec 32) = b
  pointwise [k0_pay3, k0_pay6, k0_pay7, rms, c1024, eps]

/-- The gate's block, first half. -/
theorem pay15_apply (n : FVec Ideal S512x1024 .bf16) (w : FVec Ideal S1024x512 .bf16) (r : Fin 256) (j : Fin 512) :
    k0_pay15 (F := Ideal) (k0_pay10 n) w (ix3 0 r j) = mv (fun k => n (ix2 ⟨0 + r.val, by omega⟩ k)) (fun k j => w (ix2 k j)) j := by
  pointwise [k0_pay15, k0_pay10, mv]

/-- The gate's block, second half. -/
theorem pay29_apply (n : FVec Ideal S512x1024 .bf16) (w : FVec Ideal S1024x512 .bf16) (r : Fin 256) (j : Fin 512) :
    k0_pay29 (F := Ideal) (k0_pay28 n w) (ix3 0 r j) = mv (fun k => n (ix2 ⟨256 + r.val, by omega⟩ k)) (fun k j => w (ix2 k j)) j := by
  pointwise [k0_pay29, k0_pay28, k0_pay24, mv]

/-- The values' block, first half: the product is taken weight first. -/
theorem pay37_apply (n : FVec Ideal S512x1024 .bf16) (w : FVec Ideal S512x1024 .bf16) (j : Fin 512) (r : Fin 256) :
    k0_pay37 (F := Ideal) (k0_pay14 (k0_pay10 n) (k0_pay13 w)) (ix3 0 j r)
      = ∑ k : Fin 1024, w (ix2 j k) * n (ix2 ⟨0 + r.val, by omega⟩ k) := by
  pointwise [k0_pay37, k0_pay14, k0_pay10, k0_pay13]

/-- The values' block, second half. -/
theorem pay109_apply (n : FVec Ideal S512x1024 .bf16) (w : FVec Ideal S512x1024 .bf16) (j : Fin 512) (r : Fin 256) :
    k0_pay109 (F := Ideal) (k0_pay27 n w) (ix3 0 j r)
      = ∑ k : Fin 1024, w (ix2 j k) * n (ix2 ⟨256 + r.val, by omega⟩ k) := by
  pointwise [k0_pay109, k0_pay27, k0_pay24]

end Cert.Kernel5Ideal.Inproj
-- ==== Proof.Inproj.Conv.lean ====
module

public import proofs.«01_k».proof.Proof.Inproj.Parts

@[expose] public section

set_option maxRecDepth 16384

noncomputable section

open Idealize.ShloMosaic

/-! # The convolution of one half of a tile, at an index -/

namespace Cert.Kernel5Ideal.Inproj

open Cert.Kernel5Ideal Cert.Kernel5Ideal.Gen Cert.Rows

/-- The 272 rows of the first half: 8 from before the tile, 256 of it, 8 more of it. -/
def rowsA (n : FVec Ideal S512x1024 .bf16) (h : FVec Ideal S8x1024 .bf16) (r : Fin 272) (k : Fin 1024) : EReal :=
  if p : r.val < 8 then h (ix2 ⟨r.val, p⟩ k) else n (ix2 ⟨r.val - 8, by omega⟩ k)

/-- The 272 rows of the second half: 264 of the tile, 8 from after it. -/
def rowsB (n : FVec Ideal S512x1024 .bf16) (h : FVec Ideal S8x1024 .bf16) (r : Fin 272) (k : Fin 1024) : EReal :=
  if p : r.val < 264 then n (ix2 ⟨248 + r.val, by omega⟩ k) else h (ix2 ⟨r.val - 264, by omega⟩ k)

/-- The products of the first half's rows. -/
theorem pay11_apply (n : FVec Ideal S512x1024 .bf16) (h : FVec Ideal S8x1024 .bf16) (w : FVec Ideal S1024x1024 .bf16) (r : Fin 272) (j : Fin 1024) :
    k0_pay11 (F := Ideal) n h w (ix2 r j) = mv (rowsA n h r) (fun k j => w (ix2 k j)) j := by
  unfold k0_pay11
  have hc : ∀ k : Fin 1024, (concatenate S272x1024 0 [⟨S8x1024, h⟩, ⟨S256x1024, k0_pay10 n⟩, ⟨S8x1024, extractStridedSlice S8x1024 ![256, 0] n slices_S512x1024_o256_0_S8x1024⟩]
      concatenates_S8x1024_S256x1024_S8x1024_S272x1024_d0 : FVec Ideal S272x1024 .bf16) (ix2 r k) = rowsA n h r k := by
    intro k
    unfold rowsA
    pointwise [k0_pay10]
    split
    · rfl
    · split
      · rfl
      · congr 2
        ext
        simp only []
        omega
  revert hc
  generalize (concatenate S272x1024 0 [⟨S8x1024, h⟩, ⟨S256x1024, k0_pay10 n⟩, ⟨S8x1024, extractStridedSlice S8x1024 ![256, 0] n slices_S512x1024_o256_0_S8x1024⟩]
      concatenates_S8x1024_S256x1024_S8x1024_S272x1024_d0 : FVec Ideal S272x1024 .bf16) = C
  intro hc
  unfold mv
  simp only [← hc]
  pointwise

/-- The products of the second half's rows. -/
theorem pay25_apply (n : FVec Ideal S512x1024 .bf16) (h : FVec Ideal S8x1024 .bf16) (w : FVec Ideal S1024x1024 .bf16) (r : Fin 272) (j : Fin 1024) :
    k0_pay25 (F := Ideal) n h w (ix2 r j) = mv (rowsB n h r) (fun k j => w (ix2 k j)) j := by
  unfold k0_pay25
  have hc : ∀ k : Fin 1024, (concatenate S272x1024 0 [⟨S8x1024, extractStridedSlice S8x1024 ![248, 0] n slices_S512x1024_o248_0_S8x1024⟩, ⟨S256x1024, k0_pay24 n⟩, ⟨S8x1024, h⟩]
      concatenates_S8x1024_S256x1024_S8x1024_S272x1024_d0 : FVec Ideal S272x1024 .bf16) (ix2 r k) = rowsB n h r k := by
    intro k
    unfold rowsB
    pointwise [k0_pay24]
    split
    · rw [dif_pos (show r.val < 264 by omega)]
    · split
      · rw [dif_pos (show r.val < 264 by omega)]
        exact congrArg (fun a => n (ix2 a k)) (Fin.ext (by show 256 + (r.val - 8) = 248 + r.val; omega))
      · rw [dif_neg (show ¬ r.val < 264 by omega)]
        exact congrArg (fun a => h (ix2 a k)) (Fin.ext (by show r.val - 8 - 256 = r.val - 264; omega))
  revert hc
  generalize (concatenate S272x1024 0 [⟨S8x1024, extractStridedSlice S8x1024 ![248, 0] n slices_S512x1024_o248_0_S8x1024⟩, ⟨S256x1024, k0_pay24 n⟩, ⟨S8x1024, h⟩]
      concatenates_S8x1024_S256x1024_S8x1024_S272x1024_d0 : FVec Ideal S272x1024 .bf16) = C
  intro hc
  unfold mv
  simp only [← hc]
  pointwise

/-- The convolution and its gate, at an index. -/
theorem pay38_apply (cw : FVec Ideal S3x1024 .f32) (p : FVec Ideal S272x1024 .f32) (r : Fin 256) (j : Fin 1024) :
    k0_pay38 (F := Ideal) cw p (ix2 r j) = sil (cv (p (ix2 ⟨7 + r.val, by omega⟩ j)) (p (ix2 ⟨8 + r.val, by omega⟩ j)) (p (ix2 ⟨9 + r.val, by omega⟩ j))
      (cw (ix2 0 j)) (cw (ix2 1 j)) (cw (ix2 2 j))) := by
  have e1 : (⟨7 + r.val, by omega⟩ : Fin 272) = ⟨(8 + r.val + 272 - 1) % 272, by omega⟩ := by ext; simp only []; omega
  have e2 : (⟨9 + r.val, by omega⟩ : Fin 272) = ⟨(8 + r.val + 272 - 271) % 272, by omega⟩ := by ext; simp only []; omega
  rw [e1, e2]
  pointwise [k0_pay38, sil, lgs, cv, zero_sub]

/-- The convolution of the second half. -/
theorem pay110_apply (cw : FVec Ideal S3x1024 .f32) (p : FVec Ideal S272x1024 .f32) (r : Fin 256) (j : Fin 1024) :
    k0_pay110 (F := Ideal) cw p (ix2 r j) = cv (p (ix2 ⟨7 + r.val, by omega⟩ j)) (p (ix2 ⟨8 + r.val, by omega⟩ j)) (p (ix2 ⟨9 + r.val, by omega⟩ j))
      (cw (ix2 0 j)) (cw (ix2 1 j)) (cw (ix2 2 j)) := by
  have e1 : (⟨7 + r.val, by omega⟩ : Fin 272) = ⟨(8 + r.val + 272 - 1) % 272, by omega⟩ := by ext; simp only []; omega
  have e2 : (⟨9 + r.val, by omega⟩ : Fin 272) = ⟨(8 + r.val + 272 - 271) % 272, by omega⟩ := by ext; simp only []; omega
  rw [e1, e2]
  pointwise [k0_pay110, cv]

/-- The logistic of the second half's convolution. -/
theorem pay111_apply (cw : FVec Ideal S3x1024 .f32) (p : FVec Ideal S272x1024 .f32) (r : Fin 256) (j : Fin 1024) :
    k0_pay111 (F := Ideal) cw p (ix2 r j) = lgs (k0_pay110 (F := Ideal) cw p (ix2 r j)) := by
  unfold k0_pay111
  generalize k0_pay110 (F := Ideal) cw p = q
  pointwise [lgs, zero_sub]

/-- The queries' block, first half. -/
theorem pay40_apply (cw : FVec Ideal S3x1024 .f32) (p : FVec Ideal S272x1024 .f32) (j : Fin 512) (r : Fin 256) :
    k0_pay40 (F := Ideal) (k0_pay39 cw p) (ix3 0 j r) = k0_pay38 (F := Ideal) cw p (ix2 r ⟨0 + j.val, by omega⟩) := by
  unfold k0_pay39
  generalize k0_pay38 (F := Ideal) cw p = q
  pointwise [k0_pay40]

/-- The keys' block, first half. -/
theorem pay41_apply (q : FVec Ideal S256x1024 .f32) (r : Fin 256) (j : Fin 512) :
    k0_pay41 (F := Ideal) q (ix3 0 r j) = q (ix2 r ⟨512 + j.val, by omega⟩) * ck := by
  pointwise [k0_pay41, ck]

/-- The queries' block, second half. -/
theorem pay113_apply (cw : FVec Ideal S3x1024 .f32) (p : FVec Ideal S272x1024 .f32) (j : Fin 512) (r : Fin 256) :
    k0_pay113 (F := Ideal) (k0_pay110 cw p) (k0_pay111 cw p) (ix3 0 j r) = sil (k0_pay110 (F := Ideal) cw p (ix2 r ⟨0 + j.val, by omega⟩)) := by
  have h := pay111_apply cw p r ⟨0 + j.val, by omega⟩
  revert h
  generalize k0_pay110 (F := Ideal) cw p = u
  generalize k0_pay111 (F := Ideal) cw p = v
  intro h
  unfold sil
  rw [← h]
  pointwise [k0_pay113, k0_pay112]

/-- The keys' block, second half. -/
theorem pay114_apply (cw : FVec Ideal S3x1024 .f32) (p : FVec Ideal S272x1024 .f32) (r : Fin 256) (j : Fin 512) :
    k0_pay114 (F := Ideal) (k0_pay110 cw p) (k0_pay111 cw p) (ix3 0 r j) = sil (k0_pay110 (F := Ideal) cw p (ix2 r ⟨512 + j.val, by omega⟩)) * ck := by
  have h := pay111_apply cw p r ⟨512 + j.val, by omega⟩
  revert h
  generalize k0_pay110 (F := Ideal) cw p = u
  generalize k0_pay111 (F := Ideal) cw p = v
  intro h
  unfold sil
  rw [← h]
  pointwise [k0_pay114, k0_pay112, ck]

/-- A tile's rows with one before (row 0) and one after (row 513). -/
def erow (n : FVec Ideal S512x1024 .bf16) (h1 h2 : FVec Ideal S8x1024 .bf16) (e : Fin 514) (k : Fin 1024) : EReal :=
  if e.val = 0 then h1 (ix2 7 k) else if p : e.val ≤ 512 then n (ix2 ⟨e.val - 1, by omega⟩ k) else h2 (ix2 0 k)

/-- The first half's rows among them. -/
theorem rowsA_eq (n : FVec Ideal S512x1024 .bf16) (h1 h2 : FVec Ideal S8x1024 .bf16) (u : Fin 272) (e : Fin 514) (hu : u.val = 7 + e.val) (he : e.val < 258) :
    rowsA n h1 u = erow n h1 h2 e := by
  funext k
  unfold rowsA erow
  split
  · rw [if_pos (by omega)]
    exact congrArg (fun a => h1 (ix2 a k)) (Fin.ext (by show u.val = 7; omega))
  · rw [if_neg (by omega), dif_pos (by omega)]
    exact congrArg (fun a => n (ix2 a k)) (Fin.ext (by show u.val - 8 = e.val - 1; omega))

/-- The second half's rows among them. -/
theorem rowsB_eq (n : FVec Ideal S512x1024 .bf16) (h1 h2 : FVec Ideal S8x1024 .bf16) (u : Fin 272) (e : Fin 514) (hu : u.val + 249 = e.val) (he : 256 ≤ e.val) :
    rowsB n h2 u = erow n h1 h2 e := by
  funext k
  unfold rowsB erow
  split
  · rw [if_neg (by omega), dif_pos (by omega)]
    exact congrArg (fun a => n (ix2 a k)) (Fin.ext (by show 248 + u.val = e.val - 1; omega))
  · rw [if_neg (by omega), dif_neg (by omega)]
    exact congrArg (fun a => h2 (ix2 a k)) (Fin.ext (by show u.val - 264 = 0; omega))

/-- The convolution at a row of the tile. -/
def cvr (R : Fin 514 → Fin 1024 → EReal) (w : Fin 1024 → Fin 1024 → EReal) (cw : Fin 3 → Fin 1024 → EReal) (r : Fin 512) (j : Fin 1024) : EReal :=
  cv (mv (R ⟨r.val, by omega⟩) w j) (mv (R ⟨r.val + 1, by omega⟩) w j) (mv (R ⟨r.val + 2, by omega⟩) w j) (cw 0 j) (cw 1 j) (cw 2 j)

/-- The convolution of the first half is the tile's. -/
theorem halfA (n : FVec Ideal S512x1024 .bf16) (h1 h2 : FVec Ideal S8x1024 .bf16) (w : FVec Ideal S1024x1024 .bf16) (cw : FVec Ideal S3x1024 .f32) (r : Fin 256) (j : Fin 1024)
    (s : Fin 512) (hs : s.val = r.val) :
    k0_pay38 (F := Ideal) cw (k0_pay11 n h1 w) (ix2 r j) = sil (cvr (erow n h1 h2) (fun k j => w (ix2 k j)) (fun a j => cw (ix2 a j)) s j) := by
  rw [pay38_apply, pay11_apply, pay11_apply, pay11_apply,
    rowsA_eq n h1 h2 _ ⟨s.val, by omega⟩ (by show 7 + r.val = 7 + s.val; omega) (by show s.val < 258; omega),
    rowsA_eq n h1 h2 _ ⟨s.val + 1, by omega⟩ (by show 8 + r.val = 7 + (s.val + 1); omega) (by show s.val + 1 < 258; omega),
    rowsA_eq n h1 h2 _ ⟨s.val + 2, by omega⟩ (by show 9 + r.val = 7 + (s.val + 2); omega) (by show s.val + 2 < 258; omega)]
  rfl

/-- The convolution of the second half is the tile's. -/
theorem halfB (n : FVec Ideal S512x1024 .bf16) (h1 h2 : FVec Ideal S8x1024 .bf16) (w : FVec Ideal S1024x1024 .bf16) (cw : FVec Ideal S3x1024 .f32) (r : Fin 256) (j : Fin 1024)
    (s : Fin 512) (hs : s.val = 256 + r.val) :
    k0_pay110 (F := Ideal) cw (k0_pay25 n h2 w) (ix2 r j) = cvr (erow n h1 h2) (fun k j => w (ix2 k j)) (fun a j => cw (ix2 a j)) s j := by
  rw [pay110_apply, pay25_apply, pay25_apply, pay25_apply,
    rowsB_eq n h1 h2 _ ⟨s.val, by omega⟩ (by show 7 + r.val + 249 = s.val; omega) (by show 256 ≤ s.val; omega),
    rowsB_eq n h1 h2 _ ⟨s.val + 1, by omega⟩ (by show 8 + r.val + 249 = s.val + 1; omega) (by show 256 ≤ s.val + 1; omega),
    rowsB_eq n h1 h2 _ ⟨s.val + 2, by omega⟩ (by show 9 + r.val + 249 = s.val + 2; omega) (by show 256 ≤ s.val + 2; omega)]
  rfl

end Cert.Kernel5Ideal.Inproj
-- ==== Proof.Inproj.Step.lean ====
module

public import proofs.«01_k».proof.Proof.Inproj.Conv
public import proofs.«01_k».proof.Proof.Inproj.Vals
public import Idealize.ShloMosaic.Lib.Pipeline.ReadBack

@[expose] public section

set_option maxRecDepth 16384

noncomputable section

open Idealize.ShloMosaic

/-! # What one grid point leaves in its four blocks -/

namespace Cert.Kernel5Ideal.Inproj

open Cert.Kernel5Ideal Cert.Kernel5Ideal.Gen Cert.Rows

/-- A block loaded whole. -/
theorem ld_gain (x : FVec Ideal S1x1024 .f32) : View.ld (Val := Elt Ideal) (e' := .f32) x r0_0 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega

/-- A block loaded whole. -/
theorem ld_tile (x : FVec Ideal S1x512x1024 .f32) : View.ld (Val := Elt Ideal) (e' := .f32) x r0_1 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A block loaded whole. -/
theorem ld_halo (x : FVec Ideal S1x8x1024 .f32) : View.ld (Val := Elt Ideal) (e' := .f32) x r0_2 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A block loaded whole. -/
theorem ld_conv (x : FVec Ideal S3x1024 .f32) : View.ld (Val := Elt Ideal) (e' := .f32) x r0_3 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega

/-- A block loaded whole. -/
theorem ld_wqk (x : FVec Ideal S1024x1024 .bf16) : View.ld (Val := Elt Ideal) (e' := .bf16) x r0_4 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega

/-- A block loaded whole. -/
theorem ld_wo (x : FVec Ideal S1024x512 .bf16) : View.ld (Val := Elt Ideal) (e' := .bf16) x r0_5 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega

/-- A block loaded whole. -/
theorem ld_wv (x : FVec Ideal S512x1024 .bf16) : View.ld (Val := Elt Ideal) (e' := .bf16) x r0_6 = x := by
  funext y; rw [View.ld_apply]; refine congrArg x (funext fun a => Fin.ext ?_)
  match a with
  | ⟨0, _⟩ => show 0 + 1 * (y 0).val = (y 0).val; omega
  | ⟨1, _⟩ => show 0 + 1 * (y 1).val = (y 1).val; omega

/-- A tile's row, normalised. -/
def trow (x : Ins Ideal) (r : Fin 512) : Fin 1024 → EReal := rms c1024 (fun k => x.x0 (ix3 0 r k)) (fun k => x.x4 (ix2 0 k))

/-- Whether there are tokens before the tile. -/
def flagP (i : grid0.Coords) : EReal := flag (Scalar.cmpi .sgt (BitVec.ofNat 32 (i 1).val) 0#32)

/-- Whether there are tokens after the tile. -/
def flagN (i : grid0.Coords) : EReal := flag (Scalar.cmpi .slt (BitVec.ofNat 32 (i 1).val) 7#32)

/-- A tile's rows with one before and one after. -/
def xrow (i : grid0.Coords) (x : Ins Ideal) (e : Fin 514) (k : Fin 1024) : EReal :=
  if e.val = 0 then rms c1024 (fun k => x.x1 (ix3 0 7 k)) (fun k => x.x4 (ix2 0 k)) k * flagP i
  else if p : e.val ≤ 512 then trow x ⟨e.val - 1, by omega⟩ k
  else rms c1024 (fun k => x.x2 (ix3 0 0 k)) (fun k => x.x4 (ix2 0 k)) k * flagN i

/-- The convolution at a row of a point's tile. -/
def crow (i : grid0.Coords) (x : Ins Ideal) (r : Fin 512) (j : Fin 1024) : EReal :=
  cvr (xrow i x) (fun k j => x.x5 (ix2 k j)) (fun a j => x.x11 (ix2 a j)) r j

/-- The body's normalised tile. -/
theorem p153 (i : grid0.Coords) (x : Ins Ideal) (r : Fin 512) (k : Fin 1024) : k0_pay153 i x (ix2 r k) = trow x r k := by
  unfold k0_pay153
  rw [ld_gain, ld_tile, pay4_apply]
  rfl

/-- The body's rows are these. -/
theorem erow_eq (i : grid0.Coords) (x : Ins Ideal) :
    erow (k0_pay153 i x) (k0_pay5 i (View.ld x.x4 r0_0) (View.ld x.x1 r0_2))
      (k0_pay8 (BitVec.ofNat 32 (i 1).val) (k0_pay3 (View.ld x.x4 r0_0)) (k0_pay6 (View.ld x.x2 r0_2)) (k0_pay7 (View.ld x.x2 r0_2))) = xrow i x := by
  funext e k
  rw [ld_gain, ld_halo, ld_halo]
  unfold erow xrow
  simp only [p153, pay5_apply, pay8_apply]
  rfl

/-- The first half's convolution, gated. -/
theorem lo38 (i : grid0.Coords) (x : Ins Ideal) (r : Fin 256) (j : Fin 1024) (s : Fin 512) (hs : s.val = r.val) :
    k0_pay38 (View.ld x.x11 r0_3) (k0_pay158 i x) (ix2 r j) = sil (crow i x s j) := by
  unfold k0_pay158
  rw [halfA _ _ (k0_pay8 (BitVec.ofNat 32 (i 1).val) (k0_pay3 (View.ld x.x4 r0_0)) (k0_pay6 (View.ld x.x2 r0_2)) (k0_pay7 (View.ld x.x2 r0_2))) _ _ r j s hs, erow_eq,
    ld_conv, ld_wqk]
  rfl

/-- The second half's convolution. -/
theorem hi110 (i : grid0.Coords) (x : Ins Ideal) (r : Fin 256) (j : Fin 1024) (s : Fin 512) (hs : s.val = 256 + r.val) :
    k0_pay110 (View.ld x.x11 r0_3) (k0_pay165 i x) (ix2 r j) = crow i x s j := by
  unfold k0_pay165
  rw [halfB _ (k0_pay5 i (View.ld x.x4 r0_0) (View.ld x.x1 r0_2)) _ _ _ r j s hs, erow_eq, ld_conv, ld_wqk]
  rfl

/-- The gate's block at an index. -/
def F22 (x : Ins Ideal) (y : S1x512x512.Idx) : Elt Ideal .f32 := mv (trow x (y 1)) (fun k j => x.x7 (ix2 k j)) (y 2)

/-- The values' block at an index. -/
def F21 (x : Ins Ideal) (y : S1x512x512.Idx) : Elt Ideal .bf16 := ∑ k : Fin 1024, x.x6 (ix2 (y 1) k) * trow x (y 2) k

/-- The queries' block at an index. -/
def F19 (i : grid0.Coords) (x : Ins Ideal) (y : S1x512x512.Idx) : Elt Ideal .bf16 := sil (crow i x (y 2) ⟨0 + (y 1).val, by have : (y 1).val < 512 := (y 1).isLt; omega⟩)

/-- The keys' block at an index. -/
def F20 (i : grid0.Coords) (x : Ins Ideal) (y : S1x512x512.Idx) : Elt Ideal .bf16 :=
  sil (crow i x (y 1) ⟨512 + (y 2).val, by have : (y 2).val < 512 := (y 2).isLt; omega⟩) * ck

/-- The gate's block. -/
theorem out22 (i : grid0.Coords) (x : Ins Ideal) (y : S1x512x512.Idx) : out0_22 (F := Ideal) i x y = F22 x y := by
  unfold out0_22
  refine (View.canon_append_of_piecesOf (Val := Elt Ideal) (s := S1x512x512) (e := .f32) (F22 x) [] [_, _]
    ⟨fun z => ?_, fun z => ?_, trivial⟩ y (cover0_22 _ _ y))
  · idx_vars z
    obtain rfl : z0 = 0 := Subsingleton.elim _ _
    rw [ld_wo]
    refine (pay29_apply _ _ _ _).trans ?_
    simp only [p153]
    exact congrArg₂ (fun R j => mv (trow x R) (fun k j => x.x7 (ix2 k j)) j) (Fin.ext (by show 256 + z1.val = 256 + 1 * z1.val; omega)) (Fin.ext (by show z2.val = 0 + 1 * z2.val; omega))
  · idx_vars z
    obtain rfl : z0 = 0 := Subsingleton.elim _ _
    unfold k0_pay157
    rw [ld_wo]
    refine (pay15_apply _ _ _ _).trans ?_
    simp only [p153]
    exact congrArg₂ (fun R j => mv (trow x R) (fun k j => x.x7 (ix2 k j)) j) (Fin.ext (by show 0 + z1.val = 0 + 1 * z1.val; omega)) (Fin.ext (by show z2.val = 0 + 1 * z2.val; omega))

/-- The values' block. -/
theorem out21 (i : grid0.Coords) (x : Ins Ideal) (y : S1x512x512.Idx) : out0_21 (F := Ideal) i x y = F21 x y := by
  unfold out0_21
  refine (View.canon_append_of_piecesOf (Val := Elt Ideal) (s := S1x512x512) (e := .bf16) (F21 x) [] [_, _]
    ⟨fun z => ?_, fun z => ?_, trivial⟩ y (cover0_21 _ _ y))
  · idx_vars z
    obtain rfl : z0 = 0 := Subsingleton.elim _ _
    rw [ld_wv]
    refine (pay109_apply _ _ _ _).trans ?_
    simp only [p153]
    exact congrArg₂ (fun j R => ∑ k : Fin 1024, x.x6 (ix2 j k) * trow x R k) (Fin.ext (by show z1.val = 0 + 1 * z1.val; omega)) (Fin.ext (by show 256 + z2.val = 256 + 1 * z2.val; omega))
  · idx_vars z
    obtain rfl : z0 = 0 := Subsingleton.elim _ _
    unfold k0_pay157
    rw [ld_wv]
    refine (pay37_apply _ _ _ _).trans ?_
    simp only [p153]
    exact congrArg₂ (fun j R => ∑ k : Fin 1024, x.x6 (ix2 j k) * trow x R k) (Fin.ext (by show z1.val = 0 + 1 * z1.val; omega)) (Fin.ext (by show 0 + z2.val = 0 + 1 * z2.val; omega))

/-- The queries' block. -/
theorem out19 (i : grid0.Coords) (x : Ins Ideal) (y : S1x512x512.Idx) : out0_19 (F := Ideal) i x y = F19 i x y := by
  unfold out0_19
  refine (View.canon_append_of_piecesOf (Val := Elt Ideal) (s := S1x512x512) (e := .bf16) (F19 i x) [] [_, _]
    ⟨fun z => ?_, fun z => ?_, trivial⟩ y (cover0_19 _ _ y))
  · idx_vars z
    obtain rfl : z0 = 0 := Subsingleton.elim _ _
    unfold k0_pay187 k0_pay188
    refine (pay113_apply _ _ _ _).trans ?_
    rw [hi110 i x z2 _ ⟨256 + z2.val, by omega⟩ rfl]
    exact congrArg₂ (fun r j => sil (crow i x r j)) (Fin.ext (by show 256 + z2.val = 256 + 1 * z2.val; omega)) (Fin.ext (by show 0 + z1.val = 0 + (0 + 1 * z1.val); omega))
  · idx_vars z
    obtain rfl : z0 = 0 := Subsingleton.elim _ _
    refine (pay40_apply _ _ _ _).trans ?_
    rw [lo38 i x z2 _ ⟨z2.val, by omega⟩ rfl]
    exact congrArg₂ (fun r j => sil (crow i x r j)) (Fin.ext (by show z2.val = 0 + 1 * z2.val; omega)) (Fin.ext (by show 0 + z1.val = 0 + (0 + 1 * z1.val); omega))

/-- The keys' block. -/
theorem out20 (i : grid0.Coords) (x : Ins Ideal) (y : S1x512x512.Idx) : out0_20 (F := Ideal) i x y = F20 i x y := by
  unfold out0_20
  refine (View.canon_append_of_piecesOf (Val := Elt Ideal) (s := S1x512x512) (e := .bf16) (F20 i x) [] [_, _]
    ⟨fun z => ?_, fun z => ?_, trivial⟩ y (cover0_20 _ _ y))
  · idx_vars z
    obtain rfl : z0 = 0 := Subsingleton.elim _ _
    unfold k0_pay187 k0_pay188
    refine (pay114_apply _ _ _ _).trans ?_
    rw [hi110 i x z1 _ ⟨256 + z1.val, by omega⟩ rfl]
    exact congrArg₂ (fun r j => sil (crow i x r j) * ck) (Fin.ext (by show 256 + z1.val = 256 + 1 * z1.val; omega)) (Fin.ext (by show 512 + z2.val = 512 + (0 + 1 * z2.val); omega))
  · idx_vars z
    obtain rfl : z0 = 0 := Subsingleton.elim _ _
    refine (pay41_apply _ _ _).trans ?_
    rw [lo38 i x z1 _ ⟨z1.val, by omega⟩ rfl]
    exact congrArg₂ (fun r j => sil (crow i x r j) * ck) (Fin.ext (by show z1.val = 0 + 1 * z1.val; omega)) (Fin.ext (by show 512 + z2.val = 512 + (0 + 1 * z2.val); omega))

end Cert.Kernel5Ideal.Inproj
-- ==== Proof.Inproj.Ref.lean ====
module

public import proofs.«01_k».proof.Proof.Post.Rows
public import proofs.«01_k».proof.Proof.Inproj.Parts
public import proofs.«01_k».proof.Proof.Gen.Reference5Ideal.Read

@[expose] public section

set_option maxRecDepth 16384

noncomputable section

open Idealize.ShloMosaic

/-! # The reference's values at an index -/

namespace Cert.Reference5Ideal.Inproj

open Cert.Reference5Ideal Cert.Reference5Ideal.Read Cert.Rows

/-- A token's normalised row. -/
def nrow (x : FVec Ideal S4x4096x1024 .f32) (g : FVec Ideal S1024 .f32) (b : Fin 4) (s : Fin 4096) : Fin 1024 → EReal :=
  rms c1024 (fun i => x (ix3 b s i)) (fun i => g (ix1 i))

/-- One of a token's projections. -/
def prj (x : FVec Ideal S4x4096x1024 .f32) (g : FVec Ideal S1024 .f32) (w : FVec Ideal S1024x2480 .f32) (b : Fin 4) (s : Fin 4096) (j : Fin 2480) : EReal :=
  mv (nrow x g b s) (fun i j => w (ix2 i j)) j

/-- The normalised row. -/
theorem v12_eq (x : FVec Ideal S4x4096x1024 .f32) (g : FVec Ideal S1024 .f32) (b : Fin 4) (s : Fin 4096) (i : Fin 1024) :
    val_main_v12 (F := Ideal) x g (ix3 b s i) = nrow x g b s i := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, nrow, rms, c1024, eps]

/-- The projections. -/
theorem v13_eq (x : FVec Ideal S4x4096x1024 .f32) (g : FVec Ideal S1024 .f32) (w : FVec Ideal S1024x2480 .f32) (b : Fin 4) (s : Fin 4096) (j : Fin 2480) :
    val_main_v13 (F := Ideal) x g w (ix3 b s j) = prj x g w b s j := by
  unfold prj mv
  simp only [← v12_eq]
  unfold val_main_v13
  generalize val_main_v12 (F := Ideal) x g = n
  pointwise

/-- The projection of the token before, or nothing. -/
theorem v16_eq (x : FVec Ideal S4x4096x1024 .f32) (g : FVec Ideal S1024 .f32) (w : FVec Ideal S1024x2480 .f32) (b : Fin 4) (s : Fin 4096) (j : Fin 1024) :
    val_main_v16 (F := Ideal) x g w (ix3 b s j) = if h : 1 ≤ s.val then prj x g w b ⟨s.val - 1, by omega⟩ ⟨j.val, by omega⟩ else 0 := by
  simp only [← v13_eq]
  unfold val_main_v16 val_main_v15 val_main_v14 val_main_call0_v0 val_main_c
  generalize val_main_v13 (F := Ideal) x g w = n
  pointwise
  split
  · rw [dif_pos (by omega)]
  · rw [dif_neg (by omega)]
    exact Cert.Kernel5Ideal.Inproj.sitofp_0

/-- The token's own projection. -/
theorem v22_eq (x : FVec Ideal S4x4096x1024 .f32) (g : FVec Ideal S1024 .f32) (w : FVec Ideal S1024x2480 .f32) (b : Fin 4) (s : Fin 4096) (j : Fin 1024) :
    val_main_v22 (F := Ideal) x g w (ix3 b s j) = prj x g w b s ⟨j.val, by omega⟩ := by
  simp only [← v13_eq]
  unfold val_main_v22 val_main_v15 val_main_v14 val_main_call0_v0 val_main_c
  generalize val_main_v13 (F := Ideal) x g w = n
  pointwise

/-- The projection of the token after, or nothing. -/
theorem v29_eq (x : FVec Ideal S4x4096x1024 .f32) (g : FVec Ideal S1024 .f32) (w : FVec Ideal S1024x2480 .f32) (b : Fin 4) (s : Fin 4096) (j : Fin 1024) :
    val_main_v29 (F := Ideal) x g w (ix3 b s j) = if h : s.val + 1 < 4096 then prj x g w b ⟨s.val + 1, h⟩ ⟨j.val, by omega⟩ else 0 := by
  simp only [← v13_eq]
  unfold val_main_v29 val_main_v15 val_main_v14 val_main_call0_v0 val_main_c
  generalize val_main_v13 (F := Ideal) x g w = n
  pointwise
  split
  · rw [dif_pos (by omega)]
    exact congrArg (fun a => n (ix3 b a ⟨j.val, by omega⟩)) (Fin.ext (by show 2 + s.val - 1 = s.val + 1; omega))
  · rw [dif_neg (by omega)]
    exact Cert.Kernel5Ideal.Inproj.sitofp_0

/-- The convolution. -/
theorem v35_eq (x : FVec Ideal S4x4096x1024 .f32) (g : FVec Ideal S1024 .f32) (w : FVec Ideal S1024x2480 .f32) (cw : FVec Ideal S3x1024 .f32) (b : Fin 4) (s : Fin 4096) (j : Fin 1024) :
    val_main_v35 (F := Ideal) x g w cw (ix3 b s j) = cv (val_main_v16 (F := Ideal) x g w (ix3 b s j)) (val_main_v22 (F := Ideal) x g w (ix3 b s j))
      (val_main_v29 (F := Ideal) x g w (ix3 b s j)) (cw (ix2 0 j)) (cw (ix2 1 j)) (cw (ix2 2 j)) := by
  unfold val_main_v35 val_main_v34 val_main_v28 val_main_v27 val_main_v21
  generalize val_main_v16 (F := Ideal) x g w = p
  generalize val_main_v22 (F := Ideal) x g w = q
  generalize val_main_v29 (F := Ideal) x g w = r
  pointwise [val_main_v33, val_main_v32, val_main_v31, val_main_v30, val_main_v26, val_main_v25, val_main_v24, val_main_v23,
    val_main_v20, val_main_v19, val_main_v18, val_main_v17, cv]

/-- The activation. -/
theorem v36_eq (x : FVec Ideal S4x4096x1024 .f32) (g : FVec Ideal S1024 .f32) (w : FVec Ideal S1024x2480 .f32) (cw : FVec Ideal S3x1024 .f32) (b : Fin 4) (s : Fin 4096) (j : Fin 1024) :
    val_main_v36 (F := Ideal) x g w cw (ix3 b s j) = sil (val_main_v35 (F := Ideal) x g w cw (ix3 b s j)) := by
  unfold val_main_v36 val_main_call1_v5 val_main_call1_v3 val_main_call1_v1 val_main_call1_v0
  generalize val_main_v35 (F := Ideal) x g w cw = p
  pointwise [val_main_call1_v4, val_main_call1_v2, val_main_call1_cst, val_main_call1_cst_0, sil, lgs]

/-- The gate's result. -/
theorem v42_eq (x : FVec Ideal S4x4096x1024 .f32) (g : FVec Ideal S1024 .f32) (w : FVec Ideal S1024x2480 .f32) (b : Fin 4) (s : Fin 4096) (j : Fin 512) :
    val_main_v42 (F := Ideal) x g w (ix3 b s j) = prj x g w b s ⟨1536 + j.val, by omega⟩ := by
  rw [← v13_eq]
  unfold val_main_v42
  generalize val_main_v13 (F := Ideal) x g w = n
  pointwise

/-- The values' result. -/
theorem v44_eq (x : FVec Ideal S4x4096x1024 .f32) (g : FVec Ideal S1024 .f32) (w : FVec Ideal S1024x2480 .f32) (b : Fin 4) (j : Fin 512) (s : Fin 4096) :
    val_main_v44 (F := Ideal) x g w (ix3 b j s) = prj x g w b s ⟨1024 + j.val, by omega⟩ := by
  rw [← v13_eq]
  unfold val_main_v44 val_main_v43 val_main_v41
  generalize val_main_v13 (F := Ideal) x g w = n
  pointwise

/-- The queries' result. -/
theorem v46_eq (x : FVec Ideal S4x4096x1024 .f32) (g : FVec Ideal S1024 .f32) (w : FVec Ideal S1024x2480 .f32) (cw : FVec Ideal S3x1024 .f32) (b : Fin 4) (j : Fin 512) (s : Fin 4096) :
    val_main_v46 (F := Ideal) x g w cw (ix3 b j s) = val_main_v36 (F := Ideal) x g w cw (ix3 b s ⟨j.val, by omega⟩) := by
  unfold val_main_v46 val_main_v45 val_main_v37
  generalize val_main_v36 (F := Ideal) x g w cw = n
  pointwise

/-- The keys' result. -/
theorem v47_eq (x : FVec Ideal S4x4096x1024 .f32) (g : FVec Ideal S1024 .f32) (w : FVec Ideal S1024x2480 .f32) (cw : FVec Ideal S3x1024 .f32) (b : Fin 4) (s : Fin 4096) (j : Fin 512) :
    val_main_v47 (F := Ideal) x g w cw (ix3 b s j) = val_main_v36 (F := Ideal) x g w cw (ix3 b s ⟨512 + j.val, by omega⟩) * ck := by
  unfold val_main_v47 val_main_v40 val_main_v38
  generalize val_main_v36 (F := Ideal) x g w cw = n
  pointwise [val_main_v39, val_main_cst_2, ck]

end Cert.Reference5Ideal.Inproj
-- ==== Proof.Inproj.Final.lean ====
module

public import proofs.«01_k».proof.Proof.Inproj.Step
public import proofs.«01_k».proof.Proof.Inproj.Frame
public import proofs.«01_k».proof.Proof.Inproj.Ref
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! # The call's four result arrays are the reference's -/

namespace Cert.Kernel5Ideal.Inproj

open Cert.Kernel5Ideal Cert.Kernel5Ideal.Gen Cert.Rows Cert.Reference5Ideal.Inproj

variable (m : (ℓ : Loc nD τ sig) → Buf (Elt Ideal) ℓ)

/-- The blocks of tokens a point holds and stores: sequence `t / 8`, tile `t % 8`. -/
theorem idxA : ∀ t : Fin cfg0.N, win0_0.index t = ![t.val / 8, t.val % 8, 0] ∧ win0_1.index t = ![t.val / 8, 64 * (t.val % 8) - 1, 0]
    ∧ win0_2.index t = ![t.val / 8, min (64 * (t.val % 8 + 1)) 511, 0]
    ∧ win0_19.index t = ![t.val / 8, 0, t.val % 8] ∧ win0_20.index t = ![t.val / 8, t.val % 8, 0]
    ∧ win0_21.index t = ![t.val / 8, 0, t.val % 8] ∧ win0_22.index t = ![t.val / 8, t.val % 8, 0] :=
  (by decide +kernel : ∀ t : Fin grid0.N, _)

/-- The gain and the weights are held whole. -/
theorem idxW : ∀ t : Fin cfg0.N, win0_4.index t = ![0, 0] ∧ win0_5.index t = ![0, 0] ∧ win0_6.index t = ![0, 0]
    ∧ win0_7.index t = ![0, 0] ∧ win0_11.index t = ![0, 0] :=
  (by decide +kernel : ∀ t : Fin grid0.N, _)

/-- The grid has 32 points. -/
theorem lt_N (t : Fin cfg0.N) : t.val < 32 := t.isLt

/-- The sequence of a point. -/
def sq (t : Fin cfg0.N) : Fin 4 := ⟨t.val / 8, by have := lt_N t; omega⟩

/-- The token of a point's row. -/
def tk (t : Fin cfg0.N) (r : Fin 512) : Fin 4096 := ⟨512 * (t.val % 8) + r.val, by omega⟩

/-- Every tile but the first has tokens before it. -/
theorem bitP : ∀ t : Fin cfg0.N, Scalar.cmpi .sgt (BitVec.ofNat 32 ((grid0.coords t) 1).val) 0#32 = if t.val % 8 = 0 then 0#1 else 1#1 :=
  (by decide +kernel : ∀ t : Fin grid0.N, _)

/-- Every tile but the last has tokens after it. -/
theorem bitN : ∀ t : Fin cfg0.N, Scalar.cmpi .slt (BitVec.ofNat 32 ((grid0.coords t) 1).val) 7#32 = if t.val % 8 = 7 then 0#1 else 1#1 :=
  (by decide +kernel : ∀ t : Fin grid0.N, _)

/-! ## The arrays the call is handed -/

/-- What the call finds as the gain. -/
theorem entry4 (c : Dev nD) : V m c main_v59 = shapeCast S1x1024 (m ((c : Thread nD τ).loc main_arg2) : FVec Ideal S1024 .f32) shapeCasts_S1024_S1x1024 := by
  unfold V
  after_reads_simp <;> rfl

/-- What the call finds as the queries' and keys' weights. -/
theorem entry5 (c : Dev nD) : V m c main_v3 = truncf (F := Ideal) .bf16 (extractStridedSlice S1024x1024 ![0, 0] (m ((c : Thread nD τ).loc main_arg3) : FVec Ideal S1024x2480 .f32) slices_S1024x2480_S1024x1024_0_0) bitsLt_bf16_f32 := by
  unfold V
  after_reads_simp <;> rfl

/-- What the call finds as the values' weights. -/
theorem entry6 (c : Dev nD) : V m c main_v6 = truncf (F := Ideal) .bf16 (transpose S512x1024 [1, 0] (extractStridedSlice S1024x512 ![0, 1024] (m ((c : Thread nD τ).loc main_arg3) : FVec Ideal S1024x2480 .f32) slices_S1024x2480_S1024x512_0_1024) transposes_S1024x512_S512x1024_1_0) bitsLt_bf16_f32 := by
  unfold V
  after_reads_simp <;> rfl

/-- What the call finds as the gate's weights. -/
theorem entry7 (c : Dev nD) : V m c main_v8 = truncf (F := Ideal) .bf16 (extractStridedSlice S1024x512 ![0, 1536] (m ((c : Thread nD τ).loc main_arg3) : FVec Ideal S1024x2480 .f32) slices_S1024x2480_S1024x512_0_1536) bitsLt_bf16_f32 := by
  unfold V
  after_reads_simp <;> rfl

/-- A gain laid out as one row. -/
theorem row4 (g : FVec Ideal S1024 .f32) (j : Fin 1024) : shapeCast S1x1024 g shapeCasts_S1024_S1x1024 (ix2 0 j) = g (ix1 j) := by
  pointwise []

/-- The queries' and keys' weights. -/
theorem row5 (w : FVec Ideal S1024x2480 .f32) (k j : Fin 1024) :
    (truncf (F := Ideal) .bf16 (extractStridedSlice S1024x1024 ![0, 0] w slices_S1024x2480_S1024x1024_0_0) bitsLt_bf16_f32) (ix2 k j) = w (ix2 k ⟨j.val, by omega⟩) := by
  pointwise []

/-- The values' weights. -/
theorem row6 (w : FVec Ideal S1024x2480 .f32) (j : Fin 512) (k : Fin 1024) :
    (truncf (F := Ideal) .bf16 (transpose S512x1024 [1, 0] (extractStridedSlice S1024x512 ![0, 1024] w slices_S1024x2480_S1024x512_0_1024) transposes_S1024x512_S512x1024_1_0) bitsLt_bf16_f32) (ix2 j k)
      = w (ix2 k ⟨1024 + j.val, by omega⟩) := by
  pointwise []

/-- The gate's weights. -/
theorem row7 (w : FVec Ideal S1024x2480 .f32) (k : Fin 1024) (j : Fin 512) :
    (truncf (F := Ideal) .bf16 (extractStridedSlice S1024x512 ![0, 1536] w slices_S1024x2480_S1024x512_0_1536) bitsLt_bf16_f32) (ix2 k j) = w (ix2 k ⟨1536 + j.val, by omega⟩) := by
  pointwise []

/-! ## The blocks, read off the arrays -/

/-- The tokens the call is handed. -/
def X (c : Dev nD) : FVec Ideal S4x4096x1024 .f32 := m ((c : Thread nD τ).loc main_arg0)
/-- The gain the call is handed. -/
def G (c : Dev nD) : FVec Ideal S1024 .f32 := m ((c : Thread nD τ).loc main_arg2)
/-- The weights the call is handed. -/
def W (c : Dev nD) : FVec Ideal S1024x2480 .f32 := m ((c : Thread nD τ).loc main_arg3)
/-- The convolution's weights the call is handed. -/
def C (c : Dev nD) : FVec Ideal S3x1024 .f32 := m ((c : Thread nD τ).loc main_arg5)

/-- A block of tokens, read from any array in its place. -/
theorem read0 (X : FVec Ideal S4x4096x1024 .f32) (t : Fin cfg0.N) (r : Fin 512) (i : Fin 1024) :
    ((cfg0.win 0).blk t).view.read (Elt Ideal) X (ix3 0 r i) = X (ix3 (sq t) (tk t r) i) := by
  refine congrArg X ?_
  unfold sq tk
  blk_ext [idxA t]

/-- The block of tokens that a point holds. -/
theorem block0 (c : Dev nD) (t : Fin cfg0.N) (r : Fin 512) (i : Fin 1024) :
    (iblk m c 0 t : FVec Ideal S1x512x1024 .f32) (ix3 0 r i) = X m c (ix3 (sq t) (tk t r) i) := by
  unfold X
  rw [← V_main_arg0 m c]
  unfold iblk
  generalize V m c = W
  exact read0 (W main_arg0) t r i

/-- The last token before the tile, read from any array in its place. -/
theorem read1 (X : FVec Ideal S4x4096x1024 .f32) (t : Fin cfg0.N) (s : Fin 4096) (h : s.val + 1 = 512 * (t.val % 8)) (i : Fin 1024) :
    ((cfg0.win 1).blk t).view.read (Elt Ideal) X (ix3 0 7 i) = X (ix3 (sq t) s i) := by
  refine congrArg X ?_
  unfold sq
  blk_ext [idxA t]

/-- The last token before the tile. -/
theorem block1 (c : Dev nD) (t : Fin cfg0.N) (s : Fin 4096) (h : s.val + 1 = 512 * (t.val % 8)) (i : Fin 1024) :
    (iblk m c 1 t : FVec Ideal S1x8x1024 .f32) (ix3 0 7 i) = X m c (ix3 (sq t) s i) := by
  unfold X
  rw [← V_main_arg0 m c]
  unfold iblk
  generalize V m c = W
  exact read1 (W main_arg0) t s h i

/-- The first token after the tile, read from any array in its place. -/
theorem read2 (X : FVec Ideal S4x4096x1024 .f32) (t : Fin cfg0.N) (s : Fin 4096) (h : s.val = 512 * (t.val % 8) + 512) (i : Fin 1024) :
    ((cfg0.win 2).blk t).view.read (Elt Ideal) X (ix3 0 0 i) = X (ix3 (sq t) s i) := by
  refine congrArg X ?_
  unfold sq
  blk_ext [idxA t]

/-- The first token after the tile. -/
theorem block2 (c : Dev nD) (t : Fin cfg0.N) (s : Fin 4096) (h : s.val = 512 * (t.val % 8) + 512) (i : Fin 1024) :
    (iblk m c 2 t : FVec Ideal S1x8x1024 .f32) (ix3 0 0 i) = X m c (ix3 (sq t) s i) := by
  unfold X
  rw [← V_main_arg0 m c]
  unfold iblk
  generalize V m c = W
  exact read2 (W main_arg0) t s h i

/-- The gain, read from any array in its place. -/
theorem read4 (X : FVec Ideal S1x1024 .f32) (t : Fin cfg0.N) (j : Fin 1024) :
    ((cfg0.win 4).blk t).view.read (Elt Ideal) X (ix2 0 j) = X (ix2 0 j) := by
  refine congrArg X ?_
  blk_ext [idxW t]

/-- The gain that a point holds. -/
theorem block4 (c : Dev nD) (t : Fin cfg0.N) (j : Fin 1024) :
    (iblk m c 4 t : FVec Ideal S1x1024 .f32) (ix2 0 j) = G m c (ix1 j) := by
  unfold G
  refine Eq.trans (b := (V m c main_v59 : FVec Ideal S1x1024 .f32) (ix2 0 j)) ?_ ((congrFun (entry4 m c) (ix2 0 j)).trans (row4 _ _))
  unfold iblk
  generalize V m c = W
  exact read4 (W main_v59) t j

/-- The queries' and keys' weights, read from any array in its place. -/
theorem read5 (X : FVec Ideal S1024x1024 .bf16) (t : Fin cfg0.N) (k j : Fin 1024) :
    ((cfg0.win 5).blk t).view.read (Elt Ideal) X (ix2 k j) = X (ix2 k j) := by
  refine congrArg X ?_
  blk_ext [idxW t]

/-- The queries' and keys' weights that a point holds. -/
theorem block5 (c : Dev nD) (t : Fin cfg0.N) (k j : Fin 1024) :
    (iblk m c 5 t : FVec Ideal S1024x1024 .bf16) (ix2 k j) = W m c (ix2 k ⟨j.val, by omega⟩) := by
  unfold W
  refine Eq.trans (b := (V m c main_v3 : FVec Ideal S1024x1024 .bf16) (ix2 k j)) ?_ ((congrFun (entry5 m c) (ix2 k j)).trans (row5 _ _ _))
  unfold iblk
  generalize V m c = W
  exact read5 (W main_v3) t k j

/-- The values' weights, read from any array in its place. -/
theorem read6 (X : FVec Ideal S512x1024 .bf16) (t : Fin cfg0.N) (j : Fin 512) (k : Fin 1024) :
    ((cfg0.win 6).blk t).view.read (Elt Ideal) X (ix2 j k) = X (ix2 j k) := by
  refine congrArg X ?_
  blk_ext [idxW t]

/-- The values' weights that a point holds. -/
theorem block6 (c : Dev nD) (t : Fin cfg0.N) (j : Fin 512) (k : Fin 1024) :
    (iblk m c 6 t : FVec Ideal S512x1024 .bf16) (ix2 j k) = W m c (ix2 k ⟨1024 + j.val, by omega⟩) := by
  unfold W
  refine Eq.trans (b := (V m c main_v6 : FVec Ideal S512x1024 .bf16) (ix2 j k)) ?_ ((congrFun (entry6 m c) (ix2 j k)).trans (row6 _ _ _))
  unfold iblk
  generalize V m c = W
  exact read6 (W main_v6) t j k

/-- The gate's weights, read from any array in its place. -/
theorem read7 (X : FVec Ideal S1024x512 .bf16) (t : Fin cfg0.N) (k : Fin 1024) (j : Fin 512) :
    ((cfg0.win 7).blk t).view.read (Elt Ideal) X (ix2 k j) = X (ix2 k j) := by
  refine congrArg X ?_
  blk_ext [idxW t]

/-- The gate's weights that a point holds. -/
theorem block7 (c : Dev nD) (t : Fin cfg0.N) (k : Fin 1024) (j : Fin 512) :
    (iblk m c 7 t : FVec Ideal S1024x512 .bf16) (ix2 k j) = W m c (ix2 k ⟨1536 + j.val, by omega⟩) := by
  unfold W
  refine Eq.trans (b := (V m c main_v8 : FVec Ideal S1024x512 .bf16) (ix2 k j)) ?_ ((congrFun (entry7 m c) (ix2 k j)).trans (row7 _ _ _))
  unfold iblk
  generalize V m c = W
  exact read7 (W main_v8) t k j

/-- The convolution's weights, read from any array in their place. -/
theorem read11 (X : FVec Ideal S3x1024 .f32) (t : Fin cfg0.N) (a : Fin 3) (j : Fin 1024) :
    ((cfg0.win 11).blk t).view.read (Elt Ideal) X (ix2 a j) = X (ix2 a j) := by
  refine congrArg X ?_
  blk_ext [idxW t]

/-- The convolution's weights that a point holds. -/
theorem block11 (c : Dev nD) (t : Fin cfg0.N) (a : Fin 3) (j : Fin 1024) :
    (iblk m c 11 t : FVec Ideal S3x1024 .f32) (ix2 a j) = C m c (ix2 a j) := by
  unfold C
  rw [← V_main_arg5 m c]
  unfold iblk
  generalize V m c = W
  exact read11 (W main_arg5) t a j

/-! ## A point's rows are the reference's -/

section rows

variable (X : FVec Ideal S4x4096x1024 .f32) (G : FVec Ideal S1024 .f32) (W : FVec Ideal S1024x2480 .f32) (C : FVec Ideal S3x1024 .f32)

/-- A point's blocks are those of the arrays. -/
structure Fits (t : Fin cfg0.N) (x : Ins Ideal) : Prop where
  /-- The tile. -/
  h0 : ∀ (r : Fin 512) (i : Fin 1024), x.x0 (ix3 0 r i) = X (ix3 (sq t) (tk t r) i)
  /-- The token before the tile. -/
  h1 : ∀ (s : Fin 4096), s.val + 1 = 512 * (t.val % 8) → ∀ i : Fin 1024, x.x1 (ix3 0 7 i) = X (ix3 (sq t) s i)
  /-- The token after the tile. -/
  h2 : ∀ (s : Fin 4096), s.val = 512 * (t.val % 8) + 512 → ∀ i : Fin 1024, x.x2 (ix3 0 0 i) = X (ix3 (sq t) s i)
  /-- The gain. -/
  h4 : ∀ j : Fin 1024, x.x4 (ix2 0 j) = G (ix1 j)
  /-- The queries' and keys' weights. -/
  h5 : ∀ k j : Fin 1024, x.x5 (ix2 k j) = W (ix2 k ⟨j.val, by omega⟩)
  /-- The values' weights. -/
  h6 : ∀ (j : Fin 512) (k : Fin 1024), x.x6 (ix2 j k) = W (ix2 k ⟨1024 + j.val, by omega⟩)
  /-- The gate's weights. -/
  h7 : ∀ (k : Fin 1024) (j : Fin 512), x.x7 (ix2 k j) = W (ix2 k ⟨1536 + j.val, by omega⟩)
  /-- The convolution's weights. -/
  h11 : ∀ (a : Fin 3) (j : Fin 1024), x.x11 (ix2 a j) = C (ix2 a j)

variable {X G W C}

/-- A tile's row is the token's. -/
theorem trow_eq {t : Fin cfg0.N} {x : Ins Ideal} (hx : Fits X G W C t x) (r : Fin 512) : trow x r = nrow X G (sq t) (tk t r) := by
  unfold trow nrow
  exact congrArg₂ (rms c1024) (funext fun k => hx.h0 r k) (funext fun k => hx.h4 k)

/-- A row in the sequence is a token's. -/
theorem xrow_in {t : Fin cfg0.N} {x : Ins Ideal} (hx : Fits X G W C t x) (e : Fin 514) (s : Fin 4096) (h : s.val + 1 = 512 * (t.val % 8) + e.val) :
    xrow (grid0.coords t) x e = nrow X G (sq t) s := by
  funext k
  have hs := s.isLt
  unfold xrow
  split
  · rename_i h0
    have hf : flagP (grid0.coords t) = 1 := by
      unfold flagP
      rw [bitP t, if_neg (by omega), flag_1]
    rw [hf, mul_one]
    exact congrFun (congrArg₂ (rms c1024) (funext fun k => hx.h1 s (by omega) k) (funext fun k => hx.h4 k)) k
  · split
    · rename_i h0 h1
      rw [trow_eq hx]
      exact congrArg (fun a => nrow X G (sq t) a k) (Fin.ext (by show 512 * (t.val % 8) + (e.val - 1) = s.val; omega))
    · rename_i h0 h1
      have he := e.isLt
      have hf : flagN (grid0.coords t) = 1 := by
        unfold flagN
        rw [bitN t, if_neg (by omega), flag_1]
      rw [hf, mul_one]
      exact congrFun (congrArg₂ (rms c1024) (funext fun k => hx.h2 s (by omega) k) (funext fun k => hx.h4 k)) k

/-- Before the first token there is nothing. -/
theorem xrow_before {t : Fin cfg0.N} {x : Ins Ideal} (hx : Fits X G W C t x) (e : Fin 514) (h : 512 * (t.val % 8) + e.val = 0) :
    xrow (grid0.coords t) x e = fun _ => 0 := by
  funext k
  unfold xrow
  have hf : flagP (grid0.coords t) = 0 := by
    unfold flagP
    rw [bitP t, if_pos (by omega), flag_0]
  rw [if_pos (by omega), hf, mul_zero]

/-- After the last token there is nothing. -/
theorem xrow_after {t : Fin cfg0.N} {x : Ins Ideal} (hx : Fits X G W C t x) (e : Fin 514) (h : 512 * (t.val % 8) + e.val = 4097) :
    xrow (grid0.coords t) x e = fun _ => 0 := by
  funext k
  have he := e.isLt
  unfold xrow
  have hf : flagN (grid0.coords t) = 0 := by
    unfold flagN
    rw [bitN t, if_pos (by omega), flag_0]
  rw [if_neg (by omega), dif_neg (by omega), hf, mul_zero]

/-- Nothing projects to 0. -/
theorem mv_zero (w : Fin 1024 → Fin 1024 → EReal) (j : Fin 1024) : mv (fun _ => (0 : EReal)) w j = 0 := by
  unfold mv
  simp

/-- A token's convolution is the reference's. -/
theorem crow_eq {t : Fin cfg0.N} {x : Ins Ideal} (hx : Fits X G W C t x) (r : Fin 512) (j : Fin 1024) : crow (grid0.coords t) x r j
    = Cert.Reference5Ideal.Read.val_main_v35 (F := Ideal) X G W C (ix3 (sq t) (tk t r) j) := by
  rw [v35_eq, v16_eq, v22_eq, v29_eq]
  have hw : (fun k j => x.x5 (ix2 k j)) = fun (k j : Fin 1024) => W (ix2 k ⟨j.val, by omega⟩) :=
    funext fun k => funext fun j => hx.h5 k j
  have hc : (fun a j => x.x11 (ix2 a j)) = fun (a : Fin 3) (j : Fin 1024) => C (ix2 a j) :=
    funext fun a => funext fun j => hx.h11 a j
  unfold crow cvr
  rw [hw, hc]
  have hr := r.isLt
  have h1 : mv (xrow (grid0.coords t) x ⟨r.val, by omega⟩) (fun (k j : Fin 1024) => W (ix2 k ⟨j.val, by omega⟩)) j
      = if h : 1 ≤ (tk t r).val then prj X G W (sq t) ⟨(tk t r).val - 1, by omega⟩ ⟨j.val, by omega⟩ else 0 := by
    have ht : (tk t r).val = 512 * (t.val % 8) + r.val := rfl
    split
    · rename_i h
      rw [xrow_in hx _ ⟨(tk t r).val - 1, by omega⟩ (by show (tk t r).val - 1 + 1 = 512 * (t.val % 8) + r.val; omega)]
      rfl
    · rw [xrow_before hx _ (by show 512 * (t.val % 8) + r.val = 0; omega), mv_zero]
  have h2 : mv (xrow (grid0.coords t) x ⟨r.val + 1, by omega⟩) (fun (k j : Fin 1024) => W (ix2 k ⟨j.val, by omega⟩)) j
      = prj X G W (sq t) (tk t r) ⟨j.val, by omega⟩ := by
    rw [xrow_in hx _ (tk t r) (by show 512 * (t.val % 8) + r.val + 1 = 512 * (t.val % 8) + (r.val + 1); omega)]
    rfl
  have h3 : mv (xrow (grid0.coords t) x ⟨r.val + 2, by omega⟩) (fun (k j : Fin 1024) => W (ix2 k ⟨j.val, by omega⟩)) j
      = if h : (tk t r).val + 1 < 4096 then prj X G W (sq t) ⟨(tk t r).val + 1, h⟩ ⟨j.val, by omega⟩ else 0 := by
    have ht : (tk t r).val = 512 * (t.val % 8) + r.val := rfl
    split
    · rename_i h
      rw [xrow_in hx _ ⟨(tk t r).val + 1, h⟩ (by show (tk t r).val + 1 + 1 = 512 * (t.val % 8) + (r.val + 2); omega)]
      rfl
    · rw [xrow_after hx _ (by show 512 * (t.val % 8) + (r.val + 2) = 4097; omega), mv_zero]
  rw [h1, h2, h3]

/-- A point's block is the reference's there. -/
theorem row_22 {t : Fin cfg0.N} {x : Ins Ideal} (hx : Fits X G W C t x) (y : S1x512x512.Idx) (hy1 : (y 1).val < 512) (hy2 : (y 2).val < 512) :
    F22 x y = Cert.Reference5Ideal.Read.val_main_v42 (F := Ideal) X G W (ix3 (sq t) (tk t ⟨(y 1).val, hy1⟩) ⟨(y 2).val, hy2⟩) := by
  rw [v42_eq]
  unfold F22 prj
  refine (congrArg (fun f => mv f _ (y 2)) (trow_eq hx ⟨(y 1).val, hy1⟩)).trans ?_
  unfold mv
  exact Finset.sum_congr rfl fun k _ => congrArg _ (hx.h7 k ⟨(y 2).val, hy2⟩)

/-- A point's block is the reference's there. -/
theorem row_21 {t : Fin cfg0.N} {x : Ins Ideal} (hx : Fits X G W C t x) (y : S1x512x512.Idx) (hy1 : (y 1).val < 512) (hy2 : (y 2).val < 512) :
    F21 x y = Cert.Reference5Ideal.Read.val_main_v44 (F := Ideal) X G W (ix3 (sq t) ⟨(y 1).val, hy1⟩ (tk t ⟨(y 2).val, hy2⟩)) := by
  rw [v44_eq]
  unfold F21 prj mv
  refine Finset.sum_congr rfl fun k _ => ?_
  refine (mul_comm _ _).trans ?_
  exact congrArg₂ (fun a b : EReal => a * b) (congrFun (trow_eq hx ⟨(y 2).val, hy2⟩) k) (hx.h6 ⟨(y 1).val, hy1⟩ k)

/-- A point's block is the reference's there. -/
theorem row_19 {t : Fin cfg0.N} {x : Ins Ideal} (hx : Fits X G W C t x) (y : S1x512x512.Idx) (hy1 : (y 1).val < 512) (hy2 : (y 2).val < 512) :
    F19 (grid0.coords t) x y = Cert.Reference5Ideal.Read.val_main_v46 (F := Ideal) X G W C (ix3 (sq t) ⟨(y 1).val, hy1⟩ (tk t ⟨(y 2).val, hy2⟩)) := by
  rw [v46_eq, v36_eq]
  unfold F19
  refine congrArg sil ((crow_eq hx ⟨(y 2).val, hy2⟩ _).trans ?_)
  exact congrArg (fun j => Cert.Reference5Ideal.Read.val_main_v35 (F := Ideal) X G W C (ix3 (sq t) (tk t ⟨(y 2).val, hy2⟩) j))
    (Fin.ext (by show 0 + (y 1).val = (y 1).val; omega))

/-- A point's block is the reference's there. -/
theorem row_20 {t : Fin cfg0.N} {x : Ins Ideal} (hx : Fits X G W C t x) (y : S1x512x512.Idx) (hy1 : (y 1).val < 512) (hy2 : (y 2).val < 512) :
    F20 (grid0.coords t) x y = Cert.Reference5Ideal.Read.val_main_v47 (F := Ideal) X G W C (ix3 (sq t) (tk t ⟨(y 1).val, hy1⟩) ⟨(y 2).val, hy2⟩) := by
  rw [v47_eq, v36_eq]
  unfold F20
  exact congrArg (fun z => sil z * ck) (crow_eq hx ⟨(y 1).val, hy1⟩ _)

end rows

/-- The same, of the blocks one by one. -/
theorem fits_of (X : FVec Ideal S4x4096x1024 .f32) (G : FVec Ideal S1024 .f32) (W : FVec Ideal S1024x2480 .f32) (C : FVec Ideal S3x1024 .f32) (t : Fin cfg0.N)
    (x0 : Vec Ideal S1x512x1024 .f32) (x1 : Vec Ideal S1x8x1024 .f32) (x2 : Vec Ideal S1x8x1024 .f32) (x3 : Vec Ideal S1x1x512 .f32) (x4 : Vec Ideal S1x1024 .f32)
    (x5 : Vec Ideal S1024x1024 .bf16) (x6 : Vec Ideal S512x1024 .bf16) (x7 : Vec Ideal S1024x512 .bf16) (x8 : Vec Ideal S1024x512 .bf16) (x9 : Vec Ideal S128x1024 .bf16)
    (x10 : Vec Ideal S1x128 .f32) (x11 : Vec Ideal S3x1024 .f32) (x12 : Vec Ideal S1x256 .f32) (x13 : Vec Ideal S1024x256 .bf16) (x14 : Vec Ideal S1x128 .f32)
    (x15 : Vec Ideal S128x1024 .bf16) (x16 : Vec Ideal S640x128 .bf16) (x17 : Vec Ideal S640x256 .f32) (x18 : Vec Ideal S16x1 .f32)
    (h0 : ∀ (r : Fin 512) (i : Fin 1024), x0 (ix3 0 r i) = X (ix3 (sq t) (tk t r) i))
    (h1 : ∀ (s : Fin 4096), s.val + 1 = 512 * (t.val % 8) → ∀ i : Fin 1024, x1 (ix3 0 7 i) = X (ix3 (sq t) s i))
    (h2 : ∀ (s : Fin 4096), s.val = 512 * (t.val % 8) + 512 → ∀ i : Fin 1024, x2 (ix3 0 0 i) = X (ix3 (sq t) s i))
    (h4 : ∀ j : Fin 1024, x4 (ix2 0 j) = G (ix1 j)) (h5 : ∀ k j : Fin 1024, x5 (ix2 k j) = W (ix2 k ⟨j.val, by omega⟩))
    (h6 : ∀ (j : Fin 512) (k : Fin 1024), x6 (ix2 j k) = W (ix2 k ⟨1024 + j.val, by omega⟩))
    (h7 : ∀ (k : Fin 1024) (j : Fin 512), x7 (ix2 k j) = W (ix2 k ⟨1536 + j.val, by omega⟩))
    (h11 : ∀ (a : Fin 3) (j : Fin 1024), x11 (ix2 a j) = C (ix2 a j)) :
    Fits X G W C t ⟨x0, x1, x2, x3, x4, x5, x6, x7, x8, x9, x10, x11, x12, x13, x14, x15, x16, x17, x18⟩ :=
  ⟨h0, h1, h2, h4, h5, h6, h7, h11⟩

set_option maxHeartbeats 4000000 in
/-- A point's blocks are those of the arrays the call is handed. -/
theorem fits (c : Dev nD) (t : Fin cfg0.N) : Fits (X m c) (G m c) (W m c) (C m c) t (ins m c t) :=
  fits_of _ _ _ _ t (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t) (iblk m c 18 t)
    (block0 m c t) (block1 m c t) (block2 m c t) (block4 m c t) (block5 m c t) (block6 m c t) (block7 m c t) (block11 m c t)

/-- The gate's array. -/
theorem final22 (c : Dev nD) : (dats m 0 c).arrAt 22 (cfgs 0).N = Cert.Reference5Ideal.Read.val_main_v42 (F := Ideal) (X m c) (G m c) (W m c) := by
  refine (dats m 0 c).arrAt_eq_of_covers 22 _ (by decide +kernel) fun t hf y => ?_
  have hy0 : (y 0).val < 1 := (y 0).isLt
  have hy1 : (y 1).val < 512 := (y 1).isLt
  have hy2 : (y 2).val < 512 := (y 2).isLt
  have hrow := row_22 (fits m c t) y hy1 hy2
  have hpt := (out22 (grid0.coords t) (ins m c t) y).trans hrow
  generalize Cert.Reference5Ideal.Read.val_main_v42 (F := Ideal) (X m c) (G m c) (W m c) = R at hpt ⊢
  blk_simp
  rw [after0_22]
  have he : (win0_22.blk t).view.emb y = (ix3 (sq t) (tk t ⟨(y 1).val, hy1⟩) ⟨(y 2).val, hy2⟩ : S4x4096x512.Idx) := by
    unfold sq tk
    blk_ext [idxA t]
  rw [he]
  exact hpt

/-- The values' array. -/
theorem final21 (c : Dev nD) : (dats m 0 c).arrAt 21 (cfgs 0).N = Cert.Reference5Ideal.Read.val_main_v44 (F := Ideal) (X m c) (G m c) (W m c) := by
  refine (dats m 0 c).arrAt_eq_of_covers 21 _ (by decide +kernel) fun t hf y => ?_
  have hy0 : (y 0).val < 1 := (y 0).isLt
  have hy1 : (y 1).val < 512 := (y 1).isLt
  have hy2 : (y 2).val < 512 := (y 2).isLt
  have hrow := row_21 (fits m c t) y hy1 hy2
  have hpt := (out21 (grid0.coords t) (ins m c t) y).trans hrow
  generalize Cert.Reference5Ideal.Read.val_main_v44 (F := Ideal) (X m c) (G m c) (W m c) = R at hpt ⊢
  blk_simp
  rw [after0_21]
  have he : (win0_21.blk t).view.emb y = (ix3 (sq t) ⟨(y 1).val, hy1⟩ (tk t ⟨(y 2).val, hy2⟩) : S4x512x4096.Idx) := by
    unfold sq tk
    blk_ext [idxA t]
  rw [he]
  exact hpt

/-- The queries' array. -/
theorem final19 (c : Dev nD) : (dats m 0 c).arrAt 19 (cfgs 0).N = Cert.Reference5Ideal.Read.val_main_v46 (F := Ideal) (X m c) (G m c) (W m c) (C m c) := by
  refine (dats m 0 c).arrAt_eq_of_covers 19 _ (by decide +kernel) fun t hf y => ?_
  have hy0 : (y 0).val < 1 := (y 0).isLt
  have hy1 : (y 1).val < 512 := (y 1).isLt
  have hy2 : (y 2).val < 512 := (y 2).isLt
  have hrow := row_19 (fits m c t) y hy1 hy2
  have hpt := (out19 (grid0.coords t) (ins m c t) y).trans hrow
  generalize Cert.Reference5Ideal.Read.val_main_v46 (F := Ideal) (X m c) (G m c) (W m c) (C m c) = R at hpt ⊢
  blk_simp
  rw [after0_19]
  have he : (win0_19.blk t).view.emb y = (ix3 (sq t) ⟨(y 1).val, hy1⟩ (tk t ⟨(y 2).val, hy2⟩) : S4x512x4096.Idx) := by
    unfold sq tk
    blk_ext [idxA t]
  rw [he]
  exact hpt

/-- The keys' array. -/
theorem final20 (c : Dev nD) : (dats m 0 c).arrAt 20 (cfgs 0).N = Cert.Reference5Ideal.Read.val_main_v47 (F := Ideal) (X m c) (G m c) (W m c) (C m c) := by
  refine (dats m 0 c).arrAt_eq_of_covers 20 _ (by decide +kernel) fun t hf y => ?_
  have hy0 : (y 0).val < 1 := (y 0).isLt
  have hy1 : (y 1).val < 512 := (y 1).isLt
  have hy2 : (y 2).val < 512 := (y 2).isLt
  have hrow := row_20 (fits m c t) y hy1 hy2
  have hpt := (out20 (grid0.coords t) (ins m c t) y).trans hrow
  generalize Cert.Reference5Ideal.Read.val_main_v47 (F := Ideal) (X m c) (G m c) (W m c) (C m c) = R at hpt ⊢
  blk_simp
  rw [after0_20]
  have he : (win0_20.blk t).view.emb y = (ix3 (sq t) (tk t ⟨(y 1).val, hy1⟩) ⟨(y 2).val, hy2⟩ : S4x4096x512.Idx) := by
    unfold sq tk
    blk_ext [idxA t]
  rw [he]
  exact hpt

/-- The run: the four result arrays end as the blocks' arrays and the arguments are kept. -/
theorem run_blocks (ρ : Dev nD → PrngReg) : θ_run defs (onTc (τ := τ) (main (F := Ideal))) ⟨m, fun _ => 0, ρ⟩ fun r => ∀ c : Dev nD,
      r.2.mem ((c.tc : Thread nD τ).loc main_v62_3) = (dats m 0 c).arrAt 22 (cfgs 0).N
      ∧ r.2.mem ((c.tc : Thread nD τ).loc main_v62_2) = (dats m 0 c).arrAt 21 (cfgs 0).N
      ∧ r.2.mem ((c.tc : Thread nD τ).loc main_v62_0) = (dats m 0 c).arrAt 19 (cfgs 0).N
      ∧ r.2.mem ((c.tc : Thread nD τ).loc main_v62_1) = (dats m 0 c).arrAt 20 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1 22, (h c).1 21, (h c).1 19, (h c).1 20,
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 11).trans (((dats m 0 c).arrAt_in 11 rfl _).trans ((A_eq m c 11).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.Kernel5Ideal.Inproj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame.Whole
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame.Whole
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.IdealFrame.Value
public import proofs.«01_k».proof.Proof.Gen.Kernel2Ideal.Value
public import proofs.«01_k».proof.Proof.Gen.ReferenceIdeal.Read
public import proofs.«01_k».proof.Proof.Gen.Reference2Ideal.Read
public import proofs.«01_k».proof.Proof.Mla.Final
public import proofs.«01_k».proof.Proof.Ffn.Final
public import Idealize.ShloMosaic.Adequacy
public import Idealize.ShloMosaic.Init
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference3Ideal.Run
public import proofs.«01_k».proof.Proof.Memkv.Final
public import proofs.«01_k».proof.Proof.Post.Final
public import proofs.«01_k».proof.Proof.Post.RefRun
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Read
public import proofs.«01_k».proof.Proof.Gen.Reference5Ideal.Run
public import proofs.«01_k».proof.Proof.Inproj.Frame
public import proofs.«01_k».proof.Proof.Inproj.Printed
public import proofs.«01_k».proof.Proof.Inproj.Final

@[expose] public section

noncomputable section

namespace Cert.Proof

open Idealize.ShloMosaic Idealize.SL.Sem Cert.Kernel

/-- `Kernel` runs, keeps its arguments and leaves every counter at zero. -/
theorem frame_Kernel : Cert.quiescent_Kernel := fun m ρ _ => Cert.Kernel.Gen.frame m ρ

/-- `KernelIdeal` runs, keeps its arguments and leaves every counter at zero. -/
theorem frame_KernelIdeal : Cert.quiescent_KernelIdeal := fun m ρ _ => Cert.KernelIdeal.Gen.frame m ρ

/-- `Kernel2` runs, keeps its arguments and leaves every counter at zero. -/
theorem frame_Kernel2 : Cert.quiescent_Kernel2 := fun m ρ _ => Cert.Kernel2.Gen.frame m ρ

/-- `Kernel2Ideal` runs, keeps its arguments and leaves every counter at zero. -/
theorem frame_Kernel2Ideal : Cert.quiescent_Kernel2Ideal := fun m ρ _ => Cert.Kernel2Ideal.Gen.frame m ρ

/-- `ReferenceIdeal` runs, keeps its arguments and leaves every counter at zero. -/
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- `Reference2Ideal` runs, keeps its arguments and leaves every counter at zero. -/
theorem frame_Reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The named constant of the attention is the scale times the logarithm's factor. -/
theorem preserves_Kernel : Cert.preserves_Kernel_KernelIdeal :=
  IdealRules.named_const.statement Cert.KernelIdeal.κ "scale_log2e" .f32 0x3E16C740#32 (((3424635 / 33554432) * (Real.log 2)⁻¹ : ℝ) : EReal) rfl

/-- `KernelIdeal` and `ReferenceIdeal` return the same array: the kernel's blocks are the reference's. -/
theorem algebraic_KernelIdeal : Cert.algebraic_KernelIdeal_ReferenceIdeal := by
  intro m g m' g' _ hagree
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v32_eq m' c).trans (Eq.trans ?_ (Cert.KernelIdeal.Mla.final m c).symm)
  rw [(hagree c).1, (hagree c).2.1, (hagree c).2.2.1, (hagree c).2.2.2.1, (hagree c).2.2.2.2.1, (hagree c).2.2.2.2.2]

/-- `Kernel2Ideal` and `Reference2Ideal` return the same array: the kernel's blocks are the reference's. -/
theorem algebraic_Kernel2Ideal : Cert.algebraic_Kernel2Ideal_Reference2Ideal := by
  intro m g m' g' _ hagree
  refine ⟨fun c => (Cert.Kernel2Ideal.Gen.dats m 0 c).arrAt 4 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  refine (Cert.Reference2Ideal.Read.val_main_v8_eq _ _ _ _).trans (Eq.trans ?_ (Cert.Kernel2Ideal.Ffn.final m c).symm)
  rw [(hagree c).1, (hagree c).2.1, (hagree c).2.2.1, (hagree c).2.2.2]

/-- `Kernel3` runs, keeps its arguments and leaves every counter at zero. -/
theorem frame_Kernel3 : Cert.quiescent_Kernel3 := fun m ρ _ => Cert.Kernel3.Gen.frame m ρ

/-- `Kernel3Ideal` runs, keeps its arguments and leaves every counter at zero. -/
theorem frame_Kernel3Ideal : Cert.quiescent_Kernel3Ideal := fun m ρ _ => Cert.Kernel3Ideal.Gen.frame m ρ

/-- `Kernel4` runs, keeps its arguments and leaves every counter at zero. -/
theorem frame_Kernel4 : Cert.quiescent_Kernel4 := fun m ρ _ => Cert.Kernel4.Gen.frame m ρ

/-- `Kernel4Ideal` runs, keeps its arguments and leaves every counter at zero. -/
theorem frame_Kernel4Ideal : Cert.quiescent_Kernel4Ideal := fun m ρ _ => Cert.Kernel4Ideal.Gen.frame m ρ

/-- `Reference3Ideal` runs, keeps its arguments and leaves every counter at zero. -/
theorem frame_Reference3Ideal : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- `Reference4Ideal` runs, keeps its arguments and leaves every counter at zero. -/
theorem frame_Reference4Ideal : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Post.run (F := Ideal) m ρ)

/-- `Kernel3Ideal` and `Reference3Ideal` return the same two arrays: the memory's keys and values. -/
theorem algebraic_Kernel3Ideal : Cert.algebraic_Kernel3Ideal_Reference3Ideal := by
  intro m g m' g' _ hagree
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2⟩)
    (Cert.Reference3Ideal.Value.run (F := Ideal) m' g')
  · refine (Cert.Reference3Ideal.Read.val_main_v14_eq _ _ _).trans (Eq.trans ?_ (Cert.Kernel3Ideal.Memkv.final4 m c).symm)
    rw [(hagree c).1, (hagree c).2.1, (hagree c).2.2.1]
  · refine (Cert.Reference3Ideal.Read.val_main_v16_eq _ _ _).trans (Eq.trans ?_ (Cert.Kernel3Ideal.Memkv.final5 m c).symm)
    rw [(hagree c).1, (hagree c).2.1, (hagree c).2.2.2]

/-- `Kernel4Ideal` and `Reference4Ideal` return the same two arrays: the residual rows and the normalised ones. -/
theorem algebraic_Kernel4Ideal : Cert.algebraic_Kernel4Ideal_Reference4Ideal := by
  intro m g m' g' _ hagree
  refine ⟨fun c => (Cert.Kernel4Ideal.Gen.dats m 0 c).arrAt 15 Cert.Kernel4Ideal.cfg0.N,
    fun c => (Cert.Kernel4Ideal.Gen.dats m 0 c).arrAt 16 Cert.Kernel4Ideal.cfg0.N,
    (θ_run Cert.Kernel4Ideal.defs _ _).mono (fun r h c => ⟨(h c).1, (h c).2.1, (h c).2.2.2.2⟩) (Cert.Kernel4Ideal.Value.run_blocks m g), ?_⟩
  refine (θ_run Cert.Reference4Ideal.defs _ _).mono (fun r h c => ⟨(h c).1.trans ?_, (h c).2.1.trans ?_, (h c).2.2⟩)
    (Cert.Reference4Ideal.Post.run (F := Ideal) m' g')
  · refine Eq.trans ?_ (Cert.Kernel4Ideal.Post.final15 m c).symm
    unfold Cert.Reference4Ideal.Post.res_main_v64
    obtain ⟨h0, h1, h2, h3, h4, h5, h6, h7, h8, h9, h10, h11, h12, h13⟩ := hagree c
    rw [h0, h1, h2, h3, h4, h5, h6, h7, h8, h9, h10, h11]
  · refine Eq.trans ?_ (Cert.Kernel4Ideal.Post.final16 m c).symm
    unfold Cert.Reference4Ideal.Post.res_main_v78
    obtain ⟨h0, h1, h2, h3, h4, h5, h6, h7, h8, h9, h10, h11, h12, h13⟩ := hagree c
    rw [h0, h1, h2, h3, h4, h5, h6, h7, h8, h9, h10, h11, h12]

/-- `Kernel5` runs, keeps its arguments and leaves every counter at zero. -/
theorem frame_Kernel5 : Cert.quiescent_Kernel5 := Cert.Kernel5.Inproj.frame

/-- `Kernel5Ideal` runs, keeps its arguments and leaves every counter at zero. -/
theorem frame_Kernel5Ideal : Cert.quiescent_Kernel5Ideal := fun m ρ _ => Cert.Kernel5Ideal.Gen.frame m ρ

/-- `Reference5Ideal` runs, keeps its arguments and leaves every counter at zero. -/
theorem frame_Reference5Ideal : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

/-- `Kernel5Ideal` and `Reference5Ideal` return the same four arrays: the gate's, the values, the queries and the keys. -/
theorem algebraic_Kernel5Ideal : Cert.algebraic_Kernel5Ideal_Reference5Ideal := by
  intro m g m' g' _ hagree
  refine ⟨fun c => (Cert.Kernel5Ideal.Gen.dats m 0 c).arrAt 22 Cert.Kernel5Ideal.cfg0.N,
    fun c => (Cert.Kernel5Ideal.Gen.dats m 0 c).arrAt 21 Cert.Kernel5Ideal.cfg0.N,
    fun c => (Cert.Kernel5Ideal.Gen.dats m 0 c).arrAt 19 Cert.Kernel5Ideal.cfg0.N,
    fun c => (Cert.Kernel5Ideal.Gen.dats m 0 c).arrAt 20 Cert.Kernel5Ideal.cfg0.N, Cert.Kernel5Ideal.Inproj.run_blocks m g, ?_⟩
  refine (θ_run Cert.Reference5Ideal.defs _ _).mono (fun r h c => ⟨(h c).1.trans ?_, (h c).2.1.trans ?_, (h c).2.2.1.trans ?_, (h c).2.2.2.1.trans ?_, (h c).2.2.2.2⟩)
    (Cert.Reference5Ideal.Value.run (F := Ideal) m' g')
  · refine (Cert.Reference5Ideal.Read.val_main_v42_eq _ _ _).trans (Eq.trans ?_ (Cert.Kernel5Ideal.Inproj.final22 m c).symm)
    unfold Cert.Kernel5Ideal.Inproj.X Cert.Kernel5Ideal.Inproj.G Cert.Kernel5Ideal.Inproj.W
    rw [(hagree c).1, (hagree c).2.2.1, (hagree c).2.2.2.1]
  · refine (Cert.Reference5Ideal.Read.val_main_v44_eq _ _ _).trans (Eq.trans ?_ (Cert.Kernel5Ideal.Inproj.final21 m c).symm)
    unfold Cert.Kernel5Ideal.Inproj.X Cert.Kernel5Ideal.Inproj.G Cert.Kernel5Ideal.Inproj.W
    rw [(hagree c).1, (hagree c).2.2.1, (hagree c).2.2.2.1]
  · refine (Cert.Reference5Ideal.Read.val_main_v46_eq m' c).trans (Eq.trans ?_ (Cert.Kernel5Ideal.Inproj.final19 m c).symm)
    unfold Cert.Kernel5Ideal.Inproj.X Cert.Kernel5Ideal.Inproj.G Cert.Kernel5Ideal.Inproj.W Cert.Kernel5Ideal.Inproj.C
    rw [(hagree c).1, (hagree c).2.2.1, (hagree c).2.2.2.1, (hagree c).2.2.2.2.2.1]
  · refine (Cert.Reference5Ideal.Read.val_main_v47_eq m' c).trans (Eq.trans ?_ (Cert.Kernel5Ideal.Inproj.final20 m c).symm)
    unfold Cert.Kernel5Ideal.Inproj.X Cert.Kernel5Ideal.Inproj.G Cert.Kernel5Ideal.Inproj.W Cert.Kernel5Ideal.Inproj.C
    rw [(hagree c).1, (hagree c).2.2.1, (hagree c).2.2.2.1, (hagree c).2.2.2.2.2.1]

/-- All the claims of the five calls. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  frame_Kernel, frame_KernelIdeal, frame_ReferenceIdeal, frame_Kernel2, frame_Kernel2Ideal, frame_Reference2Ideal,
  frame_Kernel3, frame_Kernel3Ideal, frame_Reference3Ideal, frame_Kernel4, frame_Kernel4Ideal, frame_Reference4Ideal,
  frame_Kernel5, frame_Kernel5Ideal, frame_Reference5Ideal,
  preserves_Kernel, algebraic_KernelIdeal, trivial, algebraic_Kernel2Ideal, trivial, algebraic_Kernel3Ideal, trivial, algebraic_Kernel4Ideal,
  trivial, algebraic_Kernel5Ideal⟩

end Cert.Proof

end
